-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_RefOutEvenIdeal (m : (ℓ : Loc Cert.RefOutEvenIdeal.nD Cert.RefOutEvenIdeal.τ Cert.RefOutEvenIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_RefOutOddIdeal (m : (ℓ : Loc Cert.RefOutOddIdeal.nD Cert.RefOutOddIdeal.τ Cert.RefOutOddIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_RefInOddIdeal (m : (ℓ : Loc Cert.RefInOddIdeal.nD Cert.RefInOddIdeal.τ Cert.RefInOddIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_RefInEvenIdeal (m : (ℓ : Loc Cert.RefInEvenIdeal.nD Cert.RefInEvenIdeal.τ Cert.RefInEvenIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_RefModulationIdeal (m : (ℓ : Loc Cert.RefModulationIdeal.nD Cert.RefModulationIdeal.τ Cert.RefModulationIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_RefCompressIdeal (m : (ℓ : Loc Cert.RefCompressIdeal.nD Cert.RefCompressIdeal.τ Cert.RefCompressIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))) = (fun _ => 1#1)

def Pre_RefRouterIdeal (m : (ℓ : Loc Cert.RefRouterIdeal.nD Cert.RefRouterIdeal.τ Cert.RefRouterIdeal.sig) → Buf (Elt Ideal) ℓ) : Prop :=
  True

def Pre_RefRouterIdeal_finite [hPre_finite : Cert.Pre_finite.Facts] (m : (ℓ : Loc Cert.RefRouterIdeal.nD Cert.RefRouterIdeal.τ Cert.RefRouterIdeal.sig) → Buf (Elt Ideal) ℓ) : Prop :=
  ∀ c : Dev Cert.RefRouterIdeal.nD,
    (Cert.Pre_finite.fn (F := Ideal) (m ((c.tc : Thread Cert.RefRouterIdeal.nD Cert.RefRouterIdeal.τ).loc Cert.RefRouterIdeal.main_arg0)) (m ((c.tc : Thread Cert.RefRouterIdeal.nD Cert.RefRouterIdeal.τ).loc Cert.RefRouterIdeal.main_arg1)) (m ((c.tc : Thread Cert.RefRouterIdeal.nD Cert.RefRouterIdeal.τ).loc Cert.RefRouterIdeal.main_arg2)) (m ((c.tc : Thread Cert.RefRouterIdeal.nD Cert.RefRouterIdeal.τ).loc Cert.RefRouterIdeal.main_arg3)) (m ((c.tc : Thread Cert.RefRouterIdeal.nD Cert.RefRouterIdeal.τ).loc Cert.RefRouterIdeal.main_arg4)) (m ((c.tc : Thread Cert.RefRouterIdeal.nD Cert.RefRouterIdeal.τ).loc Cert.RefRouterIdeal.main_arg5)) (m ((c.tc : Thread Cert.RefRouterIdeal.nD Cert.RefRouterIdeal.τ).loc Cert.RefRouterIdeal.main_arg6)) (m ((c.tc : Thread Cert.RefRouterIdeal.nD Cert.RefRouterIdeal.τ).loc Cert.RefRouterIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_RefOutEvenIdeal [hRefOutEvenIdeal : Cert.RefOutEvenIdeal.Facts] : Prop :=
  ∀ (m : (ℓ : Loc Cert.RefOutEvenIdeal.nD Cert.RefOutEvenIdeal.τ Cert.RefOutEvenIdeal.sig) → Buf (Elt Ideal) ℓ) (g : Dev Cert.RefOutEvenIdeal.nD → PrngReg), Pre_RefOutEvenIdeal m →
    θ_run (Cert.RefOutEvenIdeal.defs (F := Ideal)) (onTc (τ := Cert.RefOutEvenIdeal.τ) (Cert.RefOutEvenIdeal.main (F := Ideal))) ⟨m, fun _ => 0, g⟩ (fun r => (∀ c : Dev Cert.RefOutEvenIdeal.nD,
      r.2.mem ((c.tc : Thread Cert.RefOutEvenIdeal.nD Cert.RefOutEvenIdeal.τ).loc Cert.RefOutEvenIdeal.main_arg0) = m ((c.tc : Thread Cert.RefOutEvenIdeal.nD Cert.RefOutEvenIdeal.τ).loc Cert.RefOutEvenIdeal.main_arg0)
      ∧ r.2.mem ((c.tc : Thread Cert.RefOutEvenIdeal.nD Cert.RefOutEvenIdeal.τ).loc Cert.RefOutEvenIdeal.main_arg1) = m ((c.tc : Thread Cert.RefOutEvenIdeal.nD Cert.RefOutEvenIdeal.τ).loc Cert.RefOutEvenIdeal.main_arg1)
      ∧ r.2.mem ((c.tc : Thread Cert.RefOutEvenIdeal.nD Cert.RefOutEvenIdeal.τ).loc Cert.RefOutEvenIdeal.main_arg2) = m ((c.tc : Thread Cert.RefOutEvenIdeal.nD Cert.RefOutEvenIdeal.τ).loc Cert.RefOutEvenIdeal.main_arg2)
      ∧ r.2.mem ((c.tc : Thread Cert.RefOutEvenIdeal.nD Cert.RefOutEvenIdeal.τ).loc Cert.RefOutEvenIdeal.main_arg3) = m ((c.tc : Thread Cert.RefOutEvenIdeal.nD Cert.RefOutEvenIdeal.τ).loc Cert.RefOutEvenIdeal.main_arg3)
      ∧ r.2.mem ((c.tc : Thread Cert.RefOutEvenIdeal.nD Cert.RefOutEvenIdeal.τ).loc Cert.RefOutEvenIdeal.main_arg4) = m ((c.tc : Thread Cert.RefOutEvenIdeal.nD Cert.RefOutEvenIdeal.τ).loc Cert.RefOutEvenIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ r.2.sem = fun _ => 0)

def quiescent_RefOutOddIdeal [hRefOutOddIdeal : Cert.RefOutOddIdeal.Facts] : Prop :=
  ∀ (m : (ℓ : Loc Cert.RefOutOddIdeal.nD Cert.RefOutOddIdeal.τ Cert.RefOutOddIdeal.sig) → Buf (Elt Ideal) ℓ) (g : Dev Cert.RefOutOddIdeal.nD → PrngReg), Pre_RefOutOddIdeal m →
    θ_run (Cert.RefOutOddIdeal.defs (F := Ideal)) (onTc (τ := Cert.RefOutOddIdeal.τ) (Cert.RefOutOddIdeal.main (F := Ideal))) ⟨m, fun _ => 0, g⟩ (fun r => (∀ c : Dev Cert.RefOutOddIdeal.nD,
      r.2.mem ((c.tc : Thread Cert.RefOutOddIdeal.nD Cert.RefOutOddIdeal.τ).loc Cert.RefOutOddIdeal.main_arg0) = m ((c.tc : Thread Cert.RefOutOddIdeal.nD Cert.RefOutOddIdeal.τ).loc Cert.RefOutOddIdeal.main_arg0)
      ∧ r.2.mem ((c.tc : Thread Cert.RefOutOddIdeal.nD Cert.RefOutOddIdeal.τ).loc Cert.RefOutOddIdeal.main_arg1) = m ((c.tc : Thread Cert.RefOutOddIdeal.nD Cert.RefOutOddIdeal.τ).loc Cert.RefOutOddIdeal.main_arg1)
      ∧ r.2.mem ((c.tc : Thread Cert.RefOutOddIdeal.nD Cert.RefOutOddIdeal.τ).loc Cert.RefOutOddIdeal.main_arg2) = m ((c.tc : Thread Cert.RefOutOddIdeal.nD Cert.RefOutOddIdeal.τ).loc Cert.RefOutOddIdeal.main_arg2)
      ∧ r.2.mem ((c.tc : Thread Cert.RefOutOddIdeal.nD Cert.RefOutOddIdeal.τ).loc Cert.RefOutOddIdeal.main_arg3) = m ((c.tc : Thread Cert.RefOutOddIdeal.nD Cert.RefOutOddIdeal.τ).loc Cert.RefOutOddIdeal.main_arg3))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_RefInOddIdeal [hRefInOddIdeal : Cert.RefInOddIdeal.Facts] : Prop :=
  ∀ (m : (ℓ : Loc Cert.RefInOddIdeal.nD Cert.RefInOddIdeal.τ Cert.RefInOddIdeal.sig) → Buf (Elt Ideal) ℓ) (g : Dev Cert.RefInOddIdeal.nD → PrngReg), Pre_RefInOddIdeal m →
    θ_run (Cert.RefInOddIdeal.defs (F := Ideal)) (onTc (τ := Cert.RefInOddIdeal.τ) (Cert.RefInOddIdeal.main (F := Ideal))) ⟨m, fun _ => 0, g⟩ (fun r => (∀ c : Dev Cert.RefInOddIdeal.nD,
      r.2.mem ((c.tc : Thread Cert.RefInOddIdeal.nD Cert.RefInOddIdeal.τ).loc Cert.RefInOddIdeal.main_arg0) = m ((c.tc : Thread Cert.RefInOddIdeal.nD Cert.RefInOddIdeal.τ).loc Cert.RefInOddIdeal.main_arg0)
      ∧ r.2.mem ((c.tc : Thread Cert.RefInOddIdeal.nD Cert.RefInOddIdeal.τ).loc Cert.RefInOddIdeal.main_arg1) = m ((c.tc : Thread Cert.RefInOddIdeal.nD Cert.RefInOddIdeal.τ).loc Cert.RefInOddIdeal.main_arg1)
      ∧ r.2.mem ((c.tc : Thread Cert.RefInOddIdeal.nD Cert.RefInOddIdeal.τ).loc Cert.RefInOddIdeal.main_arg2) = m ((c.tc : Thread Cert.RefInOddIdeal.nD Cert.RefInOddIdeal.τ).loc Cert.RefInOddIdeal.main_arg2)
      ∧ r.2.mem ((c.tc : Thread Cert.RefInOddIdeal.nD Cert.RefInOddIdeal.τ).loc Cert.RefInOddIdeal.main_arg3) = m ((c.tc : Thread Cert.RefInOddIdeal.nD Cert.RefInOddIdeal.τ).loc Cert.RefInOddIdeal.main_arg3)
      ∧ r.2.mem ((c.tc : Thread Cert.RefInOddIdeal.nD Cert.RefInOddIdeal.τ).loc Cert.RefInOddIdeal.main_arg4) = m ((c.tc : Thread Cert.RefInOddIdeal.nD Cert.RefInOddIdeal.τ).loc Cert.RefInOddIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_RefInEvenIdeal [hRefInEvenIdeal : Cert.RefInEvenIdeal.Facts] : Prop :=
  ∀ (m : (ℓ : Loc Cert.RefInEvenIdeal.nD Cert.RefInEvenIdeal.τ Cert.RefInEvenIdeal.sig) → Buf (Elt Ideal) ℓ) (g : Dev Cert.RefInEvenIdeal.nD → PrngReg), Pre_RefInEvenIdeal m →
    θ_run (Cert.RefInEvenIdeal.defs (F := Ideal)) (onTc (τ := Cert.RefInEvenIdeal.τ) (Cert.RefInEvenIdeal.main (F := Ideal))) ⟨m, fun _ => 0, g⟩ (fun r => (∀ c : Dev Cert.RefInEvenIdeal.nD,
      r.2.mem ((c.tc : Thread Cert.RefInEvenIdeal.nD Cert.RefInEvenIdeal.τ).loc Cert.RefInEvenIdeal.main_arg0) = m ((c.tc : Thread Cert.RefInEvenIdeal.nD Cert.RefInEvenIdeal.τ).loc Cert.RefInEvenIdeal.main_arg0)
      ∧ r.2.mem ((c.tc : Thread Cert.RefInEvenIdeal.nD Cert.RefInEvenIdeal.τ).loc Cert.RefInEvenIdeal.main_arg1) = m ((c.tc : Thread Cert.RefInEvenIdeal.nD Cert.RefInEvenIdeal.τ).loc Cert.RefInEvenIdeal.main_arg1)
      ∧ r.2.mem ((c.tc : Thread Cert.RefInEvenIdeal.nD Cert.RefInEvenIdeal.τ).loc Cert.RefInEvenIdeal.main_arg2) = m ((c.tc : Thread Cert.RefInEvenIdeal.nD Cert.RefInEvenIdeal.τ).loc Cert.RefInEvenIdeal.main_arg2)
      ∧ r.2.mem ((c.tc : Thread Cert.RefInEvenIdeal.nD Cert.RefInEvenIdeal.τ).loc Cert.RefInEvenIdeal.main_arg3) = m ((c.tc : Thread Cert.RefInEvenIdeal.nD Cert.RefInEvenIdeal.τ).loc Cert.RefInEvenIdeal.main_arg3)
      ∧ r.2.mem ((c.tc : Thread Cert.RefInEvenIdeal.nD Cert.RefInEvenIdeal.τ).loc Cert.RefInEvenIdeal.main_arg4) = m ((c.tc : Thread Cert.RefInEvenIdeal.nD Cert.RefInEvenIdeal.τ).loc Cert.RefInEvenIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_RefModulationIdeal [hRefModulationIdeal : Cert.RefModulationIdeal.Facts] : Prop :=
  ∀ (m : (ℓ : Loc Cert.RefModulationIdeal.nD Cert.RefModulationIdeal.τ Cert.RefModulationIdeal.sig) → Buf (Elt Ideal) ℓ) (g : Dev Cert.RefModulationIdeal.nD → PrngReg), Pre_RefModulationIdeal m →
    θ_run (Cert.RefModulationIdeal.defs (F := Ideal)) (onTc (τ := Cert.RefModulationIdeal.τ) (Cert.RefModulationIdeal.main (F := Ideal))) ⟨m, fun _ => 0, g⟩ (fun r => (∀ c : Dev Cert.RefModulationIdeal.nD,
      r.2.mem ((c.tc : Thread Cert.RefModulationIdeal.nD Cert.RefModulationIdeal.τ).loc Cert.RefModulationIdeal.main_arg0) = m ((c.tc : Thread Cert.RefModulationIdeal.nD Cert.RefModulationIdeal.τ).loc Cert.RefModulationIdeal.main_arg0)
      ∧ r.2.mem ((c.tc : Thread Cert.RefModulationIdeal.nD Cert.RefModulationIdeal.τ).loc Cert.RefModulationIdeal.main_arg1) = m ((c.tc : Thread Cert.RefModulationIdeal.nD Cert.RefModulationIdeal.τ).loc Cert.RefModulationIdeal.main_arg1)
      ∧ r.2.mem ((c.tc : Thread Cert.RefModulationIdeal.nD Cert.RefModulationIdeal.τ).loc Cert.RefModulationIdeal.main_arg2) = m ((c.tc : Thread Cert.RefModulationIdeal.nD Cert.RefModulationIdeal.τ).loc Cert.RefModulationIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ r.2.sem = fun _ => 0)

def quiescent_RefCompressIdeal [hRefCompressIdeal : Cert.RefCompressIdeal.Facts] : Prop :=
  ∀ (m : (ℓ : Loc Cert.RefCompressIdeal.nD Cert.RefCompressIdeal.τ Cert.RefCompressIdeal.sig) → Buf (Elt Ideal) ℓ) (g : Dev Cert.RefCompressIdeal.nD → PrngReg), Pre_RefCompressIdeal m →
    θ_run (Cert.RefCompressIdeal.defs (F := Ideal)) (onTc (τ := Cert.RefCompressIdeal.τ) (Cert.RefCompressIdeal.main (F := Ideal))) ⟨m, fun _ => 0, g⟩ (fun r => (∀ c : Dev Cert.RefCompressIdeal.nD,
      r.2.mem ((c.tc : Thread Cert.RefCompressIdeal.nD Cert.RefCompressIdeal.τ).loc Cert.RefCompressIdeal.main_arg0) = m ((c.tc : Thread Cert.RefCompressIdeal.nD Cert.RefCompressIdeal.τ).loc Cert.RefCompressIdeal.main_arg0)
      ∧ r.2.mem ((c.tc : Thread Cert.RefCompressIdeal.nD Cert.RefCompressIdeal.τ).loc Cert.RefCompressIdeal.main_arg1) = m ((c.tc : Thread Cert.RefCompressIdeal.nD Cert.RefCompressIdeal.τ).loc Cert.RefCompressIdeal.main_arg1)
      ∧ r.2.mem ((c.tc : Thread Cert.RefCompressIdeal.nD Cert.RefCompressIdeal.τ).loc Cert.RefCompressIdeal.main_arg2) = m ((c.tc : Thread Cert.RefCompressIdeal.nD Cert.RefCompressIdeal.τ).loc Cert.RefCompressIdeal.main_arg2)
      ∧ r.2.mem ((c.tc : Thread Cert.RefCompressIdeal.nD Cert.RefCompressIdeal.τ).loc Cert.RefCompressIdeal.main_arg3) = m ((c.tc : Thread Cert.RefCompressIdeal.nD Cert.RefCompressIdeal.τ).loc Cert.RefCompressIdeal.main_arg3)
      ∧ r.2.mem ((c.tc : Thread Cert.RefCompressIdeal.nD Cert.RefCompressIdeal.τ).loc Cert.RefCompressIdeal.main_arg4) = m ((c.tc : Thread Cert.RefCompressIdeal.nD Cert.RefCompressIdeal.τ).loc Cert.RefCompressIdeal.main_arg4)
      ∧ r.2.mem ((c.tc : Thread Cert.RefCompressIdeal.nD Cert.RefCompressIdeal.τ).loc Cert.RefCompressIdeal.main_arg5) = m ((c.tc : Thread Cert.RefCompressIdeal.nD Cert.RefCompressIdeal.τ).loc Cert.RefCompressIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RefRouterIdeal [hRefRouterIdeal : Cert.RefRouterIdeal.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2)
      ∧ r.2.mem ((c.tc : Thread Cert.RefRouterIdeal.nD Cert.RefRouterIdeal.τ).loc Cert.RefRouterIdeal.main_arg3) = m ((c.tc : Thread Cert.RefRouterIdeal.nD Cert.RefRouterIdeal.τ).loc Cert.RefRouterIdeal.main_arg3)
      ∧ r.2.mem ((c.tc : Thread Cert.RefRouterIdeal.nD Cert.RefRouterIdeal.τ).loc Cert.RefRouterIdeal.main_arg4) = m ((c.tc : Thread Cert.RefRouterIdeal.nD Cert.RefRouterIdeal.τ).loc Cert.RefRouterIdeal.main_arg4)
      ∧ r.2.mem ((c.tc : Thread Cert.RefRouterIdeal.nD Cert.RefRouterIdeal.τ).loc Cert.RefRouterIdeal.main_arg5) = m ((c.tc : Thread Cert.RefRouterIdeal.nD Cert.RefRouterIdeal.τ).loc Cert.RefRouterIdeal.main_arg5)
      ∧ r.2.mem ((c.tc : Thread Cert.RefRouterIdeal.nD Cert.RefRouterIdeal.τ).loc Cert.RefRouterIdeal.main_arg6) = m ((c.tc : Thread Cert.RefRouterIdeal.nD Cert.RefRouterIdeal.τ).loc Cert.RefRouterIdeal.main_arg6)
      ∧ r.2.mem ((c.tc : Thread Cert.RefRouterIdeal.nD Cert.RefRouterIdeal.τ).loc Cert.RefRouterIdeal.main_arg7) = m ((c.tc : Thread Cert.RefRouterIdeal.nD Cert.RefRouterIdeal.τ).loc Cert.RefRouterIdeal.main_arg7))
      ∧ r.2.sem = fun _ => 0)

def quiescent_RefRouterIdeal_pre_finite [hRefRouterIdeal : Cert.RefRouterIdeal.Facts] [hPre_finite : Cert.Pre_finite.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal_finite m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2)
      ∧ r.2.mem ((c.tc : Thread Cert.RefRouterIdeal.nD Cert.RefRouterIdeal.τ).loc Cert.RefRouterIdeal.main_arg3) = m ((c.tc : Thread Cert.RefRouterIdeal.nD Cert.RefRouterIdeal.τ).loc Cert.RefRouterIdeal.main_arg3)
      ∧ r.2.mem ((c.tc : Thread Cert.RefRouterIdeal.nD Cert.RefRouterIdeal.τ).loc Cert.RefRouterIdeal.main_arg4) = m ((c.tc : Thread Cert.RefRouterIdeal.nD Cert.RefRouterIdeal.τ).loc Cert.RefRouterIdeal.main_arg4)
      ∧ r.2.mem ((c.tc : Thread Cert.RefRouterIdeal.nD Cert.RefRouterIdeal.τ).loc Cert.RefRouterIdeal.main_arg5) = m ((c.tc : Thread Cert.RefRouterIdeal.nD Cert.RefRouterIdeal.τ).loc Cert.RefRouterIdeal.main_arg5)
      ∧ r.2.mem ((c.tc : Thread Cert.RefRouterIdeal.nD Cert.RefRouterIdeal.τ).loc Cert.RefRouterIdeal.main_arg6) = m ((c.tc : Thread Cert.RefRouterIdeal.nD Cert.RefRouterIdeal.τ).loc Cert.RefRouterIdeal.main_arg6)
      ∧ r.2.mem ((c.tc : Thread Cert.RefRouterIdeal.nD Cert.RefRouterIdeal.τ).loc Cert.RefRouterIdeal.main_arg7) = m ((c.tc : Thread Cert.RefRouterIdeal.nD Cert.RefRouterIdeal.τ).loc Cert.RefRouterIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_OutEven_OutEvenIdeal : Prop :=
  True

def algebraic_OutEvenIdeal_RefOutEvenIdeal [hOutEvenIdeal : Cert.OutEvenIdeal.Facts] [hRefOutEvenIdeal : Cert.RefOutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.RefOutEvenIdeal.nD Cert.RefOutEvenIdeal.τ Cert.RefOutEvenIdeal.sig) → Buf (Elt Ideal) ℓ) (g' : Dev Cert.RefOutEvenIdeal.nD → PrngReg), Pre_OutEvenIdeal m →
    (∀ c : Dev Cert.OutEvenIdeal.nD,
      m' ((c.tc : Thread Cert.RefOutEvenIdeal.nD Cert.RefOutEvenIdeal.τ).loc Cert.RefOutEvenIdeal.main_arg0) = m ((c.tc : Thread Cert.OutEvenIdeal.nD Cert.OutEvenIdeal.τ).loc Cert.OutEvenIdeal.main_arg0)
      ∧ m' ((c.tc : Thread Cert.RefOutEvenIdeal.nD Cert.RefOutEvenIdeal.τ).loc Cert.RefOutEvenIdeal.main_arg1) = m ((c.tc : Thread Cert.OutEvenIdeal.nD Cert.OutEvenIdeal.τ).loc Cert.OutEvenIdeal.main_arg1)
      ∧ m' ((c.tc : Thread Cert.RefOutEvenIdeal.nD Cert.RefOutEvenIdeal.τ).loc Cert.RefOutEvenIdeal.main_arg2) = m ((c.tc : Thread Cert.OutEvenIdeal.nD Cert.OutEvenIdeal.τ).loc Cert.OutEvenIdeal.main_arg2)
      ∧ m' ((c.tc : Thread Cert.RefOutEvenIdeal.nD Cert.RefOutEvenIdeal.τ).loc Cert.RefOutEvenIdeal.main_arg3) = m ((c.tc : Thread Cert.OutEvenIdeal.nD Cert.OutEvenIdeal.τ).loc Cert.OutEvenIdeal.main_arg3)
      ∧ m' ((c.tc : Thread Cert.RefOutEvenIdeal.nD Cert.RefOutEvenIdeal.τ).loc Cert.RefOutEvenIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v1) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.RefOutEvenIdeal.defs (F := Ideal)) (onTc (τ := Cert.RefOutEvenIdeal.τ) (Cert.RefOutEvenIdeal.main (F := Ideal))) ⟨m', fun _ => 0, g'⟩ (fun r => ∀ c : Dev Cert.RefOutEvenIdeal.nD,
          r.2.mem ((c.tc : Thread Cert.RefOutEvenIdeal.nD Cert.RefOutEvenIdeal.τ).loc Cert.RefOutEvenIdeal.main_v6) = v0 c
          ∧ r.2.mem ((c.tc : Thread Cert.RefOutEvenIdeal.nD Cert.RefOutEvenIdeal.τ).loc Cert.RefOutEvenIdeal.main_arg0) = m' ((c.tc : Thread Cert.RefOutEvenIdeal.nD Cert.RefOutEvenIdeal.τ).loc Cert.RefOutEvenIdeal.main_arg0)
          ∧ r.2.mem ((c.tc : Thread Cert.RefOutEvenIdeal.nD Cert.RefOutEvenIdeal.τ).loc Cert.RefOutEvenIdeal.main_arg1) = m' ((c.tc : Thread Cert.RefOutEvenIdeal.nD Cert.RefOutEvenIdeal.τ).loc Cert.RefOutEvenIdeal.main_arg1)
          ∧ r.2.mem ((c.tc : Thread Cert.RefOutEvenIdeal.nD Cert.RefOutEvenIdeal.τ).loc Cert.RefOutEvenIdeal.main_arg2) = m' ((c.tc : Thread Cert.RefOutEvenIdeal.nD Cert.RefOutEvenIdeal.τ).loc Cert.RefOutEvenIdeal.main_arg2)
          ∧ r.2.mem ((c.tc : Thread Cert.RefOutEvenIdeal.nD Cert.RefOutEvenIdeal.τ).loc Cert.RefOutEvenIdeal.main_arg3) = m' ((c.tc : Thread Cert.RefOutEvenIdeal.nD Cert.RefOutEvenIdeal.τ).loc Cert.RefOutEvenIdeal.main_arg3)
          ∧ r.2.mem ((c.tc : Thread Cert.RefOutEvenIdeal.nD Cert.RefOutEvenIdeal.τ).loc Cert.RefOutEvenIdeal.main_arg4) = m' ((c.tc : Thread Cert.RefOutEvenIdeal.nD Cert.RefOutEvenIdeal.τ).loc Cert.RefOutEvenIdeal.main_arg4))

def preserves_OutOdd_OutOddIdeal : Prop :=
  True

def algebraic_OutOddIdeal_RefOutOddIdeal [hOutOddIdeal : Cert.OutOddIdeal.Facts] [hRefOutOddIdeal : Cert.RefOutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.RefOutOddIdeal.nD Cert.RefOutOddIdeal.τ Cert.RefOutOddIdeal.sig) → Buf (Elt Ideal) ℓ) (g' : Dev Cert.RefOutOddIdeal.nD → PrngReg), Pre_OutOddIdeal m →
    (∀ c : Dev Cert.OutOddIdeal.nD,
      m' ((c.tc : Thread Cert.RefOutOddIdeal.nD Cert.RefOutOddIdeal.τ).loc Cert.RefOutOddIdeal.main_arg0) = m ((c.tc : Thread Cert.OutOddIdeal.nD Cert.OutOddIdeal.τ).loc Cert.OutOddIdeal.main_arg0)
      ∧ m' ((c.tc : Thread Cert.RefOutOddIdeal.nD Cert.RefOutOddIdeal.τ).loc Cert.RefOutOddIdeal.main_arg1) = m ((c.tc : Thread Cert.OutOddIdeal.nD Cert.OutOddIdeal.τ).loc Cert.OutOddIdeal.main_arg1)
      ∧ m' ((c.tc : Thread Cert.RefOutOddIdeal.nD Cert.RefOutOddIdeal.τ).loc Cert.RefOutOddIdeal.main_arg2) = m ((c.tc : Thread Cert.OutOddIdeal.nD Cert.OutOddIdeal.τ).loc Cert.OutOddIdeal.main_arg2)
      ∧ m' ((c.tc : Thread Cert.RefOutOddIdeal.nD Cert.RefOutOddIdeal.τ).loc Cert.RefOutOddIdeal.main_arg3) = m ((c.tc : Thread Cert.OutOddIdeal.nD Cert.OutOddIdeal.τ).loc Cert.OutOddIdeal.main_arg3)) →
    ∃ (v0 : (c : Dev Cert.OutOddIdeal.nD) → Buf (Elt Ideal) ((c.tc : Thread Cert.OutOddIdeal.nD Cert.OutOddIdeal.τ).loc Cert.OutOddIdeal.main_v1)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ θ_run (Cert.RefOutOddIdeal.defs (F := Ideal)) (onTc (τ := Cert.RefOutOddIdeal.τ) (Cert.RefOutOddIdeal.main (F := Ideal))) ⟨m', fun _ => 0, g'⟩ (fun r => ∀ c : Dev Cert.RefOutOddIdeal.nD,
          r.2.mem ((c.tc : Thread Cert.RefOutOddIdeal.nD Cert.RefOutOddIdeal.τ).loc Cert.RefOutOddIdeal.main_v4) = v0 c
          ∧ r.2.mem ((c.tc : Thread Cert.RefOutOddIdeal.nD Cert.RefOutOddIdeal.τ).loc Cert.RefOutOddIdeal.main_arg0) = m' ((c.tc : Thread Cert.RefOutOddIdeal.nD Cert.RefOutOddIdeal.τ).loc Cert.RefOutOddIdeal.main_arg0)
          ∧ r.2.mem ((c.tc : Thread Cert.RefOutOddIdeal.nD Cert.RefOutOddIdeal.τ).loc Cert.RefOutOddIdeal.main_arg1) = m' ((c.tc : Thread Cert.RefOutOddIdeal.nD Cert.RefOutOddIdeal.τ).loc Cert.RefOutOddIdeal.main_arg1)
          ∧ r.2.mem ((c.tc : Thread Cert.RefOutOddIdeal.nD Cert.RefOutOddIdeal.τ).loc Cert.RefOutOddIdeal.main_arg2) = m' ((c.tc : Thread Cert.RefOutOddIdeal.nD Cert.RefOutOddIdeal.τ).loc Cert.RefOutOddIdeal.main_arg2)
          ∧ r.2.mem ((c.tc : Thread Cert.RefOutOddIdeal.nD Cert.RefOutOddIdeal.τ).loc Cert.RefOutOddIdeal.main_arg3) = m' ((c.tc : Thread Cert.RefOutOddIdeal.nD Cert.RefOutOddIdeal.τ).loc Cert.RefOutOddIdeal.main_arg3))

def preserves_InOdd_InOddIdeal : Prop :=
  True

def algebraic_InOddIdeal_RefInOddIdeal [hInOddIdeal : Cert.InOddIdeal.Facts] [hRefInOddIdeal : Cert.RefInOddIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.RefInOddIdeal.nD Cert.RefInOddIdeal.τ Cert.RefInOddIdeal.sig) → Buf (Elt Ideal) ℓ) (g' : Dev Cert.RefInOddIdeal.nD → PrngReg), Pre_InOddIdeal m →
    (∀ c : Dev Cert.InOddIdeal.nD,
      m' ((c.tc : Thread Cert.RefInOddIdeal.nD Cert.RefInOddIdeal.τ).loc Cert.RefInOddIdeal.main_arg0) = m ((c.tc : Thread Cert.InOddIdeal.nD Cert.InOddIdeal.τ).loc Cert.InOddIdeal.main_arg0)
      ∧ m' ((c.tc : Thread Cert.RefInOddIdeal.nD Cert.RefInOddIdeal.τ).loc Cert.RefInOddIdeal.main_arg1) = m ((c.tc : Thread Cert.InOddIdeal.nD Cert.InOddIdeal.τ).loc Cert.InOddIdeal.main_arg1)
      ∧ m' ((c.tc : Thread Cert.RefInOddIdeal.nD Cert.RefInOddIdeal.τ).loc Cert.RefInOddIdeal.main_arg2) = m ((c.tc : Thread Cert.InOddIdeal.nD Cert.InOddIdeal.τ).loc Cert.InOddIdeal.main_arg2)
      ∧ m' ((c.tc : Thread Cert.RefInOddIdeal.nD Cert.RefInOddIdeal.τ).loc Cert.RefInOddIdeal.main_arg3) = m ((c.tc : Thread Cert.InOddIdeal.nD Cert.InOddIdeal.τ).loc Cert.InOddIdeal.main_arg3)
      ∧ m' ((c.tc : Thread Cert.RefInOddIdeal.nD Cert.RefInOddIdeal.τ).loc Cert.RefInOddIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v1) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.RefInOddIdeal.defs (F := Ideal)) (onTc (τ := Cert.RefInOddIdeal.τ) (Cert.RefInOddIdeal.main (F := Ideal))) ⟨m', fun _ => 0, g'⟩ (fun r => ∀ c : Dev Cert.RefInOddIdeal.nD,
          r.2.mem ((c.tc : Thread Cert.RefInOddIdeal.nD Cert.RefInOddIdeal.τ).loc Cert.RefInOddIdeal.main_v18) = v0 c
          ∧ r.2.mem ((c.tc : Thread Cert.RefInOddIdeal.nD Cert.RefInOddIdeal.τ).loc Cert.RefInOddIdeal.main_arg0) = m' ((c.tc : Thread Cert.RefInOddIdeal.nD Cert.RefInOddIdeal.τ).loc Cert.RefInOddIdeal.main_arg0)
          ∧ r.2.mem ((c.tc : Thread Cert.RefInOddIdeal.nD Cert.RefInOddIdeal.τ).loc Cert.RefInOddIdeal.main_arg1) = m' ((c.tc : Thread Cert.RefInOddIdeal.nD Cert.RefInOddIdeal.τ).loc Cert.RefInOddIdeal.main_arg1)
          ∧ r.2.mem ((c.tc : Thread Cert.RefInOddIdeal.nD Cert.RefInOddIdeal.τ).loc Cert.RefInOddIdeal.main_arg2) = m' ((c.tc : Thread Cert.RefInOddIdeal.nD Cert.RefInOddIdeal.τ).loc Cert.RefInOddIdeal.main_arg2)
          ∧ r.2.mem ((c.tc : Thread Cert.RefInOddIdeal.nD Cert.RefInOddIdeal.τ).loc Cert.RefInOddIdeal.main_arg3) = m' ((c.tc : Thread Cert.RefInOddIdeal.nD Cert.RefInOddIdeal.τ).loc Cert.RefInOddIdeal.main_arg3)
          ∧ r.2.mem ((c.tc : Thread Cert.RefInOddIdeal.nD Cert.RefInOddIdeal.τ).loc Cert.RefInOddIdeal.main_arg4) = m' ((c.tc : Thread Cert.RefInOddIdeal.nD Cert.RefInOddIdeal.τ).loc Cert.RefInOddIdeal.main_arg4))

def preserves_InEven_InEvenIdeal : Prop :=
  True

def algebraic_InEvenIdeal_RefInEvenIdeal [hInEvenIdeal : Cert.InEvenIdeal.Facts] [hRefInEvenIdeal : Cert.RefInEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.RefInEvenIdeal.nD Cert.RefInEvenIdeal.τ Cert.RefInEvenIdeal.sig) → Buf (Elt Ideal) ℓ) (g' : Dev Cert.RefInEvenIdeal.nD → PrngReg), Pre_InEvenIdeal m →
    (∀ c : Dev Cert.InEvenIdeal.nD,
      m' ((c.tc : Thread Cert.RefInEvenIdeal.nD Cert.RefInEvenIdeal.τ).loc Cert.RefInEvenIdeal.main_arg0) = m ((c.tc : Thread Cert.InEvenIdeal.nD Cert.InEvenIdeal.τ).loc Cert.InEvenIdeal.main_arg0)
      ∧ m' ((c.tc : Thread Cert.RefInEvenIdeal.nD Cert.RefInEvenIdeal.τ).loc Cert.RefInEvenIdeal.main_arg1) = m ((c.tc : Thread Cert.InEvenIdeal.nD Cert.InEvenIdeal.τ).loc Cert.InEvenIdeal.main_arg1)
      ∧ m' ((c.tc : Thread Cert.RefInEvenIdeal.nD Cert.RefInEvenIdeal.τ).loc Cert.RefInEvenIdeal.main_arg2) = m ((c.tc : Thread Cert.InEvenIdeal.nD Cert.InEvenIdeal.τ).loc Cert.InEvenIdeal.main_arg2)
      ∧ m' ((c.tc : Thread Cert.RefInEvenIdeal.nD Cert.RefInEvenIdeal.τ).loc Cert.RefInEvenIdeal.main_arg3) = m ((c.tc : Thread Cert.InEvenIdeal.nD Cert.InEvenIdeal.τ).loc Cert.InEvenIdeal.main_arg3)
      ∧ m' ((c.tc : Thread Cert.RefInEvenIdeal.nD Cert.RefInEvenIdeal.τ).loc Cert.RefInEvenIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v10_0)) (v1 : (c : Dev Cert.InEvenIdeal.nD) → Buf (Elt Ideal) ((c.tc : Thread Cert.InEvenIdeal.nD Cert.InEvenIdeal.τ).loc Cert.InEvenIdeal.main_v10_1)) (v2 : (c : Dev Cert.InEvenIdeal.nD) → Buf (Elt Ideal) ((c.tc : Thread Cert.InEvenIdeal.nD Cert.InEvenIdeal.τ).loc Cert.InEvenIdeal.main_v10_2)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v10_0) = v0 c
          ∧ r.2.mem ((c.tc : Thread Cert.InEvenIdeal.nD Cert.InEvenIdeal.τ).loc Cert.InEvenIdeal.main_v10_1) = v1 c
          ∧ r.2.mem ((c.tc : Thread Cert.InEvenIdeal.nD Cert.InEvenIdeal.τ).loc Cert.InEvenIdeal.main_v10_2) = v2 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.RefInEvenIdeal.defs (F := Ideal)) (onTc (τ := Cert.RefInEvenIdeal.τ) (Cert.RefInEvenIdeal.main (F := Ideal))) ⟨m', fun _ => 0, g'⟩ (fun r => ∀ c : Dev Cert.RefInEvenIdeal.nD,
          r.2.mem ((c.tc : Thread Cert.RefInEvenIdeal.nD Cert.RefInEvenIdeal.τ).loc Cert.RefInEvenIdeal.main_v23) = v0 c
          ∧ r.2.mem ((c.tc : Thread Cert.RefInEvenIdeal.nD Cert.RefInEvenIdeal.τ).loc Cert.RefInEvenIdeal.main_v24) = v1 c
          ∧ r.2.mem ((c.tc : Thread Cert.RefInEvenIdeal.nD Cert.RefInEvenIdeal.τ).loc Cert.RefInEvenIdeal.main_v25) = v2 c
          ∧ r.2.mem ((c.tc : Thread Cert.RefInEvenIdeal.nD Cert.RefInEvenIdeal.τ).loc Cert.RefInEvenIdeal.main_arg0) = m' ((c.tc : Thread Cert.RefInEvenIdeal.nD Cert.RefInEvenIdeal.τ).loc Cert.RefInEvenIdeal.main_arg0)
          ∧ r.2.mem ((c.tc : Thread Cert.RefInEvenIdeal.nD Cert.RefInEvenIdeal.τ).loc Cert.RefInEvenIdeal.main_arg1) = m' ((c.tc : Thread Cert.RefInEvenIdeal.nD Cert.RefInEvenIdeal.τ).loc Cert.RefInEvenIdeal.main_arg1)
          ∧ r.2.mem ((c.tc : Thread Cert.RefInEvenIdeal.nD Cert.RefInEvenIdeal.τ).loc Cert.RefInEvenIdeal.main_arg2) = m' ((c.tc : Thread Cert.RefInEvenIdeal.nD Cert.RefInEvenIdeal.τ).loc Cert.RefInEvenIdeal.main_arg2)
          ∧ r.2.mem ((c.tc : Thread Cert.RefInEvenIdeal.nD Cert.RefInEvenIdeal.τ).loc Cert.RefInEvenIdeal.main_arg3) = m' ((c.tc : Thread Cert.RefInEvenIdeal.nD Cert.RefInEvenIdeal.τ).loc Cert.RefInEvenIdeal.main_arg3)
          ∧ r.2.mem ((c.tc : Thread Cert.RefInEvenIdeal.nD Cert.RefInEvenIdeal.τ).loc Cert.RefInEvenIdeal.main_arg4) = m' ((c.tc : Thread Cert.RefInEvenIdeal.nD Cert.RefInEvenIdeal.τ).loc Cert.RefInEvenIdeal.main_arg4))

def preserves_Modulation_ModulationIdeal : Prop :=
  True

def algebraic_ModulationIdeal_RefModulationIdeal [hModulationIdeal : Cert.ModulationIdeal.Facts] [hRefModulationIdeal : Cert.RefModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.RefModulationIdeal.nD Cert.RefModulationIdeal.τ Cert.RefModulationIdeal.sig) → Buf (Elt Ideal) ℓ) (g' : Dev Cert.RefModulationIdeal.nD → PrngReg), Pre_ModulationIdeal m →
    (∀ c : Dev Cert.ModulationIdeal.nD,
      m' ((c.tc : Thread Cert.RefModulationIdeal.nD Cert.RefModulationIdeal.τ).loc Cert.RefModulationIdeal.main_arg0) = m ((c.tc : Thread Cert.ModulationIdeal.nD Cert.ModulationIdeal.τ).loc Cert.ModulationIdeal.main_arg0)
      ∧ m' ((c.tc : Thread Cert.RefModulationIdeal.nD Cert.RefModulationIdeal.τ).loc Cert.RefModulationIdeal.main_arg1) = m ((c.tc : Thread Cert.ModulationIdeal.nD Cert.ModulationIdeal.τ).loc Cert.ModulationIdeal.main_arg1)
      ∧ m' ((c.tc : Thread Cert.RefModulationIdeal.nD Cert.RefModulationIdeal.τ).loc Cert.RefModulationIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v2)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v2) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.RefModulationIdeal.defs (F := Ideal)) (onTc (τ := Cert.RefModulationIdeal.τ) (Cert.RefModulationIdeal.main (F := Ideal))) ⟨m', fun _ => 0, g'⟩ (fun r => ∀ c : Dev Cert.RefModulationIdeal.nD,
          r.2.mem ((c.tc : Thread Cert.RefModulationIdeal.nD Cert.RefModulationIdeal.τ).loc Cert.RefModulationIdeal.main_v17) = v0 c
          ∧ r.2.mem ((c.tc : Thread Cert.RefModulationIdeal.nD Cert.RefModulationIdeal.τ).loc Cert.RefModulationIdeal.main_arg0) = m' ((c.tc : Thread Cert.RefModulationIdeal.nD Cert.RefModulationIdeal.τ).loc Cert.RefModulationIdeal.main_arg0)
          ∧ r.2.mem ((c.tc : Thread Cert.RefModulationIdeal.nD Cert.RefModulationIdeal.τ).loc Cert.RefModulationIdeal.main_arg1) = m' ((c.tc : Thread Cert.RefModulationIdeal.nD Cert.RefModulationIdeal.τ).loc Cert.RefModulationIdeal.main_arg1)
          ∧ r.2.mem ((c.tc : Thread Cert.RefModulationIdeal.nD Cert.RefModulationIdeal.τ).loc Cert.RefModulationIdeal.main_arg2) = m' ((c.tc : Thread Cert.RefModulationIdeal.nD Cert.RefModulationIdeal.τ).loc Cert.RefModulationIdeal.main_arg2))

def preserves_Compress_CompressIdeal : Prop :=
  True

def algebraic_CompressIdeal_RefCompressIdeal [hCompressIdeal : Cert.CompressIdeal.Facts] [hRefCompressIdeal : Cert.RefCompressIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.RefCompressIdeal.nD Cert.RefCompressIdeal.τ Cert.RefCompressIdeal.sig) → Buf (Elt Ideal) ℓ) (g' : Dev Cert.RefCompressIdeal.nD → PrngReg), Pre_CompressIdeal m →
    (∀ c : Dev Cert.CompressIdeal.nD,
      m' ((c.tc : Thread Cert.RefCompressIdeal.nD Cert.RefCompressIdeal.τ).loc Cert.RefCompressIdeal.main_arg0) = m ((c.tc : Thread Cert.CompressIdeal.nD Cert.CompressIdeal.τ).loc Cert.CompressIdeal.main_arg0)
      ∧ m' ((c.tc : Thread Cert.RefCompressIdeal.nD Cert.RefCompressIdeal.τ).loc Cert.RefCompressIdeal.main_arg1) = m ((c.tc : Thread Cert.CompressIdeal.nD Cert.CompressIdeal.τ).loc Cert.CompressIdeal.main_arg1)
      ∧ m' ((c.tc : Thread Cert.RefCompressIdeal.nD Cert.RefCompressIdeal.τ).loc Cert.RefCompressIdeal.main_arg2) = m ((c.tc : Thread Cert.CompressIdeal.nD Cert.CompressIdeal.τ).loc Cert.CompressIdeal.main_arg2)
      ∧ m' ((c.tc : Thread Cert.RefCompressIdeal.nD Cert.RefCompressIdeal.τ).loc Cert.RefCompressIdeal.main_arg3) = m ((c.tc : Thread Cert.CompressIdeal.nD Cert.CompressIdeal.τ).loc Cert.CompressIdeal.main_arg3)
      ∧ m' ((c.tc : Thread Cert.RefCompressIdeal.nD Cert.RefCompressIdeal.τ).loc Cert.RefCompressIdeal.main_arg4) = m ((c.tc : Thread Cert.CompressIdeal.nD Cert.CompressIdeal.τ).loc Cert.CompressIdeal.main_arg4)
      ∧ m' ((c.tc : Thread Cert.RefCompressIdeal.nD Cert.RefCompressIdeal.τ).loc Cert.RefCompressIdeal.main_arg5) = m ((c.tc : Thread Cert.CompressIdeal.nD Cert.CompressIdeal.τ).loc Cert.CompressIdeal.main_arg5)) →
    ∃ (v0 : (c : Dev Cert.CompressIdeal.nD) → Buf (Elt Ideal) ((c.tc : Thread Cert.CompressIdeal.nD Cert.CompressIdeal.τ).loc Cert.CompressIdeal.main_v18)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v18) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ θ_run (Cert.RefCompressIdeal.defs (F := Ideal)) (onTc (τ := Cert.RefCompressIdeal.τ) (Cert.RefCompressIdeal.main (F := Ideal))) ⟨m', fun _ => 0, g'⟩ (fun r => ∀ c : Dev Cert.RefCompressIdeal.nD,
          r.2.mem ((c.tc : Thread Cert.RefCompressIdeal.nD Cert.RefCompressIdeal.τ).loc Cert.RefCompressIdeal.main_v44) = v0 c
          ∧ r.2.mem ((c.tc : Thread Cert.RefCompressIdeal.nD Cert.RefCompressIdeal.τ).loc Cert.RefCompressIdeal.main_arg0) = m' ((c.tc : Thread Cert.RefCompressIdeal.nD Cert.RefCompressIdeal.τ).loc Cert.RefCompressIdeal.main_arg0)
          ∧ r.2.mem ((c.tc : Thread Cert.RefCompressIdeal.nD Cert.RefCompressIdeal.τ).loc Cert.RefCompressIdeal.main_arg1) = m' ((c.tc : Thread Cert.RefCompressIdeal.nD Cert.RefCompressIdeal.τ).loc Cert.RefCompressIdeal.main_arg1)
          ∧ r.2.mem ((c.tc : Thread Cert.RefCompressIdeal.nD Cert.RefCompressIdeal.τ).loc Cert.RefCompressIdeal.main_arg2) = m' ((c.tc : Thread Cert.RefCompressIdeal.nD Cert.RefCompressIdeal.τ).loc Cert.RefCompressIdeal.main_arg2)
          ∧ r.2.mem ((c.tc : Thread Cert.RefCompressIdeal.nD Cert.RefCompressIdeal.τ).loc Cert.RefCompressIdeal.main_arg3) = m' ((c.tc : Thread Cert.RefCompressIdeal.nD Cert.RefCompressIdeal.τ).loc Cert.RefCompressIdeal.main_arg3)
          ∧ r.2.mem ((c.tc : Thread Cert.RefCompressIdeal.nD Cert.RefCompressIdeal.τ).loc Cert.RefCompressIdeal.main_arg4) = m' ((c.tc : Thread Cert.RefCompressIdeal.nD Cert.RefCompressIdeal.τ).loc Cert.RefCompressIdeal.main_arg4)
          ∧ r.2.mem ((c.tc : Thread Cert.RefCompressIdeal.nD Cert.RefCompressIdeal.τ).loc Cert.RefCompressIdeal.main_arg5) = m' ((c.tc : Thread Cert.RefCompressIdeal.nD Cert.RefCompressIdeal.τ).loc Cert.RefCompressIdeal.main_arg5))

def preserves_Router_RouterIdeal : Prop :=
  True

def algebraic_RouterIdeal_RefRouterIdeal_pre_finite [hRouterIdeal : Cert.RouterIdeal.Facts] [hRefRouterIdeal : Cert.RefRouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RefRouterIdeal.nD Cert.RefRouterIdeal.τ Cert.RefRouterIdeal.sig) → Buf (Elt Ideal) ℓ) (g' : Dev Cert.RefRouterIdeal.nD → PrngReg), Pre_RouterIdeal_finite m →
    (∀ c : Dev Cert.RouterIdeal.nD,
      m' ((c.tc : Thread Cert.RefRouterIdeal.nD Cert.RefRouterIdeal.τ).loc Cert.RefRouterIdeal.main_arg0) = m ((c.tc : Thread Cert.RouterIdeal.nD Cert.RouterIdeal.τ).loc Cert.RouterIdeal.main_arg0)
      ∧ m' ((c.tc : Thread Cert.RefRouterIdeal.nD Cert.RefRouterIdeal.τ).loc Cert.RefRouterIdeal.main_arg1) = m ((c.tc : Thread Cert.RouterIdeal.nD Cert.RouterIdeal.τ).loc Cert.RouterIdeal.main_arg1)
      ∧ m' ((c.tc : Thread Cert.RefRouterIdeal.nD Cert.RefRouterIdeal.τ).loc Cert.RefRouterIdeal.main_arg2) = m ((c.tc : Thread Cert.RouterIdeal.nD Cert.RouterIdeal.τ).loc Cert.RouterIdeal.main_arg2)
      ∧ m' ((c.tc : Thread Cert.RefRouterIdeal.nD Cert.RefRouterIdeal.τ).loc Cert.RefRouterIdeal.main_arg3) = m ((c.tc : Thread Cert.RouterIdeal.nD Cert.RouterIdeal.τ).loc Cert.RouterIdeal.main_arg3)
      ∧ m' ((c.tc : Thread Cert.RefRouterIdeal.nD Cert.RefRouterIdeal.τ).loc Cert.RefRouterIdeal.main_arg4) = m ((c.tc : Thread Cert.RouterIdeal.nD Cert.RouterIdeal.τ).loc Cert.RouterIdeal.main_arg4)
      ∧ m' ((c.tc : Thread Cert.RefRouterIdeal.nD Cert.RefRouterIdeal.τ).loc Cert.RefRouterIdeal.main_arg5) = m ((c.tc : Thread Cert.RouterIdeal.nD Cert.RouterIdeal.τ).loc Cert.RouterIdeal.main_arg5)
      ∧ m' ((c.tc : Thread Cert.RefRouterIdeal.nD Cert.RefRouterIdeal.τ).loc Cert.RefRouterIdeal.main_arg6) = m ((c.tc : Thread Cert.RouterIdeal.nD Cert.RouterIdeal.τ).loc Cert.RouterIdeal.main_arg6)
      ∧ m' ((c.tc : Thread Cert.RefRouterIdeal.nD Cert.RefRouterIdeal.τ).loc Cert.RefRouterIdeal.main_arg7) = m ((c.tc : Thread Cert.RouterIdeal.nD Cert.RouterIdeal.τ).loc Cert.RouterIdeal.main_arg7)) →
    ∃ (v0 : (c : Dev Cert.RouterIdeal.nD) → Buf (Elt Ideal) ((c.tc : Thread Cert.RouterIdeal.nD Cert.RouterIdeal.τ).loc Cert.RouterIdeal.main_v14_0)) (v1 : (c : Dev Cert.RouterIdeal.nD) → Buf (Elt Ideal) ((c.tc : Thread Cert.RouterIdeal.nD Cert.RouterIdeal.τ).loc Cert.RouterIdeal.main_v14_1)) (v2 : (c : Dev Cert.RouterIdeal.nD) → Buf (Elt Ideal) ((c.tc : Thread Cert.RouterIdeal.nD Cert.RouterIdeal.τ).loc Cert.RouterIdeal.main_v14_2)) (v3 : (c : Dev Cert.RouterIdeal.nD) → Buf (Elt Ideal) ((c.tc : Thread Cert.RouterIdeal.nD Cert.RouterIdeal.τ).loc Cert.RouterIdeal.main_v14_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v14_0) = v0 c
          ∧ r.2.mem ((c.tc : Thread Cert.RouterIdeal.nD Cert.RouterIdeal.τ).loc Cert.RouterIdeal.main_v14_1) = v1 c
          ∧ r.2.mem ((c.tc : Thread Cert.RouterIdeal.nD Cert.RouterIdeal.τ).loc Cert.RouterIdeal.main_v14_2) = v2 c
          ∧ r.2.mem ((c.tc : Thread Cert.RouterIdeal.nD Cert.RouterIdeal.τ).loc Cert.RouterIdeal.main_v14_3) = v3 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ θ_run (Cert.RefRouterIdeal.defs (F := Ideal)) (onTc (τ := Cert.RefRouterIdeal.τ) (Cert.RefRouterIdeal.main (F := Ideal))) ⟨m', fun _ => 0, g'⟩ (fun r => ∀ c : Dev Cert.RefRouterIdeal.nD,
          r.2.mem ((c.tc : Thread Cert.RefRouterIdeal.nD Cert.RefRouterIdeal.τ).loc Cert.RefRouterIdeal.main_v70) = v0 c
          ∧ r.2.mem ((c.tc : Thread Cert.RefRouterIdeal.nD Cert.RefRouterIdeal.τ).loc Cert.RefRouterIdeal.main_v71) = v1 c
          ∧ r.2.mem ((c.tc : Thread Cert.RefRouterIdeal.nD Cert.RefRouterIdeal.τ).loc Cert.RefRouterIdeal.main_v72) = v2 c
          ∧ r.2.mem ((c.tc : Thread Cert.RefRouterIdeal.nD Cert.RefRouterIdeal.τ).loc Cert.RefRouterIdeal.main_v74) = v3 c
          ∧ r.2.mem ((c.tc : Thread Cert.RefRouterIdeal.nD Cert.RefRouterIdeal.τ).loc Cert.RefRouterIdeal.main_arg0) = m' ((c.tc : Thread Cert.RefRouterIdeal.nD Cert.RefRouterIdeal.τ).loc Cert.RefRouterIdeal.main_arg0)
          ∧ r.2.mem ((c.tc : Thread Cert.RefRouterIdeal.nD Cert.RefRouterIdeal.τ).loc Cert.RefRouterIdeal.main_arg1) = m' ((c.tc : Thread Cert.RefRouterIdeal.nD Cert.RefRouterIdeal.τ).loc Cert.RefRouterIdeal.main_arg1)
          ∧ r.2.mem ((c.tc : Thread Cert.RefRouterIdeal.nD Cert.RefRouterIdeal.τ).loc Cert.RefRouterIdeal.main_arg2) = m' ((c.tc : Thread Cert.RefRouterIdeal.nD Cert.RefRouterIdeal.τ).loc Cert.RefRouterIdeal.main_arg2)
          ∧ r.2.mem ((c.tc : Thread Cert.RefRouterIdeal.nD Cert.RefRouterIdeal.τ).loc Cert.RefRouterIdeal.main_arg3) = m' ((c.tc : Thread Cert.RefRouterIdeal.nD Cert.RefRouterIdeal.τ).loc Cert.RefRouterIdeal.main_arg3)
          ∧ r.2.mem ((c.tc : Thread Cert.RefRouterIdeal.nD Cert.RefRouterIdeal.τ).loc Cert.RefRouterIdeal.main_arg4) = m' ((c.tc : Thread Cert.RefRouterIdeal.nD Cert.RefRouterIdeal.τ).loc Cert.RefRouterIdeal.main_arg4)
          ∧ r.2.mem ((c.tc : Thread Cert.RefRouterIdeal.nD Cert.RefRouterIdeal.τ).loc Cert.RefRouterIdeal.main_arg5) = m' ((c.tc : Thread Cert.RefRouterIdeal.nD Cert.RefRouterIdeal.τ).loc Cert.RefRouterIdeal.main_arg5)
          ∧ r.2.mem ((c.tc : Thread Cert.RefRouterIdeal.nD Cert.RefRouterIdeal.τ).loc Cert.RefRouterIdeal.main_arg6) = m' ((c.tc : Thread Cert.RefRouterIdeal.nD Cert.RefRouterIdeal.τ).loc Cert.RefRouterIdeal.main_arg6)
          ∧ r.2.mem ((c.tc : Thread Cert.RefRouterIdeal.nD Cert.RefRouterIdeal.τ).loc Cert.RefRouterIdeal.main_arg7) = m' ((c.tc : Thread Cert.RefRouterIdeal.nD Cert.RefRouterIdeal.τ).loc Cert.RefRouterIdeal.main_arg7))

def Claim : Prop :=
  ∃ (hKernel : Cert.Kernel.Facts) (hKernelIdeal : Cert.KernelIdeal.Facts) (hReferenceIdeal : Cert.ReferenceIdeal.Facts) (hOutEven : Cert.OutEven.Facts) (hOutEvenIdeal : Cert.OutEvenIdeal.Facts) (hRefOutEvenIdeal : Cert.RefOutEvenIdeal.Facts) (hOutOdd : Cert.OutOdd.Facts) (hOutOddIdeal : Cert.OutOddIdeal.Facts) (hRefOutOddIdeal : Cert.RefOutOddIdeal.Facts) (hInOdd : Cert.InOdd.Facts) (hInOddIdeal : Cert.InOddIdeal.Facts) (hRefInOddIdeal : Cert.RefInOddIdeal.Facts) (hInEven : Cert.InEven.Facts) (hInEvenIdeal : Cert.InEvenIdeal.Facts) (hRefInEvenIdeal : Cert.RefInEvenIdeal.Facts) (hModulation : Cert.Modulation.Facts) (hModulationIdeal : Cert.ModulationIdeal.Facts) (hRefModulationIdeal : Cert.RefModulationIdeal.Facts) (hCompress : Cert.Compress.Facts) (hCompressIdeal : Cert.CompressIdeal.Facts) (hRefCompressIdeal : Cert.RefCompressIdeal.Facts) (hRouter : Cert.Router.Facts) (hRouterIdeal : Cert.RouterIdeal.Facts) (hRefRouterIdeal : Cert.RefRouterIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_OutEven (hOutEven := hOutEven)
    ∧ quiescent_OutEvenIdeal (hOutEvenIdeal := hOutEvenIdeal)
    ∧ quiescent_RefOutEvenIdeal (hRefOutEvenIdeal := hRefOutEvenIdeal)
    ∧ quiescent_OutOdd (hOutOdd := hOutOdd)
    ∧ quiescent_OutOddIdeal (hOutOddIdeal := hOutOddIdeal)
    ∧ quiescent_RefOutOddIdeal (hRefOutOddIdeal := hRefOutOddIdeal)
    ∧ quiescent_InOdd (hInOdd := hInOdd)
    ∧ quiescent_InOddIdeal (hInOddIdeal := hInOddIdeal)
    ∧ quiescent_RefInOddIdeal (hRefInOddIdeal := hRefInOddIdeal)
    ∧ quiescent_InEven (hInEven := hInEven)
    ∧ quiescent_InEvenIdeal (hInEvenIdeal := hInEvenIdeal)
    ∧ quiescent_RefInEvenIdeal (hRefInEvenIdeal := hRefInEvenIdeal)
    ∧ quiescent_Modulation (hModulation := hModulation)
    ∧ quiescent_ModulationIdeal (hModulationIdeal := hModulationIdeal)
    ∧ quiescent_RefModulationIdeal (hRefModulationIdeal := hRefModulationIdeal)
    ∧ quiescent_Compress (hCompress := hCompress)
    ∧ quiescent_CompressIdeal (hCompressIdeal := hCompressIdeal)
    ∧ quiescent_RefCompressIdeal (hRefCompressIdeal := hRefCompressIdeal)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RefRouterIdeal (hRefRouterIdeal := hRefRouterIdeal)
    ∧ quiescent_RefRouterIdeal_pre_finite (hRefRouterIdeal := hRefRouterIdeal) (hPre_finite := hPre_finite)
    ∧ preserves_Kernel_KernelIdeal
    ∧ algebraic_KernelIdeal_ReferenceIdeal (hKernelIdeal := hKernelIdeal) (hReferenceIdeal := hReferenceIdeal)
    ∧ preserves_OutEven_OutEvenIdeal
    ∧ algebraic_OutEvenIdeal_RefOutEvenIdeal (hOutEvenIdeal := hOutEvenIdeal) (hRefOutEvenIdeal := hRefOutEvenIdeal)
    ∧ preserves_OutOdd_OutOddIdeal
    ∧ algebraic_OutOddIdeal_RefOutOddIdeal (hOutOddIdeal := hOutOddIdeal) (hRefOutOddIdeal := hRefOutOddIdeal)
    ∧ preserves_InOdd_InOddIdeal
    ∧ algebraic_InOddIdeal_RefInOddIdeal (hInOddIdeal := hInOddIdeal) (hRefInOddIdeal := hRefInOddIdeal)
    ∧ preserves_InEven_InEvenIdeal
    ∧ algebraic_InEvenIdeal_RefInEvenIdeal (hInEvenIdeal := hInEvenIdeal) (hRefInEvenIdeal := hRefInEvenIdeal)
    ∧ preserves_Modulation_ModulationIdeal
    ∧ algebraic_ModulationIdeal_RefModulationIdeal (hModulationIdeal := hModulationIdeal) (hRefModulationIdeal := hRefModulationIdeal)
    ∧ preserves_Compress_CompressIdeal
    ∧ algebraic_CompressIdeal_RefCompressIdeal (hCompressIdeal := hCompressIdeal) (hRefCompressIdeal := hRefCompressIdeal)
    ∧ preserves_Router_RouterIdeal
    ∧ algebraic_RouterIdeal_RefRouterIdeal_pre_finite (hRouterIdeal := hRouterIdeal) (hRefRouterIdeal := hRefRouterIdeal) (hPre_finite := hPre_finite)
-- ==== Pre_finite.lean ====
abbrev S8192x2048 : Shape := ⟨2, ![8192, 2048]⟩
abbrev S1x2048 : Shape := ⟨2, ![1, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x8 : S_.BroadcastsInDim S2048x8 (![] : Fin 0 → Fin S2048x8.rank)
  reducesTo_S2048x8_S_d0_1 : S2048x8.ReducesTo [0, 1] S_
  bcast_S_S8 : S_.BroadcastsInDim S8 (![] : Fin 0 → Fin S8.rank)
  reducesTo_S8_S_d0 : S8.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S2048x8 .f32) (main_arg5 : FVec F S8 .f32) (main_arg6 : FVec F S2048x64 .f32) (main_arg7 : FVec F S64 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S2048x8 .f32 := Host.absf main_arg4
  let main_cst_6 : FVec F S_ .f32 := constant S_ .f32 0x7F800000#32
  let main_v20 : FVec F S2048x8 .f32 := broadcastInDim S2048x8 ![] bcast_S_S2048x8 main_cst_6
  let main_v21 : IVec S2048x8 1 := cmpf .olt main_v19 main_v20
  let main_c_7 : IVec S_ 1 := constantI S_ 1 1#1
  let main_v22 : IVec S_ 1 := (fun x v => Host.reduce IntOp.andi x v reducesTo_S2048x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S2048x64 .f32 := Host.absf main_arg6
  let main_cst_10 : FVec F S_ .f32 := constant S_ .f32 0x7F800000#32
  let main_v30 : FVec F S2048x64 .f32 := broadcastInDim S2048x64 ![] bcast_S_S2048x64 main_cst_10
  let main_v31 : IVec S2048x64 1 := cmpf .olt main_v29 main_v30
  let main_c_11 : IVec S_ 1 := constantI S_ 1 1#1
  let main_v32 : IVec S_ 1 := (fun x v => Host.reduce IntOp.andi x v reducesTo_S2048x64_S_d0_1 h_S_) main_v31 main_c_11
  let main_v33 : IVec S_ 1 := andi main_v28 main_v32
  fn_part2 (F := F) main_arg7 main_v33

def fn {F : FTy → Type} [FloatOps F] (main_arg0 : FVec F S8192x2048 .f32) (main_arg1 : FVec F S1x2048 .f32) (main_arg2 : FVec F S1x2048 .f32) (main_arg3 : FVec F S1x2048 .f32) (main_arg4 : FVec F S2048x8 .f32) (main_arg5 : FVec F S8 .f32) (main_arg6 : FVec F S2048x64 .f32) (main_arg7 : FVec F S64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_v13 main_v16
-- ==== Kernel.lean ====
abbrev S8192x4608 : Shape := ⟨2, ![8192, 4608]⟩
abbrev S4x1024 : Shape := ⟨2, ![4, 1024]⟩
abbrev S1024 : Shape := ⟨1, ![1024]⟩
abbrev S8x128x128 : Shape := ⟨3, ![8, 128, 128]⟩
abbrev S1x1024 : Shape := ⟨2, ![1, 1024]⟩
abbrev S8192x1024 : Shape := ⟨2, ![8192, 1024]⟩
abbrev S256x1024 : Shape := ⟨2, ![256, 1024]⟩
abbrev S8x1024 : Shape := ⟨2, ![8, 1024]⟩
abbrev S248x1024 : Shape := ⟨2, ![248, 1024]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 13
  | .vmem => 18
  | .smem => 0
  | _ => 0

abbrev bufTy : (tb : Table) → Fin (tcTables nBuf tb) → BufTy
  | .hbm, ⟨0, _⟩ => ⟨S8192x4608, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .f32⟩
  | .local _ .vmem, ⟨7, _⟩ => ⟨S1x1024, .f32⟩
  | .local _ .vmem, ⟨8, _⟩ => ⟨S8x128x128, .f32⟩
  | .local _ .vmem, ⟨9, _⟩ => ⟨S1x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_96 : BitVec 32 := 0#32
  let c32_i32 : BitVec 32 := 32#32
  let v173 : BitVec 32 := Scalar.addi c0_i32_96 c32_i32
  let c1_i32_97 : BitVec 32 := 1#32
  ⟨c0_i32_96, v173, c1_i32_97⟩
def k0_mult1 (k0_t1 : Fin k0_t1_loop.trips) : BitVec 32 :=
  let c0_i32_96 : BitVec 32 := 0#32
  let c1_i32_97 : BitVec 32 := 1#32
  let arg16 : BitVec 32 := Scf.iv c0_i32_96 c1_i32_97 k0_t1
  let c8_i32 : BitVec 32 := 8#32
  let v196 : BitVec 32 := Scalar.muli arg16 c8_i32
  v196
def k0_off1 (k0_t1 : Fin k0_t1_loop.trips) : Fin 2 → Nat :=
  let c0_i32_96 : BitVec 32 := 0#32
  let c1_i32_97 : BitVec 32 := 1#32
  let arg16 : BitVec 32 := Scf.iv c0_i32_96 c1_i32_97 k0_t1
  let c8_i32 : BitVec 32 := 8#32
  let v196 : BitVec 32 := Scalar.muli arg16 c8_i32
  let v197 : BitVec 32 := v196
  let v198 : Index := Scalar.indexCast v197
  let c0_111 : Index := 0#32
  ![v198.toNat, 0]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x4608 : Shape := ⟨2, ![8192, 4608]⟩
abbrev S4x1024 : Shape := ⟨2, ![4, 1024]⟩
abbrev S1024 : Shape := ⟨1, ![1024]⟩
abbrev S8x128x128 : Shape := ⟨3, ![8, 128, 128]⟩
abbrev S8192x1024 : Shape := ⟨2, ![8192, 1024]⟩
abbrev S_ : Shape := ⟨0, ![]⟩
abbrev S8195x1024 : Shape := ⟨2, ![8195, 1024]⟩
abbrev S1x1024 : Shape := ⟨2, ![1, 1024]⟩
abbrev S8192x8x128 : Shape := ⟨3, ![8192, 8, 128]⟩
abbrev S8x128x8192 : Shape := ⟨3, ![8, 128, 8192]⟩

abbrev nBuf : Space → Nat
  | .hbm => 146
  | .vmem => 0
  | .smem => 0
  | _ => 0

abbrev hbmTy0_0 (i : Nat) : BufTy := match i % 128 with
  | 0 => ⟨S8192x4608, .f32⟩
  | 1 => ⟨S4x1024, .f32⟩
  | 2 => ⟨S1024, .f32⟩
  | 3 => ⟨S8x128x128, .f32⟩
  | 4 => ⟨S1024, .f32⟩
  | 5 => ⟨S8x128x128, .f32⟩
  | 6 => ⟨S1024, .f32⟩
  | 7 => ⟨S1024, .f32⟩
  | 8 => ⟨S8192x1024, .f32⟩
  | 9 => ⟨S_, .i32⟩
  | 10 => ⟨S_, .f32⟩
  | 11 => ⟨S8195x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S1x1024, .f32⟩
  | 20 => ⟨S1024, .f32⟩
  | 21 => ⟨S1x1024, .f32⟩
  | 22 => ⟨S8192x1024, .f32⟩
  | 23 => ⟨S8192x1024, .f32⟩
  | 24 => ⟨S8192x1024, .f32⟩
  | 25 => ⟨S8192x1024, .f32⟩
  | 26 => ⟨S1x1024, .f32⟩
  | 27 => ⟨S1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S1024, .f32⟩
  | 35 => ⟨S1x1024, .f32⟩
  | 36 => ⟨S8192x1024, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x8x128, .f32⟩
  | 43 => ⟨S8x128x8192, .f32⟩
  | 44 => ⟨S8192x8x128, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8x128x8192, .f32⟩
  | 58 => ⟨S8192x8x128, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S1024, .f32⟩
  | 80 => ⟨S1024, .i1⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S_, .f32⟩
  | 104 => ⟨S8192x1024, .f32⟩
  | 105 => ⟨S_, .i32⟩
  | 106 => ⟨S8192x1024, .f32⟩
  | 107 => ⟨S8192x1024, .f32⟩
  | 108 => ⟨S_, .i32⟩
  | 109 => ⟨S1024, .f32⟩
  | 110 => ⟨S8192x1024, .f32⟩
  | 111 => ⟨S_, .i32⟩
  | 112 => ⟨S_, .i1⟩
  | 113 => ⟨S_, .i32⟩
  | 114 => ⟨S1x1024, .f32⟩
  | 115 => ⟨S1024, .f32⟩
  | 116 => ⟨S_, .i32⟩
  | 117 => ⟨S1x1024, .f32⟩
  | 118 => ⟨S1024, .f32⟩
  | 119 => ⟨S1024, .f32⟩
  | 120 => ⟨S1024, .f32⟩
  | 121 => ⟨S1x1024, .f32⟩
  | 122 => ⟨S_, .i32⟩
  | 123 => ⟨S8192x1024, .f32⟩
  | 124 => ⟨S_, .i32⟩
  | 125 => ⟨S_, .i32⟩
  | 126 => ⟨S8192x1024, .f32⟩
  | 127 => ⟨S8192x1024, .f32⟩
  | _ => ⟨S8192x4608, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .bf16⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_5 : Ref sig .tc := ⟨.hbm, 101, rfl⟩
abbrev main_v72 : Ref sig .tc := ⟨.hbm, 102, rfl⟩
abbrev main_cst_6 : Ref sig .tc := ⟨.hbm, 103, rfl⟩
abbrev main_v73 : Ref sig .tc := ⟨.hbm, 104, rfl⟩
abbrev main_c_7 : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_v74_3 : Ref sig .tc := ⟨.hbm, 109, rfl⟩
abbrev main_v74_4 : Ref sig .tc := ⟨.hbm, 110, rfl⟩
abbrev main_while0c_c_16 : Ref sig .tc := ⟨.hbm, 111, rfl⟩
abbrev main_while0c_v91 : Ref sig .tc := ⟨.hbm, 112, rfl⟩
abbrev main_while0b_call2_c : Ref sig .tc := ⟨.hbm, 113, rfl⟩
abbrev main_while0b_call2_v0 : Ref sig .tc := ⟨.hbm, 114, rfl⟩
abbrev main_while0b_v91 : Ref sig .tc := ⟨.hbm, 115, rfl⟩
abbrev main_while0b_call3_c : Ref sig .tc := ⟨.hbm, 116, rfl⟩
abbrev main_while0b_call3_v0 : Ref sig .tc := ⟨.hbm, 117, rfl⟩
abbrev main_while0b_v92 : Ref sig .tc := ⟨.hbm, 118, rfl⟩
abbrev main_while0b_v93 : Ref sig .tc := ⟨.hbm, 119, rfl⟩
abbrev main_while0b_v94 : Ref sig .tc := ⟨.hbm, 120, rfl⟩
abbrev main_while0b_call4_v0 : Ref sig .tc := ⟨.hbm, 121, rfl⟩
abbrev main_while0b_call4_c : Ref sig .tc := ⟨.hbm, 122, rfl⟩
abbrev main_while0b_v95 : Ref sig .tc := ⟨.hbm, 123, rfl⟩
abbrev main_while0b_c_16 : Ref sig .tc := ⟨.hbm, 124, rfl⟩
abbrev main_while0b_v96 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_8 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_9 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_10 : Ref sig .tc := ⟨.hbm, 137, rfl⟩
abbrev main_v84 : Ref sig .tc := ⟨.hbm, 138, rfl⟩
abbrev main_v85 : Ref sig .tc := ⟨.hbm, 139, rfl⟩
abbrev main_cst_11 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩

abbrev nD : Nat := 1
abbrev τ : Topo := Topo.v7x

variable {F : FTy → Type} [FloatOps F]

abbrev main_while0_count : Scf.Loop 32 := ⟨0#32, 8192#32, 1#32⟩
-- ==== OutEven.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefOutEvenIdeal.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== OutOdd.lean ====
abbrev S8192x2048 : Shape := ⟨2, ![8192, 2048]⟩
abbrev S2048x2048 : Shape := ⟨2, ![2048, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048x2048, .bf16⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefOutOddIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InOdd.lean ====
abbrev S8192x2048 : Shape := ⟨2, ![8192, 2048]⟩
abbrev S1x2048 : Shape := ⟨2, ![1, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x8192, .f32⟩
  | .hbm, ⟨5, _⟩ => ⟨S2048x8192, .bf16⟩
  | .hbm, ⟨6, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefInOddIdeal.lean ====
abbrev S8192x2048 : Shape := ⟨2, ![8192, 2048]⟩
abbrev S1x2048 : Shape := ⟨2, ![1, 2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x8192, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== InEven.lean ====
abbrev S8192x2048 : Shape := ⟨2, ![8192, 2048]⟩
abbrev S1x2048 : Shape := ⟨2, ![1, 2048]⟩
abbrev S2048x4632 : Shape := ⟨2, ![2048, 4632]⟩
abbrev S2048x1024 : Shape := ⟨2, ![2048, 1024]⟩
abbrev S2048x2048 : Shape := ⟨2, ![2048, 2048]⟩
abbrev S2048x1536 : Shape := ⟨2, ![2048, 1536]⟩
abbrev S2048x4608 : Shape := ⟨2, ![2048, 4608]⟩
abbrev S_ : Shape := ⟨0, ![]⟩
abbrev S2048x128 : Shape := ⟨2, ![2048, 128]⟩
abbrev S2048x24 : Shape := ⟨2, ![2048, 24]⟩
abbrev S1 : Shape := ⟨1, ![1]⟩
abbrev S8192x4608 : Shape := ⟨2, ![8192, 4608]⟩
abbrev S8192x128 : Shape := ⟨2, ![8192, 128]⟩
abbrev S8192x1536 : Shape := ⟨2, ![8192, 1536]⟩
abbrev S1024x2048 : Shape := ⟨2, ![1024, 2048]⟩
abbrev S2048x768 : Shape := ⟨2, ![2048, 768]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩

abbrev nBuf : Space → Nat
  | .hbm => 20
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x4632, .f32⟩
  | .hbm, ⟨5, _⟩ => ⟨S2048x1024, .f32⟩
  | .hbm, ⟨6, _⟩ => ⟨S2048x2048, .f32⟩
  | .hbm, ⟨7, _⟩ => ⟨S2048x1536, .f32⟩
  | .hbm, ⟨8, _⟩ => ⟨S2048x4608, .f32⟩
  | .hbm, ⟨9, _⟩ => ⟨S2048x4608, .bf16⟩
  | .hbm, ⟨10, _⟩ => ⟨S_, .f32⟩
  | .hbm, ⟨11, _⟩ => ⟨S2048x128, .f32⟩
  | .hbm, ⟨12, _⟩ => ⟨S2048x24, .f32⟩
  | .hbm, ⟨13, _⟩ => ⟨S_, .i32⟩
  | .hbm, ⟨14, _⟩ => ⟨S1, .i32⟩
  | .hbm, ⟨15, _⟩ => ⟨S2048x128, .f32⟩
  | .hbm, ⟨16, _⟩ => ⟨S2048x128, .bf16⟩
  | .hbm, ⟨17, _⟩ => ⟨S8192x4608, .f32⟩
  | .hbm, ⟨18, _⟩ => ⟨S8192x128, .f32⟩
  | .hbm, ⟨19, _⟩ => ⟨S8192x1536, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x768, .bf16⟩
  | .local _ .vmem, ⟨6, _⟩ => ⟨S2048x768, .bf16⟩
  | .local _ .vmem, ⟨7, _⟩ => ⟨S2048x128, .bf16⟩
  | .local _ .vmem, ⟨8, _⟩ => ⟨S1024x768, .f32⟩
  | .local _ .vmem, ⟨9, _⟩ => ⟨S1024x768, .f32⟩
  | .local _ .vmem, ⟨10, _⟩ => ⟨S1024x128, .f32⟩
  | .local _ .vmem, ⟨11, _⟩ => ⟨S1024x128, .f32⟩
  | .local _ .vmem, ⟨12, _⟩ => ⟨S1024x768, .bf16⟩
  | .local _ .vmem, ⟨13, _⟩ => ⟨S1024x768, .bf16⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v8 : BitVec 1 := Scalar.cmpi .sge arg1 c4_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefInEvenIdeal.lean ====
abbrev S8192x2048 : Shape := ⟨2, ![8192, 2048]⟩
abbrev S1x2048 : Shape := ⟨2, ![1, 2048]⟩
abbrev S2048x4632 : Shape := ⟨2, ![2048, 4632]⟩
abbrev S_ : Shape := ⟨0, ![]⟩
abbrev S8192 : Shape := ⟨1, ![8192]⟩
abbrev S8192x1 : Shape := ⟨2, ![8192, 1]⟩
abbrev S8192x4632 : Shape := ⟨2, ![8192, 4632]⟩
abbrev S8192x1024 : Shape := ⟨2, ![8192, 1024]⟩
abbrev S8192x1536 : Shape := ⟨2, ![8192, 1536]⟩
abbrev S8192x24 : Shape := ⟨2, ![8192, 24]⟩
abbrev S8192x4608 : Shape := ⟨2, ![8192, 4608]⟩
abbrev S8192x128 : Shape := ⟨2, ![8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x4632, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x4632, .f32⟩
  | .hbm, ⟨28, _⟩ => ⟨S8192x1024, .f32⟩
  | .hbm, ⟨29, _⟩ => ⟨S8192x1536, .f32⟩
  | .hbm, ⟨30, _⟩ => ⟨S8192x24, .f32⟩
  | .hbm, ⟨31, _⟩ => ⟨S8192x2048, .f32⟩
  | .hbm, ⟨32, _⟩ => ⟨S8192x4608, .f32⟩
  | .hbm, ⟨33, _⟩ => ⟨S_, .i32⟩
  | .hbm, ⟨34, _⟩ => ⟨S_, .f32⟩
  | .hbm, ⟨35, _⟩ => ⟨S8192x128, .f32⟩
  | .hbm, ⟨36, _⟩ => ⟨S8192x1536, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Modulation.lean ====
abbrev S1x2048 : Shape := ⟨2, ![1, 2048]⟩
abbrev S2x2048x12288 : Shape := ⟨3, ![2, 2048, 12288]⟩
abbrev S2x12288 : Shape := ⟨2, ![2, 12288]⟩
abbrev S2048x1 : Shape := ⟨2, ![2048, 1]⟩
abbrev S2x1x12288 : Shape := ⟨3, ![2, 1, 12288]⟩
abbrev S1x2048x1024 : Shape := ⟨3, ![1, 2048, 1024]⟩
abbrev S1x1x1024 : Shape := ⟨3, ![1, 1, 1024]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S2048x1, .f32⟩
  | .hbm, ⟨4, _⟩ => ⟨S2x1x12288, .f32⟩
  | .hbm, ⟨5, _⟩ => ⟨S2x1x12288, .f32⟩
  | .local _ .vmem, ⟨0, _⟩ => ⟨S2048x1, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefModulationIdeal.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x1x12288 : Shape := ⟨3, ![1, 1, 12288]⟩
abbrev S2x1x12288 : Shape := ⟨3, ![2, 1, 12288]⟩

abbrev nBuf : Space → Nat
  | .hbm => 29
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048x12288, .f32⟩
  | .hbm, ⟨13, _⟩ => ⟨S2048x12288, .f32⟩
  | .hbm, ⟨14, _⟩ => ⟨S1x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S1x2048x12288, .f32⟩
  | .hbm, ⟨20, _⟩ => ⟨S2048x12288, .f32⟩
  | .hbm, ⟨21, _⟩ => ⟨S1x12288, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S1x1x12288, .f32⟩
  | .hbm, ⟨27, _⟩ => ⟨S1x1x12288, .f32⟩
  | .hbm, ⟨28, _⟩ => ⟨S2x1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Compress.lean ====
abbrev S8192x4608 : Shape := ⟨2, ![8192, 4608]⟩
abbrev S2x32x128 : Shape := ⟨3, ![2, 32, 128]⟩
abbrev S2x4096x128 : Shape := ⟨3, ![2, 4096, 128]⟩
abbrev S2x128 : Shape := ⟨2, ![2, 128]⟩
abbrev S2x128x128 : Shape := ⟨3, ![2, 128, 128]⟩
abbrev S8192x256 : Shape := ⟨2, ![8192, 256]⟩
abbrev S8192x2x128 : Shape := ⟨3, ![8192, 2, 128]⟩
abbrev S2x8192x128 : Shape := ⟨3, ![2, 8192, 128]⟩
abbrev S1x2x8192x128 : Shape := ⟨4, ![1, 2, 8192, 128]⟩
abbrev S2x2x8192x128 : Shape := ⟨4, ![2, 2, 8192, 128]⟩
abbrev S2x2x512x2048 : Shape := ⟨4, ![2, 2, 512, 2048]⟩
abbrev S2x2x2048 : Shape := ⟨3, ![2, 2, 2048]⟩
abbrev S2x1x128 : Shape := ⟨3, ![2, 1, 128]⟩
abbrev S2x2x512x128 : Shape := ⟨4, ![2, 2, 512, 128]⟩
abbrev S1x1x512x2048 : Shape := ⟨4, ![1, 1, 512, 2048]⟩
abbrev S1x2x2048 : Shape := ⟨3, ![1, 2, 2048]⟩
abbrev S1x4096x128 : Shape := ⟨3, ![1, 4096, 128]⟩
abbrev S1x1x128 : Shape := ⟨3, ![1, 1, 128]⟩
abbrev S1x128x128 : Shape := ⟨3, ![1, 128, 128]⟩
abbrev S1x1x512x128 : Shape := ⟨4, ![1, 1, 512, 128]⟩
abbrev S512x2048 : Shape := ⟨2, ![512, 2048]⟩
abbrev S1x1x2048 : Shape := ⟨3, ![1, 1, 2048]⟩
abbrev S1x2048 : Shape := ⟨2, ![1, 2048]⟩
abbrev S1x2048x128 : Shape := ⟨3, ![1, 2048, 128]⟩
abbrev S2048x128 : Shape := ⟨2, ![2048, 128]⟩
abbrev S512x128 : Shape := ⟨2, ![512, 128]⟩
abbrev S1x128 : Shape := ⟨2, ![1, 128]⟩
abbrev S128x128 : Shape := ⟨2, ![128, 128]⟩
abbrev S512 : Shape := ⟨1, ![512]⟩
abbrev S_ : Shape := ⟨0, ![]⟩
abbrev S1x1x512x1 : Shape := ⟨4, ![1, 1, 512, 1]⟩

abbrev nBuf : Space → Nat
  | .hbm => 30
  | .vmem => 14
  | .smem => 0
  | _ => 0

abbrev bufTy : (tb : Table) → Fin (tcTables nBuf tb) → BufTy
  | .hbm, ⟨0, _⟩ => ⟨S8192x4608, .f32⟩
  | .hbm, ⟨1, _⟩ => ⟨S2x32x128, .f32⟩
  | .hbm, ⟨2, _⟩ => ⟨S2x4096x128, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S8192x256, .f32⟩
  | .hbm, ⟨7, _⟩ => ⟨S8192x2x128, .f32⟩
  | .hbm, ⟨8, _⟩ => ⟨S2x8192x128, .f32⟩
  | .hbm, ⟨9, _⟩ => ⟨S8192x256, .f32⟩
  | .hbm, ⟨10, _⟩ => ⟨S8192x2x128, .f32⟩
  | .hbm, ⟨11, _⟩ => ⟨S2x8192x128, .f32⟩
  | .hbm, ⟨12, _⟩ => ⟨S1x2x8192x128, .f32⟩
  | .hbm, ⟨13, _⟩ => ⟨S1x2x8192x128, .f32⟩
  | .hbm, ⟨14, _⟩ => ⟨S2x2x8192x128, .f32⟩
  | .hbm, ⟨15, _⟩ => ⟨S2x2x512x2048, .f32⟩
  | .hbm, ⟨16, _⟩ => ⟨S2x2x2048, .f32⟩
  | .hbm, ⟨17, _⟩ => ⟨S2x1x128, .f32⟩
  | .hbm, ⟨18, _⟩ => ⟨S2x1x128, .f32⟩
  | .hbm, ⟨19, _⟩ => ⟨S2x2x512x128, .f32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S1x1x512x1, .i1⟩
  | .hbm, ⟨25, _⟩ => ⟨S_, .f32⟩
  | .hbm, ⟨26, _⟩ => ⟨S_, .f32⟩
  | .hbm, ⟨27, _⟩ => ⟨S2x2x512x128, .i1⟩
  | .hbm, ⟨28, _⟩ => ⟨S2x2x512x128, .f32⟩
  | .hbm, ⟨29, _⟩ => ⟨S2x2x512x128, .f32⟩
  | .local _ .vmem, ⟨0, _⟩ => ⟨S1x1x512x2048, .f32⟩
  | .local _ .vmem, ⟨1, _⟩ => ⟨S1x1x512x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x4096x128, .f32⟩
  | .local _ .vmem, ⟨5, _⟩ => ⟨S1x4096x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128, .f32⟩
  | .local _ .vmem, ⟨9, _⟩ => ⟨S1x128x128, .f32⟩
  | .local _ .vmem, ⟨10, _⟩ => ⟨S1x1x128, .f32⟩
  | .local _ .vmem, ⟨11, _⟩ => ⟨S1x1x128, .f32⟩
  | .local _ .vmem, ⟨12, _⟩ => ⟨S1x1x512x128, .f32⟩
  | .local _ .vmem, ⟨13, _⟩ => ⟨S1x1x512x128, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefCompressIdeal.lean ====
abbrev S8192x4608 : Shape := ⟨2, ![8192, 4608]⟩
abbrev S2x32x128 : Shape := ⟨3, ![2, 32, 128]⟩
abbrev S2x4096x128 : Shape := ⟨3, ![2, 4096, 128]⟩
abbrev S2x128 : Shape := ⟨2, ![2, 128]⟩
abbrev S2x128x128 : Shape := ⟨3, ![2, 128, 128]⟩
abbrev S8192x512 : Shape := ⟨2, ![8192, 512]⟩
abbrev S8192x2x2x128 : Shape := ⟨4, ![8192, 2, 2, 128]⟩
abbrev S2x2x8192x128 : Shape := ⟨4, ![2, 2, 8192, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S511x32x1 : Shape := ⟨3, ![511, 32, 1]⟩
abbrev S2x2x511x32x128 : Shape := ⟨5, ![2, 2, 511, 32, 128]⟩
abbrev S2x1x1x32x128 : Shape := ⟨5, ![2, 1, 1, 32, 128]⟩
abbrev S2x2x511x4096 : Shape := ⟨4, ![2, 2, 511, 4096]⟩
abbrev S2x2x511x128 : Shape := ⟨4, ![2, 2, 511, 128]⟩
abbrev S2x1x1x128 : Shape := ⟨4, ![2, 1, 1, 128]⟩
abbrev S2x2x512x128 : Shape := ⟨4, ![2, 2, 512, 128]⟩

abbrev nBuf : Space → Nat
  | .hbm => 60
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S2x32x128, .f32⟩
  | .hbm, ⟨2, _⟩ => ⟨S2x4096x128, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S8192x512, .f32⟩
  | .hbm, ⟨7, _⟩ => ⟨S8192x2x2x128, .f32⟩
  | .hbm, ⟨8, _⟩ => ⟨S2x2x8192x128, .f32⟩
  | .hbm, ⟨9, _⟩ => ⟨S511, .i32⟩
  | .hbm, ⟨10, _⟩ => ⟨S511x1, .i32⟩
  | .hbm, ⟨11, _⟩ => ⟨S_, .i32⟩
  | .hbm, ⟨12, _⟩ => ⟨S511x1, .i32⟩
  | .hbm, ⟨13, _⟩ => ⟨S511x1, .i32⟩
  | .hbm, ⟨14, _⟩ => ⟨S32, .i32⟩
  | .hbm, ⟨15, _⟩ => ⟨S1x32, .i32⟩
  | .hbm, ⟨16, _⟩ => ⟨S511x32, .i32⟩
  | .hbm, ⟨17, _⟩ => ⟨S511x32, .i32⟩
  | .hbm, ⟨18, _⟩ => ⟨S511x32, .i32⟩
  | .hbm, ⟨19, _⟩ => ⟨S_, .i32⟩
  | .hbm, ⟨20, _⟩ => ⟨S511x32, .i32⟩
  | .hbm, ⟨21, _⟩ => ⟨S511x32, .i1⟩
  | .hbm, ⟨22, _⟩ => ⟨S_, .i32⟩
  | .hbm, ⟨23, _⟩ => ⟨S511x32, .i32⟩
  | .hbm, ⟨24, _⟩ => ⟨S511x32, .i32⟩
  | .hbm, ⟨25, _⟩ => ⟨S511x32, .i32⟩
  | .hbm, ⟨26, _⟩ => ⟨S511x32x1, .i32⟩
  | .hbm, ⟨27, _⟩ => ⟨S2x2x511x32x128, .f32⟩
  | .hbm, ⟨28, _⟩ => ⟨S2x1x1x32x128, .f32⟩
  | .hbm, ⟨29, _⟩ => ⟨S2x2x511x32x128, .f32⟩
  | .hbm, ⟨30, _⟩ => ⟨S2x2x511x32x128, .f32⟩
  | .hbm, ⟨31, _⟩ => ⟨S2x2x511x4096, .f32⟩
  | .hbm, ⟨32, _⟩ => ⟨S2x2x511x128, .f32⟩
  | .hbm, ⟨33, _⟩ => ⟨S2x1x1x128, .f32⟩
  | .hbm, ⟨34, _⟩ => ⟨S2x2x511x128, .f32⟩
  | .hbm, ⟨35, _⟩ => ⟨S2x2x511x128, .f32⟩
  | .hbm, ⟨36, _⟩ => ⟨S2x2x511x128, .f32⟩
  | .hbm, ⟨37, _⟩ => ⟨S2x2x511x128, .f32⟩
  | .hbm, ⟨38, _⟩ => ⟨S_, .f32⟩
  | .hbm, ⟨39, _⟩ => ⟨S2x2x511x128, .f32⟩
  | .hbm, ⟨40, _⟩ => ⟨S2x2x511x128, .f32⟩
  | .hbm, ⟨41, _⟩ => ⟨S2x2x511x128, .f32⟩
  | .hbm, ⟨42, _⟩ => ⟨S_, .f32⟩
  | .hbm, ⟨43, _⟩ => ⟨S2x2x511x128, .f32⟩
  | .hbm, ⟨44, _⟩ => ⟨S2x2x511x128, .f32⟩
  | .hbm, ⟨45, _⟩ => ⟨S2x2x511x128, .f32⟩
  | .hbm, ⟨46, _⟩ => ⟨S_, .f32⟩
  | .hbm, ⟨47, _⟩ => ⟨S2x2x511x128, .f32⟩
  | .hbm, ⟨48, _⟩ => ⟨S2x2x511x128, .f32⟩
  | .hbm, ⟨49, _⟩ => ⟨S_, .f32⟩
  | .hbm, ⟨50, _⟩ => ⟨S2x2x511x128, .f32⟩
  | .hbm, ⟨51, _⟩ => ⟨S2x2x511x128, .f32⟩
  | .hbm, ⟨52, _⟩ => ⟨S2x2x511x128, .f32⟩
  | .hbm, ⟨53, _⟩ => ⟨S2x2x511x128, .f32⟩
  | .hbm, ⟨54, _⟩ => ⟨S2x1x1x128, .f32⟩
  | .hbm, ⟨55, _⟩ => ⟨S2x2x511x128, .f32⟩
  | .hbm, ⟨56, _⟩ => ⟨S2x2x511x128, .f32⟩
  | .hbm, ⟨57, _⟩ => ⟨S_, .i32⟩
  | .hbm, ⟨58, _⟩ => ⟨S_, .f32⟩
  | .hbm, ⟨59, _⟩ => ⟨S2x2x512x128, .f32⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_call0_v0 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Router.lean ====
abbrev S8192x2048 : Shape := ⟨2, ![8192, 2048]⟩
abbrev S1x2048 : Shape := ⟨2, ![1, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S2048x384 : Shape := ⟨2, ![2048, 384]⟩
abbrev S512x384 : Shape := ⟨2, ![512, 384]⟩
abbrev S2048x256 : Shape := ⟨2, ![2048, 256]⟩
abbrev S512x256 : Shape := ⟨2, ![512, 256]⟩
abbrev S128 : Shape := ⟨1, ![128]⟩

abbrev nBuf : Space → Nat
  | .hbm => 34
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x8, .f32⟩
  | .hbm, ⟨5, _⟩ => ⟨S8, .f32⟩
  | .hbm, ⟨6, _⟩ => ⟨S2048x64, .f32⟩
  | .hbm, ⟨7, _⟩ => ⟨S64, .f32⟩
  | .hbm, ⟨8, _⟩ => ⟨S_, .f32⟩
  | .hbm, ⟨9, _⟩ => ⟨S2048x128, .f32⟩
  | .hbm, ⟨10, _⟩ => ⟨S_, .i32⟩
  | .hbm, ⟨11, _⟩ => ⟨S1, .i32⟩
  | .hbm, ⟨12, _⟩ => ⟨S2048x128, .f32⟩
  | .hbm, ⟨13, _⟩ => ⟨S_, .i32⟩
  | .hbm, ⟨14, _⟩ => ⟨S1, .i32⟩
  | .hbm, ⟨15, _⟩ => ⟨S2048x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S8192x2048, .bf16⟩
  | .hbm, ⟨31, _⟩ => ⟨S8192x128, .i32⟩
  | .hbm, ⟨32, _⟩ => ⟨S8192x128, .f32⟩
  | .hbm, ⟨33, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x128, .f32⟩
  | .local _ .vmem, ⟨6, _⟩ => ⟨S1x128, .f32⟩
  | .local _ .vmem, ⟨7, _⟩ => ⟨S512x2048, .bf16⟩
  | .local _ .vmem, ⟨8, _⟩ => ⟨S512x2048, .bf16⟩
  | .local _ .vmem, ⟨9, _⟩ => ⟨S512x128, .i32⟩
  | .local _ .vmem, ⟨10, _⟩ => ⟨S512x128, .i32⟩
  | .local _ .vmem, ⟨11, _⟩ => ⟨S512x128, .f32⟩
  | .local _ .vmem, ⟨12, _⟩ => ⟨S512x128, .f32⟩
  | .local _ .vmem, ⟨13, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_c_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefRouterIdeal.lean ====
abbrev S8192x2048 : Shape := ⟨2, ![8192, 2048]⟩
abbrev S1x2048 : Shape := ⟨2, ![1, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S8192 : Shape := ⟨1, ![8192]⟩
abbrev S8192x1 : Shape := ⟨2, ![8192, 1]⟩
abbrev S8192x8 : Shape := ⟨2, ![8192, 8]⟩
abbrev S1x8 : Shape := ⟨2, ![1, 8]⟩
abbrev S8192x1x1 : Shape := ⟨3, ![8192, 1, 1]⟩
abbrev S8192x64 : Shape := ⟨2, ![8192, 64]⟩
abbrev S1x64 : Shape := ⟨2, ![1, 64]⟩
abbrev S8192x8x8 : Shape := ⟨3, ![8192, 8, 8]⟩
abbrev S8192x1x8 : Shape := ⟨3, ![8192, 1, 8]⟩
abbrev S8192x2 : Shape := ⟨2, ![8192, 2]⟩
abbrev S8192x2x1 : Shape := ⟨3, ![8192, 2, 1]⟩
abbrev S1x1x64 : Shape := ⟨3, ![1, 1, 64]⟩
abbrev S8192x2x64 : Shape := ⟨3, ![8192, 2, 64]⟩
abbrev S8192x128 : Shape := ⟨2, ![8192, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x8, .f32⟩
  | .hbm, ⟨5, _⟩ => ⟨S8, .f32⟩
  | .hbm, ⟨6, _⟩ => ⟨S2048x64, .f32⟩
  | .hbm, ⟨7, _⟩ => ⟨S64, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x8, .f32⟩
  | .hbm, ⟨31, _⟩ => ⟨S1x8, .f32⟩
  | .hbm, ⟨32, _⟩ => ⟨S8192x8, .f32⟩
  | .hbm, ⟨33, _⟩ => ⟨S8192x8, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x8, .f32⟩
  | .hbm, ⟨47, _⟩ => ⟨S8192x8, .f32⟩
  | .hbm, ⟨48, _⟩ => ⟨S8192x1, .f32⟩
  | .hbm, ⟨49, _⟩ => ⟨S8192x1, .i32⟩
  | .hbm, ⟨50, _⟩ => ⟨S8192, .i32⟩
  | .hbm, ⟨51, _⟩ => ⟨S8192x1, .i32⟩
  | .hbm, ⟨52, _⟩ => ⟨S_, .i32⟩
  | .hbm, ⟨53, _⟩ => ⟨S8192x1, .i32⟩
  | .hbm, ⟨54, _⟩ => ⟨S8192x1, .i1⟩
  | .hbm, ⟨55, _⟩ => ⟨S_, .i32⟩
  | .hbm, ⟨56, _⟩ => ⟨S8192x1, .i32⟩
  | .hbm, ⟨57, _⟩ => ⟨S8192x1, .i32⟩
  | .hbm, ⟨58, _⟩ => ⟨S8192x1, .i32⟩
  | .hbm, ⟨59, _⟩ => ⟨S8192x1x1, .i32⟩
  | .hbm, ⟨60, _⟩ => ⟨S8192x1, .f32⟩
  | .hbm, ⟨61, _⟩ => ⟨S8192x64, .f32⟩
  | .hbm, ⟨62, _⟩ => ⟨S1x64, .f32⟩
  | .hbm, ⟨63, _⟩ => ⟨S8192x64, .f32⟩
  | .hbm, ⟨64, _⟩ => ⟨S8192x64, .f32⟩
  | .hbm, ⟨65, _⟩ => ⟨S8192x8x8, .f32⟩
  | .hbm, ⟨66, _⟩ => ⟨S8192x1x1, .i32⟩
  | .hbm, ⟨67, _⟩ => ⟨S_, .i32⟩
  | .hbm, ⟨68, _⟩ => ⟨S8192x1x1, .i32⟩
  | .hbm, ⟨69, _⟩ => ⟨S8192x1x1, .i1⟩
  | .hbm, ⟨70, _⟩ => ⟨S_, .i32⟩
  | .hbm, ⟨71, _⟩ => ⟨S8192x1x1, .i32⟩
  | .hbm, ⟨72, _⟩ => ⟨S8192x1x1, .i32⟩
  | .hbm, ⟨73, _⟩ => ⟨S8192x1x1, .i32⟩
  | .hbm, ⟨74, _⟩ => ⟨S8192x1x8, .f32⟩
  | .hbm, ⟨75, _⟩ => ⟨S8192x8, .f32⟩
  | .hbm, ⟨76, _⟩ => ⟨S8192x2, .f32⟩
  | .hbm, ⟨77, _⟩ => ⟨S8192x2, .i32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192x1, .f32⟩
  | .hbm, ⟨84, _⟩ => ⟨S8192x2, .f32⟩
  | .hbm, ⟨85, _⟩ => ⟨S8192x2, .f32⟩
  | .hbm, ⟨86, _⟩ => ⟨S8192x2, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x2, .f32⟩
  | .hbm, ⟨91, _⟩ => ⟨S8192x2, .f32⟩
  | .hbm, ⟨92, _⟩ => ⟨S8192x2, .f32⟩
  | .hbm, ⟨93, _⟩ => ⟨S8192x2, .f32⟩
  | .hbm, ⟨94, _⟩ => ⟨S8192x1, .i32⟩
  | .hbm, ⟨95, _⟩ => ⟨S_, .i32⟩
  | .hbm, ⟨96, _⟩ => ⟨S8192x1, .i32⟩
  | .hbm, ⟨97, _⟩ => ⟨S8192x1, .i32⟩
  | .hbm, ⟨98, _⟩ => ⟨S8192x2, .i32⟩
  | .hbm, ⟨99, _⟩ => ⟨S8192x2, .i32⟩
  | .hbm, ⟨100, _⟩ => ⟨S8192x2x1, .i32⟩
  | .hbm, ⟨101, _⟩ => ⟨S64, .i32⟩
  | .hbm, ⟨102, _⟩ => ⟨S1x1x64, .i32⟩
  | .hbm, ⟨103, _⟩ => ⟨S8192x2x64, .i32⟩
  | .hbm, ⟨104, _⟩ => ⟨S8192x2x64, .i32⟩
  | .hbm, ⟨105, _⟩ => ⟨S8192x2x64, .i1⟩
  | .hbm, ⟨106, _⟩ => ⟨S8192x2x64, .f32⟩
  | .hbm, ⟨107, _⟩ => ⟨S_, .f32⟩
  | .hbm, ⟨108, _⟩ => ⟨S64, .f32⟩
  | .hbm, ⟨109, _⟩ => ⟨S8192x2048, .bf16⟩
  | .hbm, ⟨110, _⟩ => ⟨S_, .i32⟩
  | .hbm, ⟨111, _⟩ => ⟨S_, .i32⟩
  | .hbm, ⟨112, _⟩ => ⟨S8192x128, .i32⟩
  | .hbm, ⟨113, _⟩ => ⟨S_, .i32⟩
  | .hbm, ⟨114, _⟩ => ⟨S_, .f32⟩
  | .hbm, ⟨115, _⟩ => ⟨S8192x128, .f32⟩
  | .hbm, ⟨116, _⟩ => ⟨S1x64, .f32⟩
  | .hbm, ⟨117, _⟩ => ⟨S_, .i32⟩
  | .hbm, ⟨118, _⟩ => ⟨S_, .f32⟩
  | .hbm, ⟨119, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_values : Ref sig .tc := ⟨.hbm, 48, rfl⟩
abbrev main_indices : Ref sig .tc := ⟨.hbm, 49, rfl⟩
abbrev main_v33 : Ref sig .tc := ⟨.hbm, 50, rfl⟩
abbrev main_v34 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v42 : Ref sig .tc := ⟨.hbm, 74, rfl⟩
abbrev main_v43 : Ref sig .tc := ⟨.hbm, 75, rfl⟩
abbrev main_values_6 : Ref sig .tc := ⟨.hbm, 76, rfl⟩
abbrev main_indices_7 : Ref sig .tc := ⟨.hbm, 77, rfl⟩
abbrev main_cst_8 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_11 : Ref sig .tc := ⟨.hbm, 107, rfl⟩
abbrev main_v69 : Ref sig .tc := ⟨.hbm, 108, rfl⟩
abbrev main_v70 : Ref sig .tc := ⟨.hbm, 109, rfl⟩
abbrev main_c_12 : Ref sig .tc := ⟨.hbm, 110, rfl⟩
abbrev main_call2_v0 : Ref sig .tc := ⟨.hbm, 111, rfl⟩
abbrev main_v71 : Ref sig .tc := ⟨.hbm, 112, rfl⟩
abbrev main_c_13 : Ref sig .tc := ⟨.hbm, 113, rfl⟩
abbrev main_call3_v0 : Ref sig .tc := ⟨.hbm, 114, rfl⟩
abbrev main_v72 : Ref sig .tc := ⟨.hbm, 115, rfl⟩
abbrev main_v73 : Ref sig .tc := ⟨.hbm, 116, rfl⟩
abbrev main_c_14 : Ref sig .tc := ⟨.hbm, 117, rfl⟩
abbrev main_call4_v0 : Ref sig .tc := ⟨.hbm, 118, rfl⟩
abbrev main_v74 : Ref sig .tc := ⟨.hbm, 119, rfl⟩

abbrev nD : Nat := 1
abbrev τ : Topo := Topo.v7x

variable {F : FTy → Type} [FloatOps F]
-- ==== Proof.RefRun.lean ====
/- The reference's run, its result stated as the loop's step iterated: at a valuation that holds a state every value of one
   trip is the step's, one lemma each, and so the run's result is a field of the step's iterates. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v74_3) = s.main_v74_3
  f_4 : V0 (Proc.devRef .tc main_v74_4) = s.main_v74_4
  f_0 : V0 (Proc.devRef .tc main_v74_0) = s.main_v74_0
  f_1 : V0 (Proc.devRef .tc main_v74_1) = s.main_v74_1
  n_2 : V0 (Proc.devRef .tc main_v74_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (Host.dynamicSlice S1x1024 (V0 (Proc.devRef .tc main_v74_0)) (fun k => (((![V0 (Proc.devRef .tc main_v74_2), constantI S_ 32 0#32] : Fin 2 → (⟨S_, .i32⟩ : BufTy).Contents (Elt F))) k (Shape.Idx.first h_S_)).toInt) sliceFits_S8192x1024_S1x1024 : (Proc.devRef .tc main_while0b_call2_v0 : DevRef τ sig).ty.Contents (Elt F)) = Cert.ReferenceIdeal.Step.b1 j s := by
  unfold Cert.ReferenceIdeal.Step.b1
  rw [← al_0 h, h.f_0, h.n_2]
  try rfl
set_option maxRecDepth 8192 in
theorem al_2 (h : Holds V0 s j) : (shapeCast S1024 (Host.dynamicSlice S1x1024 (V0 (Proc.devRef .tc main_v74_0)) (fun k => (((![V0 (Proc.devRef .tc main_v74_2), constantI S_ 32 0#32] : Fin 2 → (⟨S_, .i32⟩ : BufTy).Contents (Elt F))) k (Shape.Idx.first h_S_)).toInt) sliceFits_S8192x1024_S1x1024) shapeCasts_S1x1024_S1024 : (Proc.devRef .tc main_while0b_v91 : DevRef τ sig).ty.Contents (Elt F)) = Cert.ReferenceIdeal.Step.b2 j s := by
  unfold Cert.ReferenceIdeal.Step.b2
  rw [← al_1 h]
  try rfl
set_option maxRecDepth 8192 in
theorem al_3 (h : Holds V0 s j) : (constantI S_ 32 0#32 : (Proc.devRef .tc main_while0b_call3_c : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x1024 (V0 (Proc.devRef .tc main_v74_1)) (fun k => (((![V0 (Proc.devRef .tc main_v74_2), constantI S_ 32 0#32] : Fin 2 → (⟨S_, .i32⟩ : BufTy).Contents (Elt F))) k (Shape.Idx.first h_S_)).toInt) sliceFits_S8192x1024_S1x1024 : (Proc.devRef .tc main_while0b_call3_v0 : DevRef τ sig).ty.Contents (Elt F)) = Cert.ReferenceIdeal.Step.b4 j s := by
  unfold Cert.ReferenceIdeal.Step.b4
  rw [← al_3 h, h.f_1, h.n_2]
  try rfl
set_option maxRecDepth 8192 in
theorem al_5 (h : Holds V0 s j) : (shapeCast S1024 (Host.dynamicSlice S1x1024 (V0 (Proc.devRef .tc main_v74_1)) (fun k => (((![V0 (Proc.devRef .tc main_v74_2), constantI S_ 32 0#32] : Fin 2 → (⟨S_, .i32⟩ : BufTy).Contents (Elt F))) k (Shape.Idx.first h_S_)).toInt) sliceFits_S8192x1024_S1x1024) shapeCasts_S1x1024_S1024 : (Proc.devRef .tc main_while0b_v92 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (mulf (shapeCast S1024 (Host.dynamicSlice S1x1024 (V0 (Proc.devRef .tc main_v74_0)) (fun k => (((![V0 (Proc.devRef .tc main_v74_2), constantI S_ 32 0#32] : Fin 2 → (⟨S_, .i32⟩ : BufTy).Contents (Elt F))) k (Shape.Idx.first h_S_)).toInt) sliceFits_S8192x1024_S1x1024) shapeCasts_S1x1024_S1024) (V0 (Proc.devRef .tc main_v74_3)) : (Proc.devRef .tc main_while0b_v93 : DevRef τ sig).ty.Contents (Elt F)) = Cert.ReferenceIdeal.Step.b6 j s := by
  unfold Cert.ReferenceIdeal.Step.b6
  rw [← al_2 h, h.f_3]
  try rfl
set_option maxRecDepth 8192 in
theorem al_7 (h : Holds V0 s j) : (res_main_while0b_v94 V0 : (Proc.devRef .tc main_while0b_v94 : DevRef τ sig).ty.Contents (Elt F)) = Cert.ReferenceIdeal.Step.b7 j s := by
  unfold res_main_while0b_v94 Cert.ReferenceIdeal.Step.b7
  rw [← al_6 h, ← al_5 h]
  try rfl
set_option maxRecDepth 8192 in
theorem al_8 (h : Holds V0 s j) : (broadcastInDim S1x1024 ![1] bcast_S1024_S1x1024_1 (res_main_while0b_v94 V0) : (Proc.devRef .tc main_while0b_call4_v0 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (constantI S_ 32 0#32 : (Proc.devRef .tc main_while0b_call4_c : DevRef τ sig).ty.Contents (Elt F)) = Cert.ReferenceIdeal.Step.b9 j s := by
  unfold Cert.ReferenceIdeal.Step.b9
  rfl
set_option maxRecDepth 8192 in
theorem al_10 (h : Holds V0 s j) : (Host.dynamicUpdateSlice (V0 (Proc.devRef .tc main_v74_4)) (broadcastInDim S1x1024 ![1] bcast_S1024_S1x1024_1 (res_main_while0b_v94 V0)) (fun k => (((![V0 (Proc.devRef .tc main_v74_2), constantI S_ 32 0#32] : Fin 2 → (⟨S_, .i32⟩ : BufTy).Contents (Elt F))) k (Shape.Idx.first h_S_)).toInt) updateFits_S8192x1024_S1x1024 : (Proc.devRef .tc main_while0b_v95 : DevRef τ sig).ty.Contents (Elt F)) = Cert.ReferenceIdeal.Step.b10 j s := by
  unfold Cert.ReferenceIdeal.Step.b10
  rw [← al_8 h, ← al_9 h, h.f_4, h.n_2]
  try rfl

/-! One trip's step of the carried values is `step`, field by field; a counter steps to the next number. -/

theorem step_3 (h : Holds V0 s j) : step_main_v74_3 V0 = (step j s).main_v74_3 := by
  unfold step_main_v74_3 Cert.ReferenceIdeal.Step.step
  show id (res_main_while0b_v94 V0) = _
  rw [al_7 h]
  try rfl
theorem step_4 (h : Holds V0 s j) : step_main_v74_4 V0 = (step j s).main_v74_4 := by
  unfold step_main_v74_4 Cert.ReferenceIdeal.Step.step
  show id (Host.dynamicUpdateSlice (V0 (Proc.devRef .tc main_v74_4)) (broadcastInDim S1x1024 ![1] bcast_S1024_S1x1024_1 (res_main_while0b_v94 V0)) (fun k => (((![V0 (Proc.devRef .tc main_v74_2), constantI S_ 32 0#32] : Fin 2 → (⟨S_, .i32⟩ : BufTy).Contents (Elt F))) k (Shape.Idx.first h_S_)).toInt) updateFits_S8192x1024_S1x1024) = _
  exact al_10 h
theorem step_2 (h : Holds V0 s j) : step_main_v74_2 V0 = constantI S_ 32 (BitVec.ofNat 32 (j + 1)) := by
  unfold step_main_v74_2
  rw [h.n_2]
  funext i
  show BitVec.ofNat 32 j + 1#32 = BitVec.ofNat 32 (j + 1)
  simp only [BitVec.ofNat_add]

set_option maxRecDepth 8192 in
theorem out_main_v90_holds (h : Holds V0 s j) {x_main_arg0 : (⟨S8192x4608, .f32⟩ : BufTy).Contents (Elt F)} (h_main_arg0 : V0 (Proc.devRef .tc main_arg0) = x_main_arg0) : out_main_v90 V0 = Cert.ReferenceIdeal.Step.R_main_v90 s x_main_arg0 := by
  unfold out_main_v90 Cert.ReferenceIdeal.Step.R_main_v90
  rw [h.f_4, h_main_arg0]
  try rfl

/-- One trip keeps the valuation holding: `step` of the state, the same set-up values, the next number. -/
theorem holds_step (h : Holds V0 s j) : Holds (STEP V0) (step j s) (j + 1) where
  f_3 := (STEP_main_v74_3 V0).trans (step_3 h)
  f_4 := (STEP_main_v74_4 V0).trans (step_4 h)
  n_2 := (STEP_main_v74_2 V0).trans (step_2 h)
  f_0 := (STEP_main_v74_0 V0).trans h.f_0
  f_1 := (STEP_main_v74_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v90) = Cert.ReferenceIdeal.Step.R_main_v90 (it c 8192) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 8192
    ⟨(h c).1.trans (out_main_v90_holds hk (iter_main_arg0 m c 8192)), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.Trips

end
-- ==== Proof.Math.lean ====
/- The recurrence of the gated linear unit over the extended reals: its four-row convolution, its two gates, its decay and
   its drive, element by element; and the facts the kernel's tiled scan needs, that a decay is a real number between zero
   and one and that the square root's argument has the two spellings the programs use. -/
module

public import Idealize.ShloMosaic.Lib.Pointwise

@[expose] public section

set_option maxRecDepth 16384

noncomputable section

namespace Cert.Lru

open Idealize.ShloMosaic

/-! ## A first-order recurrence -/

/-- The state before step `n`. -/
def scan (a b : ℕ → EReal) : ℕ → EReal
  | 0 => 0
  | n + 1 => a n * scan a b n + b n

/-- A multiplier that distributes over every sum of extended reals: a non-negative real. -/
def Tame (x : EReal) : Prop := ∃ r : ℝ, 0 ≤ r ∧ x = r

theorem Tame.distrib {x : EReal} (h : Tame x) (y z : EReal) : x * (y + z) = x * y + x * z := by
  obtain ⟨r, h0, rfl⟩ := h
  exact EReal.left_distrib_of_nonneg_of_ne_top (EReal.coe_nonneg.mpr h0) (EReal.coe_ne_top r) y z

/-! ## Scalars -/

theorem bits_neg_eight : Ideal.ofBits .f32 3238002688#32 = ((-8 : ℝ) : EReal) := by
  simp [Ideal.ofBits, Ideal.ieee, -EReal.coe_mul]; norm_num

theorem bits_two : Ideal.ofBits .f32 1073741824#32 = ((2 : ℝ) : EReal) := by
  simp [Ideal.ofBits, Ideal.ieee, -EReal.coe_mul]; try norm_num

/-- The softplus of `-x`. -/
def soft (x : EReal) : EReal := max (-x) 0 + Ideal.log1p (Ideal.exp (-FloatOps.absf (F := Ideal) (φ := .f32) (-x)))

theorem exp_nonneg (x : EReal) : 0 ≤ Ideal.exp x := by
  induction x using EReal.rec with
  | bot => exact le_refl _
  | top => exact le_top
  | coe r => exact EReal.coe_nonneg.mpr (Real.exp_pos r).le

theorem log1p_nonneg (x : EReal) (h : 0 ≤ x) : 0 ≤ Ideal.log1p x := by
  unfold Ideal.log1p
  induction x using EReal.rec with
  | bot => exact absurd h (by simp)
  | top => exact le_top (a := (0 : EReal))
  | coe r =>
    have h' : 0 ≤ r := EReal.coe_nonneg.mp h
    rw [show (1 : EReal) + (r : EReal) = ((1 + r : ℝ) : EReal) by push_cast; rfl]
    show (0 : EReal) ≤ if 1 + r ≤ 0 then ⊥ else ((Real.log (1 + r) : ℝ) : EReal)
    rw [if_neg (by linarith)]
    exact EReal.coe_nonneg.mpr (Real.log_nonneg (by linarith))

theorem soft_nonneg (x : EReal) : 0 ≤ soft x :=
  add_nonneg (le_max_right _ _) (log1p_nonneg _ (exp_nonneg _))

/-- A logistic is a real number that is not negative. -/
theorem logistic_tame (x : EReal) : Tame (Ideal.logistic x) := by
  unfold Ideal.logistic Ideal.div
  have h : Ideal.exp (-x) = ⊤ ∨ ∃ r : ℝ, 0 ≤ r ∧ Ideal.exp (-x) = r := by
    generalize -x = y
    induction y using EReal.rec with
    | bot => exact .inr ⟨0, le_refl _, rfl⟩
    | top => exact .inl rfl
    | coe r => exact .inr ⟨Real.exp r, (Real.exp_pos r).le, rfl⟩
  rcases h with h | ⟨r, h0, h⟩
  · rw [h]
    refine ⟨0, le_refl _, ?_⟩
    rw [show (1 : EReal) + ⊤ = ⊤ from rfl]
    simp
  · rw [h, show (1 : EReal) + (r : EReal) = ((1 + r : ℝ) : EReal) by push_cast; rfl,
      if_neg (by rw [← EReal.coe_zero, EReal.coe_eq_coe_iff]; linarith)]
    refine ⟨(1 + r)⁻¹, by positivity, ?_⟩
    rw [one_mul, EReal.coe_inv]

/-- The logarithm of the decay, of the gate `r` and the parameter `x`. -/
def logDecay (r x : EReal) : EReal := Ideal.ofBits .f32 3238002688#32 * r * soft x

theorem logDecay_cases (r x : EReal) (h : Tame r) : logDecay r x = ⊥ ∨ ∃ l : ℝ, logDecay r x = l := by
  obtain ⟨ρ, h0, rfl⟩ := h
  unfold logDecay
  rw [bits_neg_eight, ← EReal.coe_mul]
  have hs := soft_nonneg x
  generalize soft x = s at hs
  induction s using EReal.rec with
  | bot => exact absurd hs (by simp)
  | top =>
    rcases h0.eq_or_lt with rfl | hp
    · exact .inr ⟨0, by simp⟩
    · exact .inl (EReal.coe_mul_top_of_neg (by linarith))
  | coe q => exact .inr ⟨_, (EReal.coe_mul _ _).symm⟩

theorem decay_tame (r x : EReal) (h : Tame r) : Tame (Ideal.exp (logDecay r x)) := by
  rcases logDecay_cases r x h with e | ⟨l, e⟩ <;> rw [e]
  · exact ⟨0, le_refl _, rfl⟩
  · exact ⟨Real.exp l, (Real.exp_pos l).le, rfl⟩

/-- `-tanh l · (e^l · e^l + 1) = -(e^(2 l) - 1)`. -/
theorem gap (r x : EReal) (h : Tame r) :
    (0 - Ideal.tanh (logDecay r x)) * (Ideal.exp (logDecay r x) * Ideal.exp (logDecay r x) + 1)
      = -(Ideal.exp (Ideal.ofBits .f32 1073741824#32 * logDecay r x) - 1) := by
  rw [bits_two]
  rcases logDecay_cases r x h with e | ⟨l, e⟩ <;> rw [e]
  · rw [EReal.coe_mul_bot_of_pos (by norm_num)]
    show ((0 : EReal) - (-1)) * (0 * 0 + 1) = -(0 - 1)
    simp
  · rw [← EReal.coe_mul]
    show (0 - ((Real.tanh l : ℝ) : EReal)) * (((Real.exp l : ℝ) : EReal) * ((Real.exp l : ℝ) : EReal) + 1) = -(((Real.exp (2 * l) : ℝ) : EReal) - 1)
    have key : (0 - Real.tanh l) * (Real.exp l * Real.exp l + 1) = -(Real.exp (2 * l) - 1) := by
      have hpos := Real.exp_pos l
      rw [Real.tanh_eq_sinh_div_cosh, Real.sinh_eq, Real.cosh_eq, Real.exp_neg, show Real.exp (2 * l) = Real.exp l * Real.exp l by rw [← Real.exp_add]; ring_nf]
      field_simp
      ring
    have key' := congrArg (fun z : ℝ => (z : EReal)) key
    push_cast at key'
    exact key'

/-! ## The arrays -/

section Arrays

variable (P : FVec Ideal ⟨2, ![8192, 4608]⟩ .f32) (cw : FVec Ideal ⟨2, ![4, 1024]⟩ .f32) (cb : FVec Ideal ⟨1, ![1024]⟩ .f32)
  (wa : FVec Ideal ⟨3, ![8, 128, 128]⟩ .f32) (ba : FVec Ideal ⟨1, ![1024]⟩ .f32) (wi : FVec Ideal ⟨3, ![8, 128, 128]⟩ .f32)
  (bi : FVec Ideal ⟨1, ![1024]⟩ .f32) (lam : FVec Ideal ⟨1, ![1024]⟩ .f32)

/-- The recurrence branch's row `n - 3`, zero before the first. -/
def padded (n : ℕ) (j : Fin 1024) : EReal :=
  if h : 3 ≤ n ∧ n - 3 < 8192 then P (ix2 ⟨n - 3, h.2⟩ ⟨2048 + j.val, by omega⟩) else 0

/-- The convolved row. -/
def conv (t : ℕ) (j : Fin 1024) : EReal :=
  padded P t j * cw (ix2 0 j) + padded P (t + 1) j * cw (ix2 1 j) + padded P (t + 2) j * cw (ix2 2 j)
    + padded P (t + 3) j * cw (ix2 3 j) + cb (ix1 j)

/-- A gate's product with its block of the block-diagonal weights. -/
def blockDot (w : FVec Ideal ⟨3, ![8, 128, 128]⟩ .f32) (t : ℕ) (j : Fin 1024) : EReal :=
  ∑ x : Fin 128, w (ix3 ⟨j.val / 128, by omega⟩ x ⟨j.val % 128, Nat.mod_lt _ (by decide)⟩)
    * conv P cw cb t ⟨j.val / 128 * 128 + x.val, by omega⟩

def gate (w : FVec Ideal ⟨3, ![8, 128, 128]⟩ .f32) (b : FVec Ideal ⟨1, ![1024]⟩ .f32) (t : ℕ) (j : Fin 1024) : EReal :=
  Ideal.logistic (blockDot P cw cb w t j + b (ix1 j))

def decay (t : ℕ) (j : Fin 1024) : EReal := Ideal.exp (logDecay (gate P cw cb wa ba t j) (lam (ix1 j)))

def drive (t : ℕ) (j : Fin 1024) : EReal :=
  Ideal.sqrt (-(Ideal.exp (Ideal.ofBits .f32 1073741824#32 * logDecay (gate P cw cb wa ba t j) (lam (ix1 j))) - 1))
    * (gate P cw cb wi bi t j * conv P cw cb t j)

/-- The state before row `t`. -/
def state (t : ℕ) (j : Fin 1024) : EReal :=
  scan (fun n => decay P cw cb wa ba lam n j) (fun n => drive P cw cb wa ba wi bi lam n j) t

/-- The gelu of the other branch. -/
def act (y : EReal) : EReal :=
  y * (Ideal.ofBits .f32 1056964608#32 * (1 + Ideal.tanh (Ideal.ofBits .f32 1061962282#32
    * (y + Ideal.ofBits .f32 1027024659#32 * (y * y * y)))))

/-- The result. -/
def result : FVec Ideal ⟨2, ![8192, 1024]⟩ .bf16 := fun i =>
  act (P (ix2 (n0 := 8192) (n1 := 4608) (i 0) ⟨1024 + (i 1).val, by have h : (i 1).val < 1024 := (i 1).isLt; omega⟩))
    * state P cw cb wa ba wi bi lam ((i 0).val + 1) (i 1)

theorem gate_tame (w : FVec Ideal ⟨3, ![8, 128, 128]⟩ .f32) (b : FVec Ideal ⟨1, ![1024]⟩ .f32) (t : ℕ) (j : Fin 1024) :
    Tame (gate P cw cb w b t j) := logistic_tame _

theorem decay_is_tame (t : ℕ) (j : Fin 1024) : Tame (decay P cw cb wa ba lam t j) := decay_tame _ _ (logistic_tame _)

end Arrays

end Cert.Lru

end
-- ==== Proof.RefVal.lean ====
/- The reference's arrays, element by element, and its result: the recurrence of `Math`. -/
module

public import proofs.«01_k».proof.Proof.Math
public import proofs.«01_k».proof.Proof.RefRun
public import Idealize.ShloMosaic.Lib.Pointwise

@[expose] public section

set_option maxRecDepth 16384

noncomputable section

namespace Cert.RefVal

open Idealize.ShloMosaic Cert.ReferenceIdeal Cert.ReferenceIdeal.Gen Cert.ReferenceIdeal.Step

variable (a0 : FVec Ideal S8192x4608 .f32) (a1 : FVec Ideal S4x1024 .f32) (a2 : FVec Ideal S1024 .f32)
  (a3 : FVec Ideal S8x128x128 .f32) (a4 : FVec Ideal S1024 .f32) (a5 : FVec Ideal S8x128x128 .f32)
  (a6 : FVec Ideal S1024 .f32) (a7 : FVec Ideal S1024 .f32)

theorem zero_word : FloatOps.sitofp (F := Ideal) .f32 0#32 = (0 : EReal) := by
  show (((0#32).toInt : ℝ) : EReal) = 0
  simp

theorem conv_at (t : Fin 8192) (j : Fin 1024) :
    A_main_v31 (F := Ideal) a0 a1 a2 a3 a4 a5 a6 a7 (ix2 t j) = Lru.conv a0 a1 a2 t j := by
  pointwise [A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, A_main_v0, K_main_call0_v0, K_main_c]
  unfold Lru.conv Lru.padded
  simp only [zero_word, Nat.add_comm 1, Nat.add_comm 2, dif_pos (show 3 ≤ t.val + 3 ∧ t.val + 3 - 3 < 8192 by omega)]
  rfl

theorem gateR_at (t : Fin 8192) (j : Fin 1024) :
    A_main_v44 (F := Ideal) a0 a1 a2 a3 a4 a5 a6 a7 (ix2 t j) = Lru.gate a0 a1 a2 a3 a4 t j := by
  pointwise [A_main_v44, A_main_v42, A_main_v40, A_main_v39, A_main_v38, A_main_v37, A_main_v36, A_main_v35, A_main_v34,
    A_main_v33, A_main_v32, K_main_v43, K_main_v41, K_main_cst, K_main_cst_0]
  simp only [conv_at]
  unfold Lru.gate Lru.blockDot Ideal.logistic
  rfl

theorem gateI_at (t : Fin 8192) (j : Fin 1024) :
    A_main_v56 (F := Ideal) a0 a1 a2 a3 a4 a5 a6 a7 (ix2 t j) = Lru.gate a0 a1 a2 a5 a6 t j := by
  pointwise [A_main_v56, A_main_v54, A_main_v52, A_main_v51, A_main_v50, A_main_v49, A_main_v48, A_main_v47, A_main_v46,
    A_main_v45, A_main_v32, K_main_v53, K_main_v55, K_main_cst_1, K_main_cst_2]
  simp only [conv_at]
  unfold Lru.gate Lru.blockDot Ideal.logistic
  rfl

theorem log_at (t : Fin 8192) (j : Fin 1024) :
    A_main_v63 (F := Ideal) a0 a1 a2 a3 a4 a5 a6 a7 (ix2 t j) = Lru.logDecay (Lru.gate a0 a1 a2 a3 a4 t j) (a7 (ix1 j)) := by
  pointwise [A_main_v63, A_main_v62, A_main_v61, A_main_v60, A_main_v59, A_main_v58, A_main_call1_v1, A_main_call1_v3,
    A_main_call1_v4, A_main_call1_v6, A_main_call1_v7, A_main_call1_v8, A_main_call1_v9, A_main_call1_v10, A_main_call1_v11,
    K_main_v57, K_main_cst_3, K_main_call1_cst, K_main_call1_v0, K_main_call1_v2, K_main_call1_v5]
  rw [gateR_at]
  unfold Lru.logDecay Lru.soft
  rw [if_neg (fun h => h rfl)]

theorem decay_at (t : Fin 8192) (j : Fin 1024) :
    A_main_v64 (F := Ideal) a0 a1 a2 a3 a4 a5 a6 a7 (ix2 t j) = Lru.decay a0 a1 a2 a3 a4 a7 t j := by
  pointwise [A_main_v64]
  rw [log_at]
  rfl

theorem drive_at (t : Fin 8192) (j : Fin 1024) :
    A_main_v71 (F := Ideal) a0 a1 a2 a3 a4 a5 a6 a7 (ix2 t j) = Lru.drive a0 a1 a2 a3 a4 a5 a6 a7 t j := by
  pointwise [A_main_v71, A_main_v70, A_main_v69, A_main_v68, A_main_v67, A_main_v66, K_main_v65, K_main_cst_4]
  rw [log_at, gateI_at, conv_at]
  unfold Lru.drive
  rfl

/-! ## The rows, one by one -/

theorem int_small (n : ℕ) (hn : n < 8192) : (BitVec.ofNat 32 n).toInt = n := by
  rw [BitVec.toInt_eq_toNat_of_lt] <;> simp [BitVec.toNat_ofNat] <;> omega

/-- Where the scan's slice of row `n` starts. -/
theorem start_row (n : ℕ) (hn : n < 8192) :
    Host.clampedStart S8192x1024 S1x1024 rfl (fun k => BitVec.toInt
      ((![constantI S_ 32 (BitVec.ofNat 32 n), constantI S_ 32 0#32] : Fin 2 → IVec S_ 32) k (Shape.Idx.first h_S_))) 0 = n :=
  Host.clampedStart_of_le (s := S8192x1024) (t := S1x1024) rfl _ 0 n (int_small n hn) (by show n + 1 ≤ 8192; omega)

theorem start_col (n : ℕ) :
    Host.clampedStart S8192x1024 S1x1024 rfl (fun k => BitVec.toInt
      ((![constantI S_ 32 (BitVec.ofNat 32 n), constantI S_ 32 0#32] : Fin 2 → IVec S_ 32) k (Shape.Idx.first h_S_))) 1 = 0 :=
  Host.clampedStart_of_le (s := S8192x1024) (t := S1x1024) rfl _ 1 0 (by show (0#32).toInt = 0; decide) (by show 0 + 1024 ≤ 1024; omega)

theorem carry_at (n : ℕ) (hn : n < 8192) (s : State Ideal) (j : Fin 1024) :
    b7 n s (ix1 j) = s.main_v74_0 (ix2 ⟨n, hn⟩ j) * s.main_v74_3 (ix1 j) + s.main_v74_1 (ix2 ⟨n, hn⟩ j) := by
  pointwise [b7, b6, b5, b4, b3, b2, b1, b0]
  simp only [start_row n hn, start_col n, Nat.zero_add]

theorem row_at (n : ℕ) (hn : n < 8192) (s : State Ideal) (t : Fin 8192) (j : Fin 1024) :
    b10 n s (ix2 t j) = if t.val = n then b7 n s (ix1 j) else s.main_v74_4 (ix2 t j) := by
  pointwise [b10, b9, b8]
  simp only [start_row n hn, start_col n, Nat.sub_zero]
  by_cases h : t.val = n
  · rw [if_pos h, dif_pos ⟨⟨h.ge, by omega⟩, Nat.zero_le _⟩]
  · rw [if_neg h, dif_neg (by omega)]

theorem res_at (s : State Ideal) (t : Fin 8192) (j : Fin 1024) :
    R_main_v90 s a0 (ix2 t j) = Lru.act (a0 (ix2 t ⟨1024 + j.val, by omega⟩)) * s.main_v74_4 (ix2 t j) := by
  pointwise [R_main_v90]
  rfl

/-- After `n` steps: the state before row `n`, and the rows below `n` written. -/
theorem iter_at (it : ℕ → State Ideal) (h0 : it 0 = init a0 a1 a2 a3 a4 a5 a6 a7) (hs : ∀ n, it (n + 1) = step n (it n)) (n : ℕ) (hn : n ≤ 8192) :
    (∀ j, (it n).main_v74_3 (ix1 j) = Lru.state a0 a1 a2 a3 a4 a5 a6 a7 n j)
      ∧ (∀ (t : Fin 8192) (j : Fin 1024), t.val < n →
          (it n).main_v74_4 (ix2 t j) = Lru.state a0 a1 a2 a3 a4 a5 a6 a7 (t.val + 1) j)
      ∧ (∀ (t : Fin 8192) (j : Fin 1024), (it n).main_v74_0 (ix2 t j) = Lru.decay a0 a1 a2 a3 a4 a7 t j)
      ∧ (∀ (t : Fin 8192) (j : Fin 1024), (it n).main_v74_1 (ix2 t j) = Lru.drive a0 a1 a2 a3 a4 a5 a6 a7 t j) := by
  induction n with
  | zero =>
    rw [h0]
    refine ⟨fun j => ?_, fun t j h => absurd h (Nat.not_lt_zero _), fun t j => decay_at .., fun t j => drive_at ..⟩
    show K_main_v72 (F := Ideal) (ix1 j) = 0
    pointwise [K_main_v72, K_main_cst_5]
  | succ n ih =>
    obtain ⟨hc, hr, ha, hb⟩ := ih (by omega)
    have hcarry : ∀ j, b7 n (it n) (ix1 j) = Lru.state a0 a1 a2 a3 a4 a5 a6 a7 (n + 1) j := fun j => by
      rw [carry_at n (by omega), ha, hb, hc]; rfl
    rw [hs]
    refine ⟨hcarry, fun t j h => ?_, ha, hb⟩
    show b10 n (it n) (ix2 t j) = _
    rw [row_at n (by omega)]
    by_cases e : t.val = n
    · rw [if_pos e, hcarry, e]
    · rw [if_neg e, hr t j (by omega)]

/-- The reference's result. -/
theorem result_eq (it : ℕ → State Ideal) (h0 : it 0 = init a0 a1 a2 a3 a4 a5 a6 a7) (hs : ∀ n, it (n + 1) = step n (it n)) :
    R_main_v90 (it 8192) a0 = Lru.result a0 a1 a2 a3 a4 a5 a6 a7 := by
  funext i
  idx_vars i
  rw [res_at, (iter_at a0 a1 a2 a3 a4 a5 a6 a7 it h0 hs 8192 le_rfl).2.1 _ _ (Fin.isLt _)]
  rfl

end Cert.RefVal

end
-- ==== Proof.Closed.lean ====
/- One grid point of the recurrence kernel, run once for any reading of the float operations: what the body leaves in the
   output block and in the two scratch buffers it carries to the next point, as functions of the input blocks and of what
   the point before left in those two buffers. -/
module

public import proofs.«01_k».proof.Proof.Gen.KernelIdeal.Loops
public import proofs.«01_k».proof.Proof.Gen.KernelIdeal.Frame
public import Idealize.ShloMosaic.Lib.VecWindow
public import Idealize.ShloMosaic.Lib.WholeRead
public import Idealize.ShloMosaic.Lib.Pipeline.ValueKit.Acc

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The point's values in closed form -/

/-- Rows `8k … 8k+7` of a block of 256 rows. -/
def tile (A : Vec F S256x1024 .f32) (k : Fin k0_t1_loop.trips) : Vec F S8x1024 .f32 :=
  View.ld A (Rect.unit (k0_off1 k) S8x1024.size (k0_off1_inb k))

/-- The carried row before tile `k`. -/
def hcar (A B : Vec F S256x1024 .f32) (h : Vec F S1x1024 .f32) : ℕ → Vec F S1x1024 .f32
  | 0 => h
  | k + 1 => if hk : k < k0_t1_loop.trips then k0_pay38 (hcar A B h k) (tile A ⟨k, hk⟩) (tile B ⟨k, hk⟩) else hcar A B h k

theorem hcar_succ (A B : Vec F S256x1024 .f32) (h : Vec F S1x1024 .f32) (k : ℕ) (hk : k < k0_t1_loop.trips) :
    hcar A B h (k + 1) = k0_pay38 (hcar A B h k) (tile A ⟨k, hk⟩) (tile B ⟨k, hk⟩) := dif_pos hk

theorem trips_eq : k0_t1_loop.trips = 32 := by decide +kernel

/-- The tile a row lies in. -/
def tileOf (y : S256x1024.Idx) : Fin k0_t1_loop.trips :=
  ⟨(y 0).val / 8, by rw [trips_eq]; have : (y 0).val < 256 := (y 0).isLt; omega⟩

/-- The row's place inside its tile. -/
def inTile (y : S256x1024.Idx) : S8x1024.Idx
  | 0 => ⟨(y 0).val % 8, Nat.mod_lt _ (by decide)⟩
  | 1 => y 1

/-- The 256 states of the block. -/
def hseq (A B : Vec F S256x1024 .f32) (h : Vec F S1x1024 .f32) : Vec F S256x1024 .f32 := fun y =>
  k0_pay37 (hcar A B h (tileOf y).val) (tile A (tileOf y)) (tile B (tileOf y)) (inTile y)

/-- One row of the four convolution weights. -/
def wrow0 (x : Vec F S4x1024 .f32) : Vec F S1x1024 .f32 := View.ld x (Rect.unit (s := S4x1024) ![0, 0] S1x1024.size inb_S4x1024_S1x1024_0_0)
def wrow1 (x : Vec F S4x1024 .f32) : Vec F S1x1024 .f32 := View.ld x (Rect.unit (s := S4x1024) ![1, 0] S1x1024.size inb_S4x1024_S1x1024_1_0)
def wrow2 (x : Vec F S4x1024 .f32) : Vec F S1x1024 .f32 := View.ld x (Rect.unit (s := S4x1024) ![2, 0] S1x1024.size inb_S4x1024_S1x1024_2_0)
def wrow3 (x : Vec F S4x1024 .f32) : Vec F S1x1024 .f32 := View.ld x (Rect.unit (s := S4x1024) ![3, 0] S1x1024.size inb_S4x1024_S1x1024_3_0)

/-- Block 0 of the block-diagonal gate weights. -/
def gblk0 (x : Vec F S8x128x128 .f32) : Vec F S1x128x128 .f32 := View.ld x (Rect.unit (s := S8x128x128) ![0, 0, 0] S1x128x128.size inb_S8x128x128_S1x128x128_0_0_0)
/-- Block 1 of the block-diagonal gate weights. -/
def gblk1 (x : Vec F S8x128x128 .f32) : Vec F S1x128x128 .f32 := View.ld x (Rect.unit (s := S8x128x128) ![1, 0, 0] S1x128x128.size inb_S8x128x128_S1x128x128_1_0_0)
/-- Block 2 of the block-diagonal gate weights. -/
def gblk2 (x : Vec F S8x128x128 .f32) : Vec F S1x128x128 .f32 := View.ld x (Rect.unit (s := S8x128x128) ![2, 0, 0] S1x128x128.size inb_S8x128x128_S1x128x128_2_0_0)
/-- Block 3 of the block-diagonal gate weights. -/
def gblk3 (x : Vec F S8x128x128 .f32) : Vec F S1x128x128 .f32 := View.ld x (Rect.unit (s := S8x128x128) ![3, 0, 0] S1x128x128.size inb_S8x128x128_S1x128x128_3_0_0)
/-- Block 4 of the block-diagonal gate weights. -/
def gblk4 (x : Vec F S8x128x128 .f32) : Vec F S1x128x128 .f32 := View.ld x (Rect.unit (s := S8x128x128) ![4, 0, 0] S1x128x128.size inb_S8x128x128_S1x128x128_4_0_0)
/-- Block 5 of the block-diagonal gate weights. -/
def gblk5 (x : Vec F S8x128x128 .f32) : Vec F S1x128x128 .f32 := View.ld x (Rect.unit (s := S8x128x128) ![5, 0, 0] S1x128x128.size inb_S8x128x128_S1x128x128_5_0_0)
/-- Block 6 of the block-diagonal gate weights. -/
def gblk6 (x : Vec F S8x128x128 .f32) : Vec F S1x128x128 .f32 := View.ld x (Rect.unit (s := S8x128x128) ![6, 0, 0] S1x128x128.size inb_S8x128x128_S1x128x128_6_0_0)
/-- Block 7 of the block-diagonal gate weights. -/
def gblk7 (x : Vec F S8x128x128 .f32) : Vec F S1x128x128 .f32 := View.ld x (Rect.unit (s := S8x128x128) ![7, 0, 0] S1x128x128.size inb_S8x128x128_S1x128x128_7_0_0)

/-- The convolved block: `x0` the block's rows, `X` the eight rows before it, `x2` the weights, `x3` the bias. -/
def convOf (x0 : Vec F S256x1024 .f32) (X : Vec F S8x1024 .f32) (x2 : Vec F S4x1024 .f32) (x3 : Vec F S1x1024 .f32) : Vec F S256x1024 .f32 :=
  k0_pay8 x0 (k0_pay4 x0 X x3 (wrow0 x2) (wrow1 x2)) (k0_pay5 x0) k0_pay6 (k0_pay7 X) (wrow2 x2) (wrow3 x2)

/-- The block as the gates' products take it. -/
def cutOf (x0 : Vec F S256x1024 .f32) (X : Vec F S8x1024 .f32) (x2 : Vec F S4x1024 .f32) (x3 : Vec F S1x1024 .f32) : FVec F S256x1024 .bf16 :=
  k0_pay10 x0 (k0_pay4 x0 X x3 (wrow0 x2) (wrow1 x2)) (k0_pay5 x0) k0_pay6 (k0_pay7 X) (wrow2 x2) (wrow3 x2)

/-- The input gate over the block. -/
def gateI (x0 : Vec F S256x1024 .f32) (X : Vec F S8x1024 .f32) (x2 : Vec F S4x1024 .f32) (x3 : Vec F S1x1024 .f32) (x6 : Vec F S8x128x128 .f32) (x7 : Vec F S1x1024 .f32) : FVec F S256x1024 .f32 :=
  k0_pay30 (cutOf x0 X x2 x3)
    (k0_pay13 x0 (k0_pay4 x0 X x3 (wrow0 x2) (wrow1 x2)) (k0_pay5 x0) k0_pay6 (k0_pay7 X) (wrow2 x2) (wrow3 x2) (gblk0 x6))
    (k0_pay16 x0 (k0_pay4 x0 X x3 (wrow0 x2) (wrow1 x2)) (k0_pay5 x0) k0_pay6 (k0_pay7 X) (wrow2 x2) (wrow3 x2) (gblk1 x6))
    (k0_pay19 (k0_pay17 x0 (k0_pay4 x0 X x3 (wrow0 x2) (wrow1 x2)) (k0_pay5 x0) k0_pay6 (k0_pay7 X) (wrow2 x2) (wrow3 x2)) (gblk2 x6))
    (k0_pay22 (cutOf x0 X x2 x3) (gblk3 x6)) (k0_pay25 (cutOf x0 X x2 x3) (gblk4 x6)) (k0_pay26 (cutOf x0 X x2 x3)) (gblk5 x6) (gblk6 x6) (gblk7 x6) x7

/-- Minus eight times the recurrence gate over the block. -/
def gateR (x0 : Vec F S256x1024 .f32) (X : Vec F S8x1024 .f32) (x2 : Vec F S4x1024 .f32) (x3 : Vec F S1x1024 .f32) (x4 : Vec F S8x128x128 .f32) (x5 : Vec F S1x1024 .f32) : FVec F S256x1024 .f32 :=
  k0_pay31 (cutOf x0 X x2 x3)
    (k0_pay12 x0 (k0_pay4 x0 X x3 (wrow0 x2) (wrow1 x2)) (k0_pay5 x0) k0_pay6 (k0_pay7 X) (wrow2 x2) (wrow3 x2) (gblk0 x4))
    (k0_pay15 x0 (k0_pay4 x0 X x3 (wrow0 x2) (wrow1 x2)) (k0_pay5 x0) k0_pay6 (k0_pay7 X) (wrow2 x2) (wrow3 x2) (gblk1 x4))
    (k0_pay18 (k0_pay17 x0 (k0_pay4 x0 X x3 (wrow0 x2) (wrow1 x2)) (k0_pay5 x0) k0_pay6 (k0_pay7 X) (wrow2 x2) (wrow3 x2)) (gblk2 x4))
    (k0_pay21 (cutOf x0 X x2 x3) (gblk3 x4)) (k0_pay24 (cutOf x0 X x2 x3) (gblk4 x4)) (k0_pay27 (cutOf x0 X x2 x3) (gblk5 x4)) (gblk6 x4) (gblk7 x4) x5

/-- The block's decays and inputs. -/
def decay (x0 : Vec F S256x1024 .f32) (x1 : Vec F S256x1024 .f32) (x2 : Vec F S4x1024 .f32) (x3 : Vec F S1x1024 .f32) (x4 : Vec F S8x128x128 .f32) (x5 : Vec F S1x1024 .f32) (x6 : Vec F S8x128x128 .f32) (x7 : Vec F S1x1024 .f32) (x8 : Vec F S1x1024 .f32) (X : Vec F S8x1024 .f32) : Vec F S256x1024 .f32 := k0_pay34 (gateR x0 X x2 x3 x4 x5) x8
def drive (x0 : Vec F S256x1024 .f32) (x1 : Vec F S256x1024 .f32) (x2 : Vec F S4x1024 .f32) (x3 : Vec F S1x1024 .f32) (x4 : Vec F S8x128x128 .f32) (x5 : Vec F S1x1024 .f32) (x6 : Vec F S8x128x128 .f32) (x7 : Vec F S1x1024 .f32) (x8 : Vec F S1x1024 .f32) (X : Vec F S8x1024 .f32) : Vec F S256x1024 .f32 :=
  k0_pay35 (convOf x0 X x2 x3) (gateI x0 X x2 x3 x6 x7) (gateR x0 X x2 x3 x4 x5) x8

/-- What the point leaves in the output block, and the row it carries on. -/
def outB (x0 : Vec F S256x1024 .f32) (x1 : Vec F S256x1024 .f32) (x2 : Vec F S4x1024 .f32) (x3 : Vec F S1x1024 .f32) (x4 : Vec F S8x128x128 .f32) (x5 : Vec F S1x1024 .f32) (x6 : Vec F S8x128x128 .f32) (x7 : Vec F S1x1024 .f32) (x8 : Vec F S1x1024 .f32) (X : Vec F S8x1024 .f32) (H : Vec F S1x1024 .f32) : Vec F S256x1024 .bf16 :=
  k0_pay1 x1 (hseq (decay x0 x1 x2 x3 x4 x5 x6 x7 x8 X) (drive x0 x1 x2 x3 x4 x5 x6 x7 x8 X) H)
def outH (x0 : Vec F S256x1024 .f32) (x1 : Vec F S256x1024 .f32) (x2 : Vec F S4x1024 .f32) (x3 : Vec F S1x1024 .f32) (x4 : Vec F S8x128x128 .f32) (x5 : Vec F S1x1024 .f32) (x6 : Vec F S8x128x128 .f32) (x7 : Vec F S1x1024 .f32) (x8 : Vec F S1x1024 .f32) (X : Vec F S8x1024 .f32) (H : Vec F S1x1024 .f32) : Vec F S1x1024 .f32 :=
  k0_pay39 (hcar (decay x0 x1 x2 x3 x4 x5 x6 x7 x8 X) (drive x0 x1 x2 x3 x4 x5 x6 x7 x8 X) H k0_t1_loop.trips)

/-! ## The loop over tiles -/

/-- Inside the newest tile a read gives the tile's value, -/
theorem rows_hit (v : View sig .tc .vmem S256x1024 .f32) (f : BufTy.Contents (Elt F) v.ty) (L : List (View.Piece (Elt F) S256x1024 .f32))
    (k : Fin k0_t1_loop.trips) (W : Vec F S8x1024 .f32) (y : S256x1024.Idx) (h : (y 0).val / 8 = k.val) :
    v.read (Elt F) (v.writes (Elt F) f (⟨Rect.unit (k0_off1 k) S8x1024.size (k0_off1_inb k), W⟩ :: L)) y = W (inTile y) :=
  View.read_writes_cons_unit_of_mem v f (k0_off1_inb k) W L y (inTile y) (k0_off1_eq k)
    (Fin.forall_fin_two.mpr ⟨by show (y 0).val = 8 * k.val + (y 0).val % 8; omega, by show (y 1).val = 0 + (y 1).val; omega⟩)

/-- and above it what the older tiles gave. -/
theorem rows_miss (v : View sig .tc .vmem S256x1024 .f32) (f : BufTy.Contents (Elt F) v.ty) (L : List (View.Piece (Elt F) S256x1024 .f32))
    (k : Fin k0_t1_loop.trips) (W : Vec F S8x1024 .f32) (y : S256x1024.Idx) (h : (y 0).val < 8 * k.val) :
    v.read (Elt F) (v.writes (Elt F) f (⟨Rect.unit (k0_off1 k) S8x1024.size (k0_off1_inb k), W⟩ :: L)) y = v.read (Elt F) (v.writes (Elt F) f L) y :=
  View.read_writes_cons_unit_of_not_mem v f (k0_off1_inb k) W L y (k0_off1_eq k) (0 : Fin 2) (Or.inl h)

section Loop

variable (𝒱 : Variants) (c : Dev nD) (bd : Option 𝒱.V) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S4x1024 .f32) (harg3 : arg3.IsWhole)
    (arg4 : Memref sig .tc .vmem S1x1024 .f32) (harg4 : arg4.IsWhole)
    (arg5 : Memref sig .tc .vmem S8x128x128 .f32) (harg5 : arg5.IsWhole)
    (arg6 : Memref sig .tc .vmem S1x1024 .f32) (harg6 : arg6.IsWhole)
    (arg7 : Memref sig .tc .vmem S8x128x128 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .bf16) (harg10 : arg10.IsWhole)
    (arg11 : Memref sig .tc .vmem S8x1024 .f32) (harg11 : arg11.IsWhole)
    (arg12 : Memref sig .tc .vmem S1x1024 .f32) (harg12 : arg12.IsWhole)
    (arg13 : Memref sig .tc .vmem S256x1024 .f32) (harg13 : arg13.IsWhole)
    (arg14 : Memref sig .tc .vmem S256x1024 .f32) (harg14 : arg14.IsWhole)
    (arg15 : Memref sig .tc .vmem S256x1024 .f32) (harg15 : arg15.IsWhole)
    (v48 v137 v139 : FVec F S256x1024 .f32) (A B : Vec F S256x1024 .f32)
    (XA : BufTy.Contents (Elt F) arg13.view.ty) (XB : BufTy.Contents (Elt F) arg14.view.ty)

theorem trip_res (k : Fin k0_t1_loop.trips) (acc : Vec F S1x1024 .f32) (hA : arg13.view.read (Elt F) XA = A) (hB : arg14.view.read (Elt F) XB = B) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 XA XB k acc = k0_pay38 acc (tile A k) (tile B k) := by
  subst hA hB
  unfold tripR_k0_t1 trip_k0_t1
  rfl

theorem trip_pieces (k : Fin k0_t1_loop.trips) (acc : Vec F S1x1024 .f32) (hA : arg13.view.read (Elt F) XA = A) (hB : arg14.view.read (Elt F) XB = B) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 XA XB k acc
      = [⟨Rect.unit (k0_off1 k) S8x1024.size (k0_off1_inb k), k0_pay37 acc (tile A k) (tile B k)⟩] := by
  subst hA hB
  unfold tripL_k0_t1 trip_k0_t1
  rfl

/-- The carried row before trip `k` is the closed form's, and the rows written by then are the states'. -/
theorem st_closed (hA : arg13.view.read (Elt F) XA = A) (hB : arg14.view.read (Elt F) XB = B) (h : Vec F S1x1024 .f32)
    (f : BufTy.Contents (Elt F) arg15.view.ty) (k : ℕ) (hk : k ≤ k0_t1_loop.trips) :
    (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 XA XB h k).1 = hcar A B h k
    ∧ ∀ y : S256x1024.Idx, (y 0).val < 8 * k →
        arg15.view.read (Elt F) (arg15.view.writes (Elt F) f (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 XA XB h k).2) y = hseq A B h y := by
  induction k with
  | zero => exact ⟨rfl, fun y hy => absurd hy (by omega)⟩
  | succ k ih =>
    obtain ⟨ih1, ih2⟩ := ih (by omega)
    have e := st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 XA XB h ⟨k, hk⟩
    generalize hq : st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 XA XB h (k + 1) = q
    replace e := hq.symm.trans e
    clear hq
    generalize st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 XA XB h k = p at ih1 ih2 e
    obtain ⟨p1, p2⟩ := p
    obtain rfl : p1 = hcar A B h k := ih1
    have ha := trip_res 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 A B XA XB ⟨k, hk⟩ (hcar A B h k) hA hB
    have hb := trip_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v48 v137 v139 A B XA XB ⟨k, hk⟩ (hcar A B h k) hA hB
    have e1 := (congrArg Prod.fst e).trans ha
    have e2 := (congrArg Prod.snd e).trans (congrArg (· ++ p2) hb)
    clear e ha hb
    refine ⟨e1.trans (hcar_succ A B h k hk).symm, fun y hy => ?_⟩
    rw [e2]
    by_cases hlt : (y 0).val < 8 * k
    · exact (rows_miss arg15.view f _ ⟨k, hk⟩ _ y hlt).trans (ih2 y hlt)
    · have hq : (y 0).val / 8 = k := by omega
      have ht : tileOf y = ⟨k, hk⟩ := Fin.ext hq
      refine (rows_hit arg15.view f _ ⟨k, hk⟩ _ y hq).trans ?_
      unfold hseq
      rw [ht]

end Loop

end Cert.KernelIdeal.Hand

end
-- ==== Proof.Body.lean ====
/- One grid point of the recurrence kernel, run once for any reading of the float operations: what the body leaves in the
   output block and in the two scratch buffers it carries to the next point, as functions of the input blocks and of what
   the point before left in those two buffers. -/
module

public import proofs.«01_k».proof.Proof.Gen.KernelIdeal.Loops
public import proofs.«01_k».proof.Proof.Gen.KernelIdeal.Frame
public import Idealize.ShloMosaic.Lib.VecWindow
public import Idealize.ShloMosaic.Lib.WholeRead
public import Idealize.ShloMosaic.Lib.Pipeline.ValueKit.Acc
public import proofs.«01_k».proof.Proof.Closed

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body -/

/-- A load of a whole buffer reads its contents, -/
theorem ld_whole {s : Shape} {e : EltTy} (m : Memref sig .tc .vmem s e) (h : m.IsWhole) (X : Vec F s e) {off : Fin s.rank → ℕ}
    (inb : ∀ a, off a + s.size a ≤ s.size a) :
    View.readAt (Elt F) m.view (Rect.unit off s.size inb).toLoadRect (h.unread X) = X :=
  (View.readAt_full m.view (h.unread X) inb).trans (h.read_unread X)

/-- and a load of a part of it that part of its contents. -/
theorem ld_part {s : Shape} {e : EltTy} (m : Memref sig .tc .vmem s e) (h : m.IsWhole) (X : Vec F s e) (R : Rect s) :
    View.readAt (Elt F) m.view R.toLoadRect (h.unread X) = View.ld X R := congrArg (fun Y => View.ld Y R) (h.read_unread X)

abbrev cond (i : grid0.Coords) : Prop :=
  (Scalar.cmpi .ne (Scalar.extui (Scalar.cmpi .eq (BitVec.ofNat 32 (i 0).val) 0#32) : BitVec 32) 0#32 : BitVec 1) = 1#1

set_option maxHeartbeats 2000000 in
/-- A point after the first: the two carried buffers at `X` and `H`. -/
theorem run_later (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S4x1024 .f32) (harg3 : arg3.IsWhole)
    (arg4 : Memref sig .tc .vmem S1x1024 .f32) (harg4 : arg4.IsWhole)
    (arg5 : Memref sig .tc .vmem S8x128x128 .f32) (harg5 : arg5.IsWhole)
    (arg6 : Memref sig .tc .vmem S1x1024 .f32) (harg6 : arg6.IsWhole)
    (arg7 : Memref sig .tc .vmem S8x128x128 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .bf16) (harg10 : arg10.IsWhole)
    (arg11 : Memref sig .tc .vmem S8x1024 .f32) (harg11 : arg11.IsWhole)
    (arg12 : Memref sig .tc .vmem S1x1024 .f32) (harg12 : arg12.IsWhole)
    (arg13 : Memref sig .tc .vmem S256x1024 .f32) (harg13 : arg13.IsWhole)
    (arg14 : Memref sig .tc .vmem S256x1024 .f32) (harg14 : arg14.IsWhole)
    (arg15 : Memref sig .tc .vmem S256x1024 .f32) (harg15 : arg15.IsWhole)
    (hc : ¬ cond i) (x0 : Vec F S256x1024 .f32) (x1 : Vec F S256x1024 .f32) (x2 : Vec F S4x1024 .f32) (x3 : Vec F S1x1024 .f32) (x4 : Vec F S8x128x128 .f32) (x5 : Vec F S1x1024 .f32) (x6 : Vec F S8x128x128 .f32) (x7 : Vec F S1x1024 .f32) (x8 : Vec F S1x1024 .f32) (X : Vec F S8x1024 .f32) (H : Vec F S1x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d) ∗ owns (c : Thread nD τ) arg11 fullShare (X) ∗ owns (c : Thread nD τ) arg12 fullShare (H)
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
            ∗ owns (c : Thread nD τ) arg10 fullShare (outB x0 x1 x2 x3 x4 x5 x6 x7 x8 X H) ∗ owns (c : Thread nD τ) arg11 fullShare (k0_pay9 x0)
            ∗ owns (c : Thread nD τ) arg12 fullShare (outH x0 x1 x2 x3 x4 x5 x6 x7 x8 X H)
            ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rglru_eq_skeleton]; unfold cc0_rglru_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
  sl_exec (disch := first | sl_exact hc)
  sl_step
  iapply Hk
  have l0 : View.readAt (Elt F) arg9.view (Rect.unit ![0, 0] S1x1024.size inb_S1x1024_S1x1024_0_0).toLoadRect (harg9.unread x8) = x8 := ld_whole arg9 harg9 x8 _
  have l1 : View.readAt (Elt F) arg5.view (Rect.unit (s := S8x128x128) ![6, 0, 0] S1x128x128.size inb_S8x128x128_S1x128x128_6_0_0).toLoadRect (harg5.unread x4) = gblk6 x4 := ld_part arg5 harg5 x4 _
  have l2 : View.readAt (Elt F) arg5.view (Rect.unit (s := S8x128x128) ![7, 0, 0] S1x128x128.size inb_S8x128x128_S1x128x128_7_0_0).toLoadRect (harg5.unread x4) = gblk7 x4 := ld_part arg5 harg5 x4 _
  have l3 : View.readAt (Elt F) arg6.view (Rect.unit ![0, 0] S1x1024.size inb_S1x1024_S1x1024_0_0).toLoadRect (harg6.unread x5) = x5 := ld_whole arg6 harg6 x5 _
  have l4 : View.readAt (Elt F) arg3.view (Rect.unit (s := S4x1024) ![2, 0] S1x1024.size inb_S4x1024_S1x1024_2_0).toLoadRect (harg3.unread x2) = wrow2 x2 := ld_part arg3 harg3 x2 _
  have l5 : View.readAt (Elt F) arg3.view (Rect.unit (s := S4x1024) ![3, 0] S1x1024.size inb_S4x1024_S1x1024_3_0).toLoadRect (harg3.unread x2) = wrow3 x2 := ld_part arg3 harg3 x2 _
  have l6 : View.readAt (Elt F) arg1.view (Rect.unit ![0, 0] S256x1024.size inb_S256x1024_S256x1024_0_0).toLoadRect (harg1.unread x0) = x0 := ld_whole arg1 harg1 x0 _
  have e_r : Cert.KernelIdeal.Hand.run_later.sl.r c arg1 harg1 x0 = x0 := by unfold Cert.KernelIdeal.Hand.run_later.sl.r; rw [l6]
  have l7 : View.readAt (Elt F) arg11.view (Rect.unit ![0, 0] S8x1024.size inb_S8x1024_S8x1024_0_0).toLoadRect (harg11.unread X) = X := ld_whole arg11 harg11 X _
  have l8 : View.readAt (Elt F) arg4.view (Rect.unit ![0, 0] S1x1024.size inb_S1x1024_S1x1024_0_0).toLoadRect (harg4.unread x3) = x3 := ld_whole arg4 harg4 x3 _
  have l9 : View.readAt (Elt F) arg3.view (Rect.unit (s := S4x1024) ![0, 0] S1x1024.size inb_S4x1024_S1x1024_0_0).toLoadRect (harg3.unread x2) = wrow0 x2 := ld_part arg3 harg3 x2 _
  have l10 : View.readAt (Elt F) arg3.view (Rect.unit (s := S4x1024) ![1, 0] S1x1024.size inb_S4x1024_S1x1024_1_0).toLoadRect (harg3.unread x2) = wrow1 x2 := ld_part arg3 harg3 x2 _
  have e_r_1 : Cert.KernelIdeal.Hand.run_later.sl.r_1 c arg1 harg1 arg3 harg3 arg4 harg4 arg11 harg11 x0 x2 x3 X = k0_pay4 x0 X x3 (wrow0 x2) (wrow1 x2) := by unfold Cert.KernelIdeal.Hand.run_later.sl.r_1; rw [l6, l7, l8, l9, l10]
  have e_r_2 : Cert.KernelIdeal.Hand.run_later.sl.r_2 c arg1 harg1 x0 = k0_pay5 x0 := by unfold Cert.KernelIdeal.Hand.run_later.sl.r_2; rw [l6]
  have e_r_3 : Cert.KernelIdeal.Hand.run_later.sl.r_3 c arg11 harg11 X = k0_pay7 X := by unfold Cert.KernelIdeal.Hand.run_later.sl.r_3; rw [l7]
  have e_r_5 : Cert.KernelIdeal.Hand.run_later.sl.r_5 c arg1 harg1 arg3 harg3 arg4 harg4 arg11 harg11 x0 x2 x3 X = cutOf x0 X x2 x3 := by unfold Cert.KernelIdeal.Hand.run_later.sl.r_5; unfold cutOf; rw [l4, l5, e_r, e_r_1, e_r_2, e_r_3]
  have l11 : View.readAt (Elt F) arg5.view (Rect.unit (s := S8x128x128) ![0, 0, 0] S1x128x128.size inb_S8x128x128_S1x128x128_0_0_0).toLoadRect (harg5.unread x4) = gblk0 x4 := ld_part arg5 harg5 x4 _
  have e_r_6 : Cert.KernelIdeal.Hand.run_later.sl.r_6 c arg1 harg1 arg3 harg3 arg4 harg4 arg5 harg5 arg11 harg11 x0 x2 x3 x4 X = k0_pay12 x0 (k0_pay4 x0 X x3 (wrow0 x2) (wrow1 x2)) (k0_pay5 x0) k0_pay6 (k0_pay7 X) (wrow2 x2) (wrow3 x2) (gblk0 x4) := by unfold Cert.KernelIdeal.Hand.run_later.sl.r_6; rw [l4, l5, l11, e_r, e_r_1, e_r_2, e_r_3]
  have l12 : View.readAt (Elt F) arg5.view (Rect.unit (s := S8x128x128) ![1, 0, 0] S1x128x128.size inb_S8x128x128_S1x128x128_1_0_0).toLoadRect (harg5.unread x4) = gblk1 x4 := ld_part arg5 harg5 x4 _
  have e_r_8 : Cert.KernelIdeal.Hand.run_later.sl.r_8 c arg1 harg1 arg3 harg3 arg4 harg4 arg5 harg5 arg11 harg11 x0 x2 x3 x4 X = k0_pay15 x0 (k0_pay4 x0 X x3 (wrow0 x2) (wrow1 x2)) (k0_pay5 x0) k0_pay6 (k0_pay7 X) (wrow2 x2) (wrow3 x2) (gblk1 x4) := by unfold Cert.KernelIdeal.Hand.run_later.sl.r_8; rw [l4, l5, l12, e_r, e_r_1, e_r_2, e_r_3]
  have l13 : View.readAt (Elt F) arg5.view (Rect.unit (s := S8x128x128) ![2, 0, 0] S1x128x128.size inb_S8x128x128_S1x128x128_2_0_0).toLoadRect (harg5.unread x4) = gblk2 x4 := ld_part arg5 harg5 x4 _
  have e_r_10 : Cert.KernelIdeal.Hand.run_later.sl.r_10 c arg1 harg1 arg3 harg3 arg4 harg4 arg11 harg11 x0 x2 x3 X = k0_pay17 x0 (k0_pay4 x0 X x3 (wrow0 x2) (wrow1 x2)) (k0_pay5 x0) k0_pay6 (k0_pay7 X) (wrow2 x2) (wrow3 x2) := by unfold Cert.KernelIdeal.Hand.run_later.sl.r_10; rw [l4, l5, e_r, e_r_1, e_r_2, e_r_3]
  have e_r_11 : Cert.KernelIdeal.Hand.run_later.sl.r_11 c arg1 harg1 arg3 harg3 arg4 harg4 arg5 harg5 arg11 harg11 x0 x2 x3 x4 X = k0_pay18 (k0_pay17 x0 (k0_pay4 x0 X x3 (wrow0 x2) (wrow1 x2)) (k0_pay5 x0) k0_pay6 (k0_pay7 X) (wrow2 x2) (wrow3 x2)) (gblk2 x4) := by unfold Cert.KernelIdeal.Hand.run_later.sl.r_11; rw [l13, e_r_10]
  have l14 : View.readAt (Elt F) arg5.view (Rect.unit (s := S8x128x128) ![3, 0, 0] S1x128x128.size inb_S8x128x128_S1x128x128_3_0_0).toLoadRect (harg5.unread x4) = gblk3 x4 := ld_part arg5 harg5 x4 _
  have e_r_13 : Cert.KernelIdeal.Hand.run_later.sl.r_13 c arg1 harg1 arg3 harg3 arg4 harg4 arg5 harg5 arg11 harg11 x0 x2 x3 x4 X = k0_pay21 (cutOf x0 X x2 x3) (gblk3 x4) := by unfold Cert.KernelIdeal.Hand.run_later.sl.r_13; rw [l14, e_r_5]
  have l15 : View.readAt (Elt F) arg5.view (Rect.unit (s := S8x128x128) ![4, 0, 0] S1x128x128.size inb_S8x128x128_S1x128x128_4_0_0).toLoadRect (harg5.unread x4) = gblk4 x4 := ld_part arg5 harg5 x4 _
  have e_r_15 : Cert.KernelIdeal.Hand.run_later.sl.r_15 c arg1 harg1 arg3 harg3 arg4 harg4 arg5 harg5 arg11 harg11 x0 x2 x3 x4 X = k0_pay24 (cutOf x0 X x2 x3) (gblk4 x4) := by unfold Cert.KernelIdeal.Hand.run_later.sl.r_15; rw [l15, e_r_5]
  have l16 : View.readAt (Elt F) arg5.view (Rect.unit (s := S8x128x128) ![5, 0, 0] S1x128x128.size inb_S8x128x128_S1x128x128_5_0_0).toLoadRect (harg5.unread x4) = gblk5 x4 := ld_part arg5 harg5 x4 _
  have e_r_18 : Cert.KernelIdeal.Hand.run_later.sl.r_18 c arg1 harg1 arg3 harg3 arg4 harg4 arg5 harg5 arg11 harg11 x0 x2 x3 x4 X = k0_pay27 (cutOf x0 X x2 x3) (gblk5 x4) := by unfold Cert.KernelIdeal.Hand.run_later.sl.r_18; rw [l16, e_r_5]
  have e_r_20 : Cert.KernelIdeal.Hand.run_later.sl.r_20 c arg1 harg1 arg3 harg3 arg4 harg4 arg5 harg5 arg6 harg6 arg11 harg11 x0 x2 x3 x4 x5 X = gateR x0 X x2 x3 x4 x5 := by unfold Cert.KernelIdeal.Hand.run_later.sl.r_20; unfold gateR; rw [l1, l2, l3, e_r_5, e_r_6, e_r_8, e_r_11, e_r_13, e_r_15, e_r_18]
  have e_H12_1 : Cert.KernelIdeal.Hand.run_later.sl.H12_1 c arg1 harg1 arg3 harg3 arg4 harg4 arg5 harg5 arg6 harg6 arg9 harg9 arg11 harg11 x0 x2 x3 x4 x5 x8 X = [⟨Rect.unit ![0, 0] S256x1024.size inb_S256x1024_S256x1024_0_0, k0_pay34 (gateR x0 X x2 x3 x4 x5) x8⟩] := by unfold Cert.KernelIdeal.Hand.run_later.sl.H12_1; rw [l0, e_r_20]
  have e_r_4 : Cert.KernelIdeal.Hand.run_later.sl.r_4 c arg1 harg1 arg3 harg3 arg4 harg4 arg11 harg11 x0 x2 x3 X = convOf x0 X x2 x3 := by unfold Cert.KernelIdeal.Hand.run_later.sl.r_4; unfold convOf; rw [l4, l5, e_r, e_r_1, e_r_2, e_r_3]
  have l17 : View.readAt (Elt F) arg7.view (Rect.unit (s := S8x128x128) ![5, 0, 0] S1x128x128.size inb_S8x128x128_S1x128x128_5_0_0).toLoadRect (harg7.unread x6) = gblk5 x6 := ld_part arg7 harg7 x6 _
  have l18 : View.readAt (Elt F) arg7.view (Rect.unit (s := S8x128x128) ![6, 0, 0] S1x128x128.size inb_S8x128x128_S1x128x128_6_0_0).toLoadRect (harg7.unread x6) = gblk6 x6 := ld_part arg7 harg7 x6 _
  have l19 : View.readAt (Elt F) arg7.view (Rect.unit (s := S8x128x128) ![7, 0, 0] S1x128x128.size inb_S8x128x128_S1x128x128_7_0_0).toLoadRect (harg7.unread x6) = gblk7 x6 := ld_part arg7 harg7 x6 _
  have l20 : View.readAt (Elt F) arg8.view (Rect.unit ![0, 0] S1x1024.size inb_S1x1024_S1x1024_0_0).toLoadRect (harg8.unread x7) = x7 := ld_whole arg8 harg8 x7 _
  have l21 : View.readAt (Elt F) arg7.view (Rect.unit (s := S8x128x128) ![0, 0, 0] S1x128x128.size inb_S8x128x128_S1x128x128_0_0_0).toLoadRect (harg7.unread x6) = gblk0 x6 := ld_part arg7 harg7 x6 _
  have e_r_7 : Cert.KernelIdeal.Hand.run_later.sl.r_7 c arg1 harg1 arg3 harg3 arg4 harg4 arg7 harg7 arg11 harg11 x0 x2 x3 x6 X = k0_pay13 x0 (k0_pay4 x0 X x3 (wrow0 x2) (wrow1 x2)) (k0_pay5 x0) k0_pay6 (k0_pay7 X) (wrow2 x2) (wrow3 x2) (gblk0 x6) := by unfold Cert.KernelIdeal.Hand.run_later.sl.r_7; rw [l4, l5, l21, e_r, e_r_1, e_r_2, e_r_3]
  have l22 : View.readAt (Elt F) arg7.view (Rect.unit (s := S8x128x128) ![1, 0, 0] S1x128x128.size inb_S8x128x128_S1x128x128_1_0_0).toLoadRect (harg7.unread x6) = gblk1 x6 := ld_part arg7 harg7 x6 _
  have e_r_9 : Cert.KernelIdeal.Hand.run_later.sl.r_9 c arg1 harg1 arg3 harg3 arg4 harg4 arg7 harg7 arg11 harg11 x0 x2 x3 x6 X = k0_pay16 x0 (k0_pay4 x0 X x3 (wrow0 x2) (wrow1 x2)) (k0_pay5 x0) k0_pay6 (k0_pay7 X) (wrow2 x2) (wrow3 x2) (gblk1 x6) := by unfold Cert.KernelIdeal.Hand.run_later.sl.r_9; rw [l4, l5, l22, e_r, e_r_1, e_r_2, e_r_3]
  have l23 : View.readAt (Elt F) arg7.view (Rect.unit (s := S8x128x128) ![2, 0, 0] S1x128x128.size inb_S8x128x128_S1x128x128_2_0_0).toLoadRect (harg7.unread x6) = gblk2 x6 := ld_part arg7 harg7 x6 _
  have e_r_12 : Cert.KernelIdeal.Hand.run_later.sl.r_12 c arg1 harg1 arg3 harg3 arg4 harg4 arg7 harg7 arg11 harg11 x0 x2 x3 x6 X = k0_pay19 (k0_pay17 x0 (k0_pay4 x0 X x3 (wrow0 x2) (wrow1 x2)) (k0_pay5 x0) k0_pay6 (k0_pay7 X) (wrow2 x2) (wrow3 x2)) (gblk2 x6) := by unfold Cert.KernelIdeal.Hand.run_later.sl.r_12; rw [l23, e_r_10]
  have l24 : View.readAt (Elt F) arg7.view (Rect.unit (s := S8x128x128) ![3, 0, 0] S1x128x128.size inb_S8x128x128_S1x128x128_3_0_0).toLoadRect (harg7.unread x6) = gblk3 x6 := ld_part arg7 harg7 x6 _
  have e_r_14 : Cert.KernelIdeal.Hand.run_later.sl.r_14 c arg1 harg1 arg3 harg3 arg4 harg4 arg7 harg7 arg11 harg11 x0 x2 x3 x6 X = k0_pay22 (cutOf x0 X x2 x3) (gblk3 x6) := by unfold Cert.KernelIdeal.Hand.run_later.sl.r_14; rw [l24, e_r_5]
  have l25 : View.readAt (Elt F) arg7.view (Rect.unit (s := S8x128x128) ![4, 0, 0] S1x128x128.size inb_S8x128x128_S1x128x128_4_0_0).toLoadRect (harg7.unread x6) = gblk4 x6 := ld_part arg7 harg7 x6 _
  have e_r_16 : Cert.KernelIdeal.Hand.run_later.sl.r_16 c arg1 harg1 arg3 harg3 arg4 harg4 arg7 harg7 arg11 harg11 x0 x2 x3 x6 X = k0_pay25 (cutOf x0 X x2 x3) (gblk4 x6) := by unfold Cert.KernelIdeal.Hand.run_later.sl.r_16; rw [l25, e_r_5]
  have e_r_17 : Cert.KernelIdeal.Hand.run_later.sl.r_17 c arg1 harg1 arg3 harg3 arg4 harg4 arg11 harg11 x0 x2 x3 X = k0_pay26 (cutOf x0 X x2 x3) := by unfold Cert.KernelIdeal.Hand.run_later.sl.r_17; rw [e_r_5]
  have e_r_19 : Cert.KernelIdeal.Hand.run_later.sl.r_19 c arg1 harg1 arg3 harg3 arg4 harg4 arg7 harg7 arg8 harg8 arg11 harg11 x0 x2 x3 x6 x7 X = gateI x0 X x2 x3 x6 x7 := by unfold Cert.KernelIdeal.Hand.run_later.sl.r_19; unfold gateI; rw [l17, l18, l19, l20, e_r_5, e_r_7, e_r_9, e_r_12, e_r_14, e_r_16, e_r_17]
  have e_H13_1 : Cert.KernelIdeal.Hand.run_later.sl.H13_1 c arg1 harg1 arg3 harg3 arg4 harg4 arg5 harg5 arg6 harg6 arg7 harg7 arg8 harg8 arg9 harg9 arg11 harg11 x0 x2 x3 x4 x5 x6 x7 x8 X = [⟨Rect.unit ![0, 0] S256x1024.size inb_S256x1024_S256x1024_0_0, k0_pay35 (convOf x0 X x2 x3) (gateI x0 X x2 x3 x6 x7) (gateR x0 X x2 x3 x4 x5) x8⟩] := by unfold Cert.KernelIdeal.Hand.run_later.sl.H13_1; rw [l0, e_r_4, e_r_19, e_r_20]
  have hA : arg13.view.read (Elt F) (arg13.view.writes (Elt F) arg13.view.junk (Cert.KernelIdeal.Hand.run_later.sl.H12_1 c arg1 harg1 arg3 harg3 arg4 harg4 arg5 harg5 arg6 harg6 arg9 harg9 arg11 harg11 x0 x2 x3 x4 x5 x8 X)) = decay x0 x1 x2 x3 x4 x5 x6 x7 x8 X := by
    rw [e_H12_1, View.read_writes_full]; rfl
  have hB : arg14.view.read (Elt F) (arg14.view.writes (Elt F) arg14.view.junk (Cert.KernelIdeal.Hand.run_later.sl.H13_1 c arg1 harg1 arg3 harg3 arg4 harg4 arg5 harg5 arg6 harg6 arg7 harg7 arg8 harg8 arg9 harg9 arg11 harg11 x0 x2 x3 x4 x5 x6 x7 x8 X)) = drive x0 x1 x2 x3 x4 x5 x6 x7 x8 X := by
    rw [e_H13_1, View.read_writes_full]; rfl
  have lx1 : View.readAt (Elt F) arg2.view (Rect.unit ![0, 0] S256x1024.size inb_S256x1024_S256x1024_0_0).toLoadRect (harg2.unread x1) = x1 := ld_whole arg2 harg2 x1 _
  have lH : View.readAt (Elt F) arg12.view (Rect.unit ![0, 0] S1x1024.size inb_S1x1024_S1x1024_0_0).toLoadRect (harg12.unread H) = H := ld_whole arg12 harg12 H _
  have e_v : Cert.KernelIdeal.Hand.run_later.sl.v192 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 x8 X H f14 = hseq (decay x0 x1 x2 x3 x4 x5 x6 x7 x8 X) (drive x0 x1 x2 x3 x4 x5 x6 x7 x8 X) H := by
    unfold Cert.KernelIdeal.Hand.run_later.sl.v192
    rw [View.readAt_full, lH]
    funext y
    refine (st_closed _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ hA hB _ f14 _ le_rfl).2 y ?_
    rw [trips_eq]
    exact (y 0).isLt
  have e_x : arg11.view.read (Elt F) (arg11.view.writes (Elt F) arg11.view.junk (Cert.KernelIdeal.Hand.run_later.sl.H10_1 c arg1 harg1 x0)) = k0_pay9 x0 := by
    unfold Cert.KernelIdeal.Hand.run_later.sl.H10_1
    rw [View.read_writes_full, e_r]
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    rw [View.read_writes_full]
    unfold outB
    rw [lx1, e_v]
  isplitl [H10]
  · iexists _; isplitr; swap; · iexact H10
    ipureintro
    rw [e_x]
  isplitl [H11]
  · iexists _; isplitr; swap; · iexact H11
    ipureintro
    rw [View.read_writes_full, lH]
    unfold outH
    exact congrArg k0_pay39 (st_closed _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ hA hB _ f14 _ le_rfl).1
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 2000000 in
/-- The first point: the two carried buffers are filled with zeros. -/
theorem run_first (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S4x1024 .f32) (harg3 : arg3.IsWhole)
    (arg4 : Memref sig .tc .vmem S1x1024 .f32) (harg4 : arg4.IsWhole)
    (arg5 : Memref sig .tc .vmem S8x128x128 .f32) (harg5 : arg5.IsWhole)
    (arg6 : Memref sig .tc .vmem S1x1024 .f32) (harg6 : arg6.IsWhole)
    (arg7 : Memref sig .tc .vmem S8x128x128 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .bf16) (harg10 : arg10.IsWhole)
    (arg11 : Memref sig .tc .vmem S8x1024 .f32) (harg11 : arg11.IsWhole)
    (arg12 : Memref sig .tc .vmem S1x1024 .f32) (harg12 : arg12.IsWhole)
    (arg13 : Memref sig .tc .vmem S256x1024 .f32) (harg13 : arg13.IsWhole)
    (arg14 : Memref sig .tc .vmem S256x1024 .f32) (harg14 : arg14.IsWhole)
    (arg15 : Memref sig .tc .vmem S256x1024 .f32) (harg15 : arg15.IsWhole)
    (hc : cond i) (x0 : Vec F S256x1024 .f32) (x1 : Vec F S256x1024 .f32) (x2 : Vec F S4x1024 .f32) (x3 : Vec F S1x1024 .f32) (x4 : Vec F S8x128x128 .f32) (x5 : Vec F S1x1024 .f32) (x6 : Vec F S8x128x128 .f32) (x7 : Vec F S1x1024 .f32) (x8 : Vec F S1x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
            ∗ owns (c : Thread nD τ) arg10 fullShare (outB x0 x1 x2 x3 x4 x5 x6 x7 x8 k0_pay2 k0_pay3) ∗ owns (c : Thread nD τ) arg11 fullShare (k0_pay9 x0)
            ∗ owns (c : Thread nD τ) arg12 fullShare (outH x0 x1 x2 x3 x4 x5 x6 x7 x8 k0_pay2 k0_pay3)
            ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rglru_eq_skeleton]; unfold cc0_rglru_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc)
  sl_step
  iapply Hk
  have l0 : View.readAt (Elt F) arg9.view (Rect.unit ![0, 0] S1x1024.size inb_S1x1024_S1x1024_0_0).toLoadRect (harg9.unread x8) = x8 := ld_whole arg9 harg9 x8 _
  have l1 : View.readAt (Elt F) arg5.view (Rect.unit (s := S8x128x128) ![6, 0, 0] S1x128x128.size inb_S8x128x128_S1x128x128_6_0_0).toLoadRect (harg5.unread x4) = gblk6 x4 := ld_part arg5 harg5 x4 _
  have l2 : View.readAt (Elt F) arg5.view (Rect.unit (s := S8x128x128) ![7, 0, 0] S1x128x128.size inb_S8x128x128_S1x128x128_7_0_0).toLoadRect (harg5.unread x4) = gblk7 x4 := ld_part arg5 harg5 x4 _
  have l3 : View.readAt (Elt F) arg6.view (Rect.unit ![0, 0] S1x1024.size inb_S1x1024_S1x1024_0_0).toLoadRect (harg6.unread x5) = x5 := ld_whole arg6 harg6 x5 _
  have l4 : View.readAt (Elt F) arg3.view (Rect.unit (s := S4x1024) ![2, 0] S1x1024.size inb_S4x1024_S1x1024_2_0).toLoadRect (harg3.unread x2) = wrow2 x2 := ld_part arg3 harg3 x2 _
  have l5 : View.readAt (Elt F) arg3.view (Rect.unit (s := S4x1024) ![3, 0] S1x1024.size inb_S4x1024_S1x1024_3_0).toLoadRect (harg3.unread x2) = wrow3 x2 := ld_part arg3 harg3 x2 _
  have l6 : View.readAt (Elt F) arg1.view (Rect.unit ![0, 0] S256x1024.size inb_S256x1024_S256x1024_0_0).toLoadRect (harg1.unread x0) = x0 := ld_whole arg1 harg1 x0 _
  have e_r : Cert.KernelIdeal.Hand.run_first.sl.r c arg1 harg1 x0 = x0 := by unfold Cert.KernelIdeal.Hand.run_first.sl.r; rw [l6]
  have l7 : View.readAt (Elt F) arg4.view (Rect.unit ![0, 0] S1x1024.size inb_S1x1024_S1x1024_0_0).toLoadRect (harg4.unread x3) = x3 := ld_whole arg4 harg4 x3 _
  have l8 : View.readAt (Elt F) arg3.view (Rect.unit (s := S4x1024) ![0, 0] S1x1024.size inb_S4x1024_S1x1024_0_0).toLoadRect (harg3.unread x2) = wrow0 x2 := ld_part arg3 harg3 x2 _
  have l9 : View.readAt (Elt F) arg3.view (Rect.unit (s := S4x1024) ![1, 0] S1x1024.size inb_S4x1024_S1x1024_1_0).toLoadRect (harg3.unread x2) = wrow1 x2 := ld_part arg3 harg3 x2 _
  have e_v4 : (Cert.KernelIdeal.Hand.run_first.sl.v4 c arg11 : Vec F S8x1024 .f32) = k0_pay2 (F := F) := by unfold Cert.KernelIdeal.Hand.run_first.sl.v4 Cert.KernelIdeal.Hand.run_first.sl.H10_1; rw [View.readCov_full]
  have e_r_1 : Cert.KernelIdeal.Hand.run_first.sl.r_1 c arg1 harg1 arg3 harg3 arg4 harg4 arg11 x0 x2 x3 = k0_pay4 x0 (k0_pay2 (F := F)) x3 (wrow0 x2) (wrow1 x2) := by unfold Cert.KernelIdeal.Hand.run_first.sl.r_1; rw [l6, l7, l8, l9, e_v4]
  have e_r_2 : Cert.KernelIdeal.Hand.run_first.sl.r_2 c arg1 harg1 x0 = k0_pay5 x0 := by unfold Cert.KernelIdeal.Hand.run_first.sl.r_2; rw [l6]
  have e_r_3 : Cert.KernelIdeal.Hand.run_first.sl.r_3 c arg11 = k0_pay7 (k0_pay2 (F := F)) := by unfold Cert.KernelIdeal.Hand.run_first.sl.r_3; rw [e_v4]
  have e_r_5 : Cert.KernelIdeal.Hand.run_first.sl.r_5 c arg1 harg1 arg3 harg3 arg4 harg4 arg11 x0 x2 x3 = cutOf x0 k0_pay2 x2 x3 := by unfold Cert.KernelIdeal.Hand.run_first.sl.r_5; unfold cutOf; rw [l4, l5, e_r, e_r_1, e_r_2, e_r_3]
  have l10 : View.readAt (Elt F) arg5.view (Rect.unit (s := S8x128x128) ![0, 0, 0] S1x128x128.size inb_S8x128x128_S1x128x128_0_0_0).toLoadRect (harg5.unread x4) = gblk0 x4 := ld_part arg5 harg5 x4 _
  have e_r_6 : Cert.KernelIdeal.Hand.run_first.sl.r_6 c arg1 harg1 arg3 harg3 arg4 harg4 arg5 harg5 arg11 x0 x2 x3 x4 = k0_pay12 x0 (k0_pay4 x0 (k0_pay2 (F := F)) x3 (wrow0 x2) (wrow1 x2)) (k0_pay5 x0) k0_pay6 (k0_pay7 (k0_pay2 (F := F))) (wrow2 x2) (wrow3 x2) (gblk0 x4) := by unfold Cert.KernelIdeal.Hand.run_first.sl.r_6; rw [l4, l5, l10, e_r, e_r_1, e_r_2, e_r_3]
  have l11 : View.readAt (Elt F) arg5.view (Rect.unit (s := S8x128x128) ![1, 0, 0] S1x128x128.size inb_S8x128x128_S1x128x128_1_0_0).toLoadRect (harg5.unread x4) = gblk1 x4 := ld_part arg5 harg5 x4 _
  have e_r_8 : Cert.KernelIdeal.Hand.run_first.sl.r_8 c arg1 harg1 arg3 harg3 arg4 harg4 arg5 harg5 arg11 x0 x2 x3 x4 = k0_pay15 x0 (k0_pay4 x0 (k0_pay2 (F := F)) x3 (wrow0 x2) (wrow1 x2)) (k0_pay5 x0) k0_pay6 (k0_pay7 (k0_pay2 (F := F))) (wrow2 x2) (wrow3 x2) (gblk1 x4) := by unfold Cert.KernelIdeal.Hand.run_first.sl.r_8; rw [l4, l5, l11, e_r, e_r_1, e_r_2, e_r_3]
  have l12 : View.readAt (Elt F) arg5.view (Rect.unit (s := S8x128x128) ![2, 0, 0] S1x128x128.size inb_S8x128x128_S1x128x128_2_0_0).toLoadRect (harg5.unread x4) = gblk2 x4 := ld_part arg5 harg5 x4 _
  have e_r_10 : Cert.KernelIdeal.Hand.run_first.sl.r_10 c arg1 harg1 arg3 harg3 arg4 harg4 arg11 x0 x2 x3 = k0_pay17 x0 (k0_pay4 x0 (k0_pay2 (F := F)) x3 (wrow0 x2) (wrow1 x2)) (k0_pay5 x0) k0_pay6 (k0_pay7 (k0_pay2 (F := F))) (wrow2 x2) (wrow3 x2) := by unfold Cert.KernelIdeal.Hand.run_first.sl.r_10; rw [l4, l5, e_r, e_r_1, e_r_2, e_r_3]
  have e_r_11 : Cert.KernelIdeal.Hand.run_first.sl.r_11 c arg1 harg1 arg3 harg3 arg4 harg4 arg5 harg5 arg11 x0 x2 x3 x4 = k0_pay18 (k0_pay17 x0 (k0_pay4 x0 (k0_pay2 (F := F)) x3 (wrow0 x2) (wrow1 x2)) (k0_pay5 x0) k0_pay6 (k0_pay7 (k0_pay2 (F := F))) (wrow2 x2) (wrow3 x2)) (gblk2 x4) := by unfold Cert.KernelIdeal.Hand.run_first.sl.r_11; rw [l12, e_r_10]
  have l13 : View.readAt (Elt F) arg5.view (Rect.unit (s := S8x128x128) ![3, 0, 0] S1x128x128.size inb_S8x128x128_S1x128x128_3_0_0).toLoadRect (harg5.unread x4) = gblk3 x4 := ld_part arg5 harg5 x4 _
  have e_r_13 : Cert.KernelIdeal.Hand.run_first.sl.r_13 c arg1 harg1 arg3 harg3 arg4 harg4 arg5 harg5 arg11 x0 x2 x3 x4 = k0_pay21 (cutOf x0 k0_pay2 x2 x3) (gblk3 x4) := by unfold Cert.KernelIdeal.Hand.run_first.sl.r_13; rw [l13, e_r_5]
  have l14 : View.readAt (Elt F) arg5.view (Rect.unit (s := S8x128x128) ![4, 0, 0] S1x128x128.size inb_S8x128x128_S1x128x128_4_0_0).toLoadRect (harg5.unread x4) = gblk4 x4 := ld_part arg5 harg5 x4 _
  have e_r_15 : Cert.KernelIdeal.Hand.run_first.sl.r_15 c arg1 harg1 arg3 harg3 arg4 harg4 arg5 harg5 arg11 x0 x2 x3 x4 = k0_pay24 (cutOf x0 k0_pay2 x2 x3) (gblk4 x4) := by unfold Cert.KernelIdeal.Hand.run_first.sl.r_15; rw [l14, e_r_5]
  have l15 : View.readAt (Elt F) arg5.view (Rect.unit (s := S8x128x128) ![5, 0, 0] S1x128x128.size inb_S8x128x128_S1x128x128_5_0_0).toLoadRect (harg5.unread x4) = gblk5 x4 := ld_part arg5 harg5 x4 _
  have e_r_18 : Cert.KernelIdeal.Hand.run_first.sl.r_18 c arg1 harg1 arg3 harg3 arg4 harg4 arg5 harg5 arg11 x0 x2 x3 x4 = k0_pay27 (cutOf x0 k0_pay2 x2 x3) (gblk5 x4) := by unfold Cert.KernelIdeal.Hand.run_first.sl.r_18; rw [l15, e_r_5]
  have e_r_20 : Cert.KernelIdeal.Hand.run_first.sl.r_20 c arg1 harg1 arg3 harg3 arg4 harg4 arg5 harg5 arg6 harg6 arg11 x0 x2 x3 x4 x5 = gateR x0 k0_pay2 x2 x3 x4 x5 := by unfold Cert.KernelIdeal.Hand.run_first.sl.r_20; unfold gateR; rw [l1, l2, l3, e_r_5, e_r_6, e_r_8, e_r_11, e_r_13, e_r_15, e_r_18]
  have e_H12_1 : Cert.KernelIdeal.Hand.run_first.sl.H12_1 c arg1 harg1 arg3 harg3 arg4 harg4 arg5 harg5 arg6 harg6 arg9 harg9 arg11 x0 x2 x3 x4 x5 x8 = [⟨Rect.unit ![0, 0] S256x1024.size inb_S256x1024_S256x1024_0_0, k0_pay34 (gateR x0 k0_pay2 x2 x3 x4 x5) x8⟩] := by unfold Cert.KernelIdeal.Hand.run_first.sl.H12_1; rw [l0, e_r_20]
  have e_r_4 : Cert.KernelIdeal.Hand.run_first.sl.r_4 c arg1 harg1 arg3 harg3 arg4 harg4 arg11 x0 x2 x3 = convOf x0 k0_pay2 x2 x3 := by unfold Cert.KernelIdeal.Hand.run_first.sl.r_4; unfold convOf; rw [l4, l5, e_r, e_r_1, e_r_2, e_r_3]
  have l16 : View.readAt (Elt F) arg7.view (Rect.unit (s := S8x128x128) ![5, 0, 0] S1x128x128.size inb_S8x128x128_S1x128x128_5_0_0).toLoadRect (harg7.unread x6) = gblk5 x6 := ld_part arg7 harg7 x6 _
  have l17 : View.readAt (Elt F) arg7.view (Rect.unit (s := S8x128x128) ![6, 0, 0] S1x128x128.size inb_S8x128x128_S1x128x128_6_0_0).toLoadRect (harg7.unread x6) = gblk6 x6 := ld_part arg7 harg7 x6 _
  have l18 : View.readAt (Elt F) arg7.view (Rect.unit (s := S8x128x128) ![7, 0, 0] S1x128x128.size inb_S8x128x128_S1x128x128_7_0_0).toLoadRect (harg7.unread x6) = gblk7 x6 := ld_part arg7 harg7 x6 _
  have l19 : View.readAt (Elt F) arg8.view (Rect.unit ![0, 0] S1x1024.size inb_S1x1024_S1x1024_0_0).toLoadRect (harg8.unread x7) = x7 := ld_whole arg8 harg8 x7 _
  have l20 : View.readAt (Elt F) arg7.view (Rect.unit (s := S8x128x128) ![0, 0, 0] S1x128x128.size inb_S8x128x128_S1x128x128_0_0_0).toLoadRect (harg7.unread x6) = gblk0 x6 := ld_part arg7 harg7 x6 _
  have e_r_7 : Cert.KernelIdeal.Hand.run_first.sl.r_7 c arg1 harg1 arg3 harg3 arg4 harg4 arg7 harg7 arg11 x0 x2 x3 x6 = k0_pay13 x0 (k0_pay4 x0 (k0_pay2 (F := F)) x3 (wrow0 x2) (wrow1 x2)) (k0_pay5 x0) k0_pay6 (k0_pay7 (k0_pay2 (F := F))) (wrow2 x2) (wrow3 x2) (gblk0 x6) := by unfold Cert.KernelIdeal.Hand.run_first.sl.r_7; rw [l4, l5, l20, e_r, e_r_1, e_r_2, e_r_3]
  have l21 : View.readAt (Elt F) arg7.view (Rect.unit (s := S8x128x128) ![1, 0, 0] S1x128x128.size inb_S8x128x128_S1x128x128_1_0_0).toLoadRect (harg7.unread x6) = gblk1 x6 := ld_part arg7 harg7 x6 _
  have e_r_9 : Cert.KernelIdeal.Hand.run_first.sl.r_9 c arg1 harg1 arg3 harg3 arg4 harg4 arg7 harg7 arg11 x0 x2 x3 x6 = k0_pay16 x0 (k0_pay4 x0 (k0_pay2 (F := F)) x3 (wrow0 x2) (wrow1 x2)) (k0_pay5 x0) k0_pay6 (k0_pay7 (k0_pay2 (F := F))) (wrow2 x2) (wrow3 x2) (gblk1 x6) := by unfold Cert.KernelIdeal.Hand.run_first.sl.r_9; rw [l4, l5, l21, e_r, e_r_1, e_r_2, e_r_3]
  have l22 : View.readAt (Elt F) arg7.view (Rect.unit (s := S8x128x128) ![2, 0, 0] S1x128x128.size inb_S8x128x128_S1x128x128_2_0_0).toLoadRect (harg7.unread x6) = gblk2 x6 := ld_part arg7 harg7 x6 _
  have e_r_12 : Cert.KernelIdeal.Hand.run_first.sl.r_12 c arg1 harg1 arg3 harg3 arg4 harg4 arg7 harg7 arg11 x0 x2 x3 x6 = k0_pay19 (k0_pay17 x0 (k0_pay4 x0 (k0_pay2 (F := F)) x3 (wrow0 x2) (wrow1 x2)) (k0_pay5 x0) k0_pay6 (k0_pay7 (k0_pay2 (F := F))) (wrow2 x2) (wrow3 x2)) (gblk2 x6) := by unfold Cert.KernelIdeal.Hand.run_first.sl.r_12; rw [l22, e_r_10]
  have l23 : View.readAt (Elt F) arg7.view (Rect.unit (s := S8x128x128) ![3, 0, 0] S1x128x128.size inb_S8x128x128_S1x128x128_3_0_0).toLoadRect (harg7.unread x6) = gblk3 x6 := ld_part arg7 harg7 x6 _
  have e_r_14 : Cert.KernelIdeal.Hand.run_first.sl.r_14 c arg1 harg1 arg3 harg3 arg4 harg4 arg7 harg7 arg11 x0 x2 x3 x6 = k0_pay22 (cutOf x0 k0_pay2 x2 x3) (gblk3 x6) := by unfold Cert.KernelIdeal.Hand.run_first.sl.r_14; rw [l23, e_r_5]
  have l24 : View.readAt (Elt F) arg7.view (Rect.unit (s := S8x128x128) ![4, 0, 0] S1x128x128.size inb_S8x128x128_S1x128x128_4_0_0).toLoadRect (harg7.unread x6) = gblk4 x6 := ld_part arg7 harg7 x6 _
  have e_r_16 : Cert.KernelIdeal.Hand.run_first.sl.r_16 c arg1 harg1 arg3 harg3 arg4 harg4 arg7 harg7 arg11 x0 x2 x3 x6 = k0_pay25 (cutOf x0 k0_pay2 x2 x3) (gblk4 x6) := by unfold Cert.KernelIdeal.Hand.run_first.sl.r_16; rw [l24, e_r_5]
  have e_r_17 : Cert.KernelIdeal.Hand.run_first.sl.r_17 c arg1 harg1 arg3 harg3 arg4 harg4 arg11 x0 x2 x3 = k0_pay26 (cutOf x0 k0_pay2 x2 x3) := by unfold Cert.KernelIdeal.Hand.run_first.sl.r_17; rw [e_r_5]
  have e_r_19 : Cert.KernelIdeal.Hand.run_first.sl.r_19 c arg1 harg1 arg3 harg3 arg4 harg4 arg7 harg7 arg8 harg8 arg11 x0 x2 x3 x6 x7 = gateI x0 k0_pay2 x2 x3 x6 x7 := by unfold Cert.KernelIdeal.Hand.run_first.sl.r_19; unfold gateI; rw [l16, l17, l18, l19, e_r_5, e_r_7, e_r_9, e_r_12, e_r_14, e_r_16, e_r_17]
  have e_H13_1 : Cert.KernelIdeal.Hand.run_first.sl.H13_1 c arg1 harg1 arg3 harg3 arg4 harg4 arg5 harg5 arg6 harg6 arg7 harg7 arg8 harg8 arg9 harg9 arg11 x0 x2 x3 x4 x5 x6 x7 x8 = [⟨Rect.unit ![0, 0] S256x1024.size inb_S256x1024_S256x1024_0_0, k0_pay35 (convOf x0 k0_pay2 x2 x3) (gateI x0 k0_pay2 x2 x3 x6 x7) (gateR x0 k0_pay2 x2 x3 x4 x5) x8⟩] := by unfold Cert.KernelIdeal.Hand.run_first.sl.H13_1; rw [l0, e_r_4, e_r_19, e_r_20]
  have e_v172 : (Cert.KernelIdeal.Hand.run_first.sl.v172 c arg12 : Vec F S1x1024 .f32) = k0_pay3 (F := F) := by unfold Cert.KernelIdeal.Hand.run_first.sl.v172 Cert.KernelIdeal.Hand.run_first.sl.H11_1; rw [View.readCov_full]
  have hA : arg13.view.read (Elt F) (arg13.view.writes (Elt F) arg13.view.junk (Cert.KernelIdeal.Hand.run_first.sl.H12_1 c arg1 harg1 arg3 harg3 arg4 harg4 arg5 harg5 arg6 harg6 arg9 harg9 arg11 x0 x2 x3 x4 x5 x8)) = decay x0 x1 x2 x3 x4 x5 x6 x7 x8 k0_pay2 := by
    rw [e_H12_1, View.read_writes_full]; rfl
  have hB : arg14.view.read (Elt F) (arg14.view.writes (Elt F) arg14.view.junk (Cert.KernelIdeal.Hand.run_first.sl.H13_1 c arg1 harg1 arg3 harg3 arg4 harg4 arg5 harg5 arg6 harg6 arg7 harg7 arg8 harg8 arg9 harg9 arg11 x0 x2 x3 x4 x5 x6 x7 x8)) = drive x0 x1 x2 x3 x4 x5 x6 x7 x8 k0_pay2 := by
    rw [e_H13_1, View.read_writes_full]; rfl
  have lx1 : View.readAt (Elt F) arg2.view (Rect.unit ![0, 0] S256x1024.size inb_S256x1024_S256x1024_0_0).toLoadRect (harg2.unread x1) = x1 := ld_whole arg2 harg2 x1 _
  have lH : (Cert.KernelIdeal.Hand.run_first.sl.v172 c arg12 : Vec F S1x1024 .f32) = k0_pay3 := e_v172
  have e_v : Cert.KernelIdeal.Hand.run_first.sl.v192 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 x8 f14 = hseq (decay x0 x1 x2 x3 x4 x5 x6 x7 x8 k0_pay2) (drive x0 x1 x2 x3 x4 x5 x6 x7 x8 k0_pay2) k0_pay3 := by
    unfold Cert.KernelIdeal.Hand.run_first.sl.v192
    rw [View.readAt_full, lH]
    funext y
    refine (st_closed _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ hA hB _ f14 _ le_rfl).2 y ?_
    rw [trips_eq]
    exact (y 0).isLt
  have e_x : arg11.view.read (Elt F) (arg11.view.writes (Elt F) arg11.view.junk (Cert.KernelIdeal.Hand.run_first.sl.H10_2 c arg1 harg1 x0)) = k0_pay9 x0 := by
    unfold Cert.KernelIdeal.Hand.run_first.sl.H10_2
    rw [View.read_writes_full, e_r]
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    rw [View.read_writes_full]
    unfold outB
    rw [lx1, e_v]
  isplitl [H10]
  · iexists _; isplitr; swap; · iexact H10
    ipureintro
    rw [e_x]
  isplitl [H11]
  · iexists _; isplitr; swap; · iexact H11
    ipureintro
    rw [View.read_writes_full, lH]
    unfold outH
    exact congrArg k0_pay39 (st_closed _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ hA hB _ f14 _ le_rfl).1
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.Run.lean ====
/- The recurrence kernel's launch: the two scratch buffers it carries between grid points, followed from point to point, and
   what the launch leaves in memory. -/
module

public import proofs.«01_k».proof.Proof.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- What point `t` stores, the two carried buffers at `X` and `H`. -/
def pointOut (c : Dev nD) (t : Fin cfg0.N) (X : Vec F S8x1024 .f32) (H : Vec F S1x1024 .f32) : Vec F S256x1024 .bf16 :=
  outB (X0_0 m c t) (X0_1 m c t) (iblk m c 2 t) (iblk m c 3 t) (iblk m c 4 t) (iblk m c 5 t) (iblk m c 6 t) (iblk m c 7 t) (iblk m c 8 t) X H

/-- The last state of point `t`. -/
def pointState (c : Dev nD) (t : Fin cfg0.N) (X : Vec F S8x1024 .f32) (H : Vec F S1x1024 .f32) : Vec F S1x1024 .f32 :=
  outH (X0_0 m c t) (X0_1 m c t) (iblk m c 2 t) (iblk m c 3 t) (iblk m c 4 t) (iblk m c 5 t) (iblk m c 6 t) (iblk m c 7 t) (iblk m c 8 t) X H

/-- The eight rows before point `n`'s block: zeros before the first, the last rows of the block before otherwise. -/
def rowsBefore (c : Dev nD) : (n : ℕ) → n ≤ cfg0.N → Vec F S8x1024 .f32
  | 0, _ => k0_pay2
  | n + 1, h => k0_pay9 (X0_0 m c ⟨n, h⟩)

/-- The state before point `n`. -/
def stateBefore (c : Dev nD) : (n : ℕ) → n ≤ cfg0.N → Vec F S1x1024 .f32
  | 0, _ => k0_pay3
  | n + 1, h => pointState m c ⟨n, h⟩ (rowsBefore m c n (Nat.le_of_lt h)) (stateBefore c n (Nat.le_of_lt h))

/-! ## The scratch buffers -/

abbrev scM0_0 := Memref.whole cc0_scratch0
abbrev scM0_1 := Memref.whole cc0_scratch1
abbrev scM0_2 := Memref.whole cc0_scratch2
abbrev scM0_3 := Memref.whole cc0_scratch3
abbrev scM0_4 := Memref.whole cc0_scratch4

theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA
  rw [scopedRest0_eq]
  simp only [scM0_0, scM0_1, scM0_2, scM0_3, scM0_4, owns_whole]
  try rfl

/-- The region's invariant before point `n`: the carried buffers at what the points before left. -/
def PhiS (c : Dev nD) : (n : ℕ) → n ≤ cfg0.N → sProp 𝕄
  | 0, _ => Pipeline.ΦA spec0 c
  | n + 1, h => iprop(iprop(owns (c : Thread nD τ) scM0_0 fullShare (rowsBefore m c (n + 1) h) ∗ owns (c : Thread nD τ) scM0_1 fullShare (stateBefore m c (n + 1) h) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (h : n < cfg0.N) : PhiS m c (n + 1) h = iprop(iprop(owns (c : Thread nD τ) scM0_0 fullShare (rowsBefore m c (n + 1) h) ∗ owns (c : Thread nD τ) scM0_1 fullShare (stateBefore m c (n + 1) h) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

theorem PhiS_pos (c : Dev nD) (n : ℕ) (h : n ≤ cfg0.N) (hz : n ≠ 0) : PhiS m c n h = iprop(iprop(owns (c : Thread nD τ) scM0_0 fullShare (rowsBefore m c (n) h) ∗ owns (c : Thread nD τ) scM0_1 fullShare (stateBefore m c (n) h) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The arrays as the region finds them; every input's buffer left at its block and the output's at the point's output. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => pointOut m c t (rowsBefore m c t.val (Nat.le_of_lt t.isLt)) (stateBefore m c t.val (Nat.le_of_lt t.isLt))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = pointOut m c t (rowsBefore m c t.val (Nat.le_of_lt t.isLt)) (stateBefore m c t.val (Nat.le_of_lt t.isLt)) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem cond_iff : ∀ t : Fin cfg0.N, cond (grid0.coords t) ↔ t.val = 0 := by decide +kernel

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ,
    show rowsBefore m c (t.val + 1) t.isLt = k0_pay9 (X0_0 m c t) from rfl,
    show stateBefore m c (t.val + 1) t.isLt = pointState m c t (rowsBefore m c t.val (Nat.le_of_lt t.isLt)) (stateBefore m c t.val (Nat.le_of_lt t.isLt)) from rfl]
  unfold pointOut pointState
  by_cases hz : t.val = 0
  · have hx : rowsBefore m c t.val (Nat.le_of_lt t.isLt) = k0_pay2 := by
      obtain ⟨n, hn⟩ := t; obtain rfl : n = 0 := hz; rfl
    have hh : stateBefore m c t.val (Nat.le_of_lt t.isLt) = k0_pay3 := by
      obtain ⟨n, hn⟩ := t; obtain rfl : n = 0 := hz; rfl
    rw [hx, hh]
    rw [PhiS_castSucc m c t, PhiS_zero m c _ _ hz, PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ _ _ _ _ _ _ ((cond_iff t).mpr hz) (X0_0 m c t) (X0_1 m c t) (iblk m c 2 t) (iblk m c 3 t) (iblk m c 4 t) (iblk m c 5 t) (iblk m c 6 t) (iblk m c 7 t) (iblk m c 8 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · generalize hx : rowsBefore m c t.val (Nat.le_of_lt t.isLt) = X
    generalize hh : stateBefore m c t.val (Nat.le_of_lt t.isLt) = H
    rw [PhiS_castSucc m c t, PhiS_pos m c _ _ hz, hx, hh]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (grid0.coords t) _ _ _ _ _ _ _ _ _ _ _ _ _ _ _ _ _ _ _ _ _ _ _ _ _ _ _ _ _ _ (fun h => hz ((cond_iff t).mp h)) (X0_0 m c t) (X0_1 m c t) (iblk m c 2 t) (iblk m c 3 t) (iblk m c 4 t) (iblk m c 5 t) (iblk m c 6 t) (iblk m c 7 t) (iblk m c 8 t) X H Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (le_refl _) from rfl, PhiS_pos m c _ _ (by have : cfg0.N = 32 := N_0; omega), PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

/-! ## The run -/

set_option backward.isDefEq.respectTransparency.types false in
/-- Every run of the program ends with the pipeline's arrays at what the points left in them and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KerVal.lean ====
/- What one point of the kernel computes, element by element. -/
module

public import proofs.«01_k».proof.Proof.Math
public import proofs.«01_k».proof.Proof.Closed
public import Idealize.ShloMosaic.Lib.Pointwise

@[expose] public section

set_option maxRecDepth 16384

noncomputable section

namespace Cert.KerVal

open Idealize.ShloMosaic Cert.KernelIdeal Cert.KernelIdeal.Gen Cert.KernelIdeal.Hand

variable (x0 : Vec Ideal S256x1024 .f32) (X : Vec Ideal S8x1024 .f32) (x2 : Vec Ideal S4x1024 .f32) (x3 : Vec Ideal S1x1024 .f32)

/-- A row shifted down by `d` inside the block, its first `d` rows taken from the rows before the block. -/
theorem shift_at (G : ℕ → Fin 1024 → EReal) (base : ℕ) (d : ℕ) (hd : d = 1 ∨ d = 2 ∨ d = 3)
    (h0 : ∀ (p : Fin 256) (j : Fin 1024), x0 (ix2 p j) = G (base + p.val + 3) j)
    (hX : ∀ (q : Fin 8) (j : Fin 1024), 5 ≤ q.val → X (ix2 q j) = G (base + (q.val - 5)) j) (p : Fin 256) (j : Fin 1024)
    (h8 : (p.val + 8 - d) % 8 < 8) (h256 : (p.val + 256 - d) % 256 < 256) (h256' : (8 + (p.val - 8) + 256 - d) % 256 < 256) :
    (if h : p.val < 8 then
        Scalar.select (IntOp.cmpi .slt (BitVec.ofNat 32 p.val) (BitVec.ofNat 32 d)) (X (ix2 ⟨(p.val + 8 - d) % 8, h8⟩ j))
          (x0 (ix2 ⟨(p.val + 256 - d) % 256, h256⟩ j))
      else x0 (ix2 ⟨(8 + (p.val - 8) + 256 - d) % 256, h256'⟩ j)) = G (base + p.val + (3 - d)) j := by
  have key : p.val < 8 → IntOp.cmpi .slt (BitVec.ofNat 32 p.val) (BitVec.ofNat 32 d) = if p.val < d then 1#1 else 0#1 := by
    intro h
    have := p.isLt
    generalize p.val = n at *
    rcases hd with rfl | rfl | rfl <;> interval_cases n <;> decide
  split
  · rename_i h
    rw [key h]
    by_cases hl : p.val < d
    · rw [if_pos hl]
      show X _ = _
      rw [hX _ _ (by show 5 ≤ (p.val + 8 - d) % 8; omega)]
      congr 1
      show base + ((p.val + 8 - d) % 8 - 5) = _
      omega
    · rw [if_neg hl]
      show x0 _ = _
      rw [h0]
      congr 1
      show base + (p.val + 256 - d) % 256 + 3 = _
      omega
  · rename_i h
    rw [h0]
    congr 1
    show base + (8 + (p.val - 8) + 256 - d) % 256 + 3 = _
    omega

theorem conv_at (P : FVec Ideal ⟨2, ![8192, 4608]⟩ .f32) (cw : FVec Ideal ⟨2, ![4, 1024]⟩ .f32) (cb : FVec Ideal ⟨1, ![1024]⟩ .f32) (base : ℕ)
    (h0 : ∀ (p : Fin 256) (j : Fin 1024), x0 (ix2 p j) = Lru.padded P (base + p.val + 3) j)
    (hX : ∀ (q : Fin 8) (j : Fin 1024), 5 ≤ q.val → X (ix2 q j) = Lru.padded P (base + (q.val - 5)) j)
    (h2 : ∀ (a : Fin 4) (j : Fin 1024), x2 (ix2 a j) = cw (ix2 a j)) (h3 : ∀ j, x3 (ix2 0 j) = cb (ix1 j))
    (p : Fin 256) (j : Fin 1024) : convOf (F := Ideal) x0 X x2 x3 (ix2 p j) = Lru.conv P cw cb (base + p.val) j := by
  pointwise [convOf, k0_pay4, k0_pay5, k0_pay6, k0_pay7, k0_pay8, wrow0, wrow1, wrow2, wrow3]
  have e1 := shift_at x0 X (Lru.padded P) base 1 (by simp) h0 hX p j (Nat.mod_lt _ (by decide)) (Nat.mod_lt _ (by decide)) (Nat.mod_lt _ (by decide))
  have e2 := shift_at x0 X (Lru.padded P) base 2 (by simp) h0 hX p j (Nat.mod_lt _ (by decide)) (Nat.mod_lt _ (by decide)) (Nat.mod_lt _ (by decide))
  have e3 := shift_at x0 X (Lru.padded P) base 3 (by simp) h0 hX p j (Nat.mod_lt _ (by decide)) (Nat.mod_lt _ (by decide)) (Nat.mod_lt _ (by decide))
  refine (congrArg₂ (· + ·) (congrArg₂ (· + ·) (congrArg₂ (· + ·) (congrArg₂ (· + ·) (h3 j) (congrArg₂ (· * ·) (h2 0 j) e3))
    (congrArg₂ (· * ·) (h2 1 j) e2)) (congrArg₂ (· * ·) (h2 2 j) e1)) (congrArg₂ (· * ·) (h2 3 j) (h0 p j))).trans ?_
  unfold Lru.conv
  simp only [mul_comm (cw _), Nat.sub_self, Nat.add_zero, Nat.reduceSub]
  ac_rfl

/-- What the gates' products take is the convolved block. -/
theorem cut_at (p : Fin 256) (j : Fin 1024) :
    k0_pay10 (F := Ideal) x0 (k0_pay4 x0 X x3 (wrow0 x2) (wrow1 x2)) (k0_pay5 x0) k0_pay6 (k0_pay7 X) (wrow2 x2) (wrow3 x2) (ix2 p j)
      = convOf (F := Ideal) x0 X x2 x3 (ix2 p j) := by
  pointwise [convOf, k0_pay8, k0_pay10]

theorem ix3_congr {a b c : ℕ} {i i' : Fin a} {j : Fin b} {k k' : Fin c} (h : i = i') (h' : k = k') : ix3 i j k = ix3 i' j k' := by
  rw [h, h']

theorem gateI_open (w : Vec Ideal S8x128x128 .f32) (b : Vec Ideal S1x1024 .f32) (p : Fin 256) (j : Fin 1024) :
    gateI (F := Ideal) x0 X x2 x3 w b (ix2 p j)
      = Ideal.logistic ((∑ x : Fin 128, w (ix3 ⟨j.val / 128, by omega⟩ x ⟨j.val % 128, Nat.mod_lt _ (by decide)⟩)
          * convOf (F := Ideal) x0 X x2 x3 (ix2 p ⟨j.val / 128 * 128 + x.val, by omega⟩)) + b (ix2 0 j)) := by
  pointwise [gateI, cutOf, gblk0, gblk1, gblk2, gblk3, gblk4, gblk5, gblk6, gblk7, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  simp only [cut_at]
  refine congrArg Ideal.logistic (congrArg (· + _) ?_)
  split_ifs <;> refine Finset.sum_congr rfl fun x _ => (mul_comm _ _).trans
    (congrArg₂ (· * ·) (congrArg w (ix3_congr (Fin.ext ?_) (Fin.ext ?_))) (congrArg (fun q => convOf (F := Ideal) x0 X x2 x3 (ix2 p q)) (Fin.ext ?_))) <;>
    simp <;> omega

theorem gateR_open (w : Vec Ideal S8x128x128 .f32) (b : Vec Ideal S1x1024 .f32) (p : Fin 256) (j : Fin 1024) :
    gateR (F := Ideal) x0 X x2 x3 w b (ix2 p j)
      = Ideal.ofBits .f32 3238002688#32 * Ideal.logistic ((∑ x : Fin 128, w (ix3 ⟨j.val / 128, by omega⟩ x ⟨j.val % 128, Nat.mod_lt _ (by decide)⟩)
          * convOf (F := Ideal) x0 X x2 x3 (ix2 p ⟨j.val / 128 * 128 + x.val, by omega⟩)) + b (ix2 0 j)) := by
  pointwise [gateR, cutOf, gblk0, gblk1, gblk2, gblk3, gblk4, gblk5, gblk6, gblk7, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay31]
  simp only [cut_at]
  refine congrArg (Ideal.ofBits .f32 3238002688#32 * ·) (congrArg Ideal.logistic (congrArg (· + _) ?_))
  split_ifs <;> refine Finset.sum_congr rfl fun x _ => (mul_comm _ _).trans
    (congrArg₂ (· * ·) (congrArg w (ix3_congr (Fin.ext ?_) (Fin.ext ?_))) (congrArg (fun q => convOf (F := Ideal) x0 X x2 x3 (ix2 p q)) (Fin.ext ?_))) <;>
    simp <;> omega

variable (x1 : Vec Ideal S256x1024 .f32) (x4 : Vec Ideal S8x128x128 .f32) (x5 : Vec Ideal S1x1024 .f32) (x6 : Vec Ideal S8x128x128 .f32)
  (x7 : Vec Ideal S1x1024 .f32) (x8 : Vec Ideal S1x1024 .f32)

theorem decay_open (p : Fin 256) (j : Fin 1024) :
    decay (F := Ideal) x0 x1 x2 x3 x4 x5 x6 x7 x8 X (ix2 p j)
      = Ideal.exp (gateR (F := Ideal) x0 X x2 x3 x4 x5 (ix2 p j) * Lru.soft (x8 (ix2 0 j))) := by
  pointwise [decay, k0_pay34, k0_pay33, k0_pay32]
  unfold Lru.soft
  simp only [zero_sub]

theorem drive_open (p : Fin 256) (j : Fin 1024) :
    drive (F := Ideal) x0 x1 x2 x3 x4 x5 x6 x7 x8 X (ix2 p j)
      = Ideal.sqrt ((0 - Ideal.tanh (gateR (F := Ideal) x0 X x2 x3 x4 x5 (ix2 p j) * Lru.soft (x8 (ix2 0 j))))
          * (Ideal.exp (gateR (F := Ideal) x0 X x2 x3 x4 x5 (ix2 p j) * Lru.soft (x8 (ix2 0 j)))
            * Ideal.exp (gateR (F := Ideal) x0 X x2 x3 x4 x5 (ix2 p j) * Lru.soft (x8 (ix2 0 j))) + 1))
        * (gateI (F := Ideal) x0 X x2 x3 x6 x7 (ix2 p j) * convOf (F := Ideal) x0 X x2 x3 (ix2 p j)) := by
  pointwise [drive, k0_pay35, k0_pay34, k0_pay33, k0_pay32]
  unfold Lru.soft
  rw [zero_sub (x8 (ix2 0 j)), zero_sub (FloatOps.absf (F := Ideal) (φ := .f32) _)]

theorem tile_at (A : Vec Ideal S256x1024 .f32) (k : Fin k0_t1_loop.trips) (r : Fin 8) (j : Fin 1024)
    (hlt : 8 * k.val + r.val < 256) : tile (F := Ideal) A k (ix2 r j) = A (ix2 ⟨8 * k.val + r.val, hlt⟩ j) := by
  pointwise [tile]
  have h0 : k0_off1 k 0 = 8 * k.val := congrFun (k0_off1_eq k) 0
  have h1 : k0_off1 k 1 = 0 := congrFun (k0_off1_eq k) 1
  simp only [h0, h1, Nat.zero_add]

theorem ge_0_1 : IntOp.cmpi .sge 0#32 1#32 = 0#1 := by decide
theorem ge_0_2 : IntOp.cmpi .sge 0#32 2#32 = 0#1 := by decide
theorem ge_0_4 : IntOp.cmpi .sge 0#32 4#32 = 0#1 := by decide
theorem ge_1_1 : IntOp.cmpi .sge 1#32 1#32 = 1#1 := by decide
theorem ge_1_2 : IntOp.cmpi .sge 1#32 2#32 = 0#1 := by decide
theorem ge_1_4 : IntOp.cmpi .sge 1#32 4#32 = 0#1 := by decide
theorem ge_2_1 : IntOp.cmpi .sge 2#32 1#32 = 1#1 := by decide
theorem ge_2_2 : IntOp.cmpi .sge 2#32 2#32 = 1#1 := by decide
theorem ge_2_4 : IntOp.cmpi .sge 2#32 4#32 = 0#1 := by decide
theorem ge_3_1 : IntOp.cmpi .sge 3#32 1#32 = 1#1 := by decide
theorem ge_3_2 : IntOp.cmpi .sge 3#32 2#32 = 1#1 := by decide
theorem ge_3_4 : IntOp.cmpi .sge 3#32 4#32 = 0#1 := by decide
theorem ge_4_1 : IntOp.cmpi .sge 4#32 1#32 = 1#1 := by decide
theorem ge_4_2 : IntOp.cmpi .sge 4#32 2#32 = 1#1 := by decide
theorem ge_4_4 : IntOp.cmpi .sge 4#32 4#32 = 1#1 := by decide
theorem ge_5_1 : IntOp.cmpi .sge 5#32 1#32 = 1#1 := by decide
theorem ge_5_2 : IntOp.cmpi .sge 5#32 2#32 = 1#1 := by decide
theorem ge_5_4 : IntOp.cmpi .sge 5#32 4#32 = 1#1 := by decide
theorem ge_6_1 : IntOp.cmpi .sge 6#32 1#32 = 1#1 := by decide
theorem ge_6_2 : IntOp.cmpi .sge 6#32 2#32 = 1#1 := by decide
theorem ge_6_4 : IntOp.cmpi .sge 6#32 4#32 = 1#1 := by decide
theorem ge_7_1 : IntOp.cmpi .sge 7#32 1#32 = 1#1 := by decide
theorem ge_7_2 : IntOp.cmpi .sge 7#32 2#32 = 1#1 := by decide
theorem ge_7_4 : IntOp.cmpi .sge 7#32 4#32 = 1#1 := by decide
theorem sel_1 (x y : EReal) : Scalar.select 1#1 x y = x := rfl
theorem sel_0 (x y : EReal) : Scalar.select 0#1 x y = y := rfl

/-- One tile's scan by doubling is the recurrence's next eight steps. -/
theorem scan_at (h : Vec Ideal S1x1024 .f32) (A B : Vec Ideal S8x1024 .f32) (j : Fin 1024) (a b : ℕ → EReal) (base : ℕ)
    (ha : ∀ n, Lru.Tame (a n)) (hA : ∀ r : Fin 8, A (ix2 r j) = a (base + r.val)) (hB : ∀ r : Fin 8, B (ix2 r j) = b (base + r.val))
    (hh : h (ix2 0 j) = Lru.scan a b base) (r : Fin 8) :
    k0_pay36 (F := Ideal) h A B (ix2 r j) = Lru.scan a b (base + r.val + 1) := by
  have hd : ∀ n x y, a n * (x + y) = a n * x + a n * y := fun n => (ha n).distrib
  fin_cases r <;> (pointwise [k0_pay36]) <;>
    simp only [ge_0_1, ge_0_2, ge_0_4, ge_1_1, ge_1_2, ge_1_4, ge_2_1, ge_2_2, ge_2_4, ge_3_1, ge_3_2, ge_3_4, ge_4_1, ge_4_2, ge_4_4, ge_5_1, ge_5_2, ge_5_4, ge_6_1, ge_6_2, ge_6_4, ge_7_1, ge_7_2, ge_7_4, sel_1, sel_0, hA, hB, hh, Lru.scan, ← Nat.add_assoc] <;>
    simp [Lru.scan, ← Nat.add_assoc, mul_assoc, hd, add_assoc]

theorem scan37_open (h : Vec Ideal S1x1024 .f32) (A B : Vec Ideal S8x1024 .f32) (r : Fin 8) (j : Fin 1024) : k0_pay37 (F := Ideal) h A B (ix2 r j) = k0_pay36 (F := Ideal) h A B (ix2 r j) := by
  pointwise [k0_pay37]

theorem scan38_open (h : Vec Ideal S1x1024 .f32) (A B : Vec Ideal S8x1024 .f32) (r : Fin 8) (j : Fin 1024) : k0_pay38 (F := Ideal) h A B (ix2 0 j) = k0_pay36 (F := Ideal) h A B (ix2 7 j) := by
  pointwise [k0_pay38]

theorem scan39_open (h : Vec Ideal S1x1024 .f32) (j : Fin 1024) : k0_pay39 (F := Ideal) h (ix2 0 j) = h (ix2 0 j) := by
  pointwise [k0_pay39]

theorem scan9_open (q : Fin 8) (j : Fin 1024) : k0_pay9 (F := Ideal) x0 (ix2 q j) = x0 (ix2 ⟨248 + q.val, by omega⟩ j) := by
  pointwise [k0_pay9]

theorem scan2'_open (q : Fin 8) (j : Fin 1024) : k0_pay2 (F := Ideal) (ix2 q j) = 0 := by
  pointwise [k0_pay2]

theorem pay1_open (y : Vec Ideal S256x1024 .f32) (p : Fin 256) (j : Fin 1024) : k0_pay1 (F := Ideal) x1 y (ix2 p j) = Lru.act (x1 (ix2 p j)) * y (ix2 p j) := by
  pointwise [k0_pay1]
  rw [mul_comm (x1 (ix2 p j)) (x1 (ix2 p j) * x1 (ix2 p j))]
  rfl

/-! ## One block -/

theorem carry_at (A B : Vec Ideal S256x1024 .f32) (H : Vec Ideal S1x1024 .f32) (j : Fin 1024) (a b : ℕ → EReal) (base : ℕ)
    (ha : ∀ n, Lru.Tame (a n)) (hA : ∀ p : Fin 256, A (ix2 p j) = a (base + p.val)) (hB : ∀ p : Fin 256, B (ix2 p j) = b (base + p.val))
    (hh : H (ix2 0 j) = Lru.scan a b base) (k : ℕ) (hk : k ≤ 32) :
    hcar (F := Ideal) A B H k (ix2 0 j) = Lru.scan a b (base + 8 * k) := by
  induction k with
  | zero => exact hh
  | succ k ih =>
    have hk' : k < k0_t1_loop.trips := by rw [trips_eq]; omega
    rw [hcar_succ A B H k hk', scan38_open _ _ _ 0, scan_at _ _ _ j a b (base + 8 * k) ha
      (fun r => by rw [tile_at A ⟨k, hk'⟩ r j (by show 8 * k + r.val < 256; omega), hA]; congr 1; show base + (8 * k + r.val) = _; omega)
      (fun r => by rw [tile_at B ⟨k, hk'⟩ r j (by show 8 * k + r.val < 256; omega), hB]; congr 1; show base + (8 * k + r.val) = _; omega)
      (ih (by omega)) 7]
    rfl

theorem rows_at (A B : Vec Ideal S256x1024 .f32) (H : Vec Ideal S1x1024 .f32) (j : Fin 1024) (a b : ℕ → EReal) (base : ℕ)
    (ha : ∀ n, Lru.Tame (a n)) (hA : ∀ p : Fin 256, A (ix2 p j) = a (base + p.val)) (hB : ∀ p : Fin 256, B (ix2 p j) = b (base + p.val))
    (hh : H (ix2 0 j) = Lru.scan a b base) (p : Fin 256) :
    hseq (F := Ideal) A B H (ix2 p j) = Lru.scan a b (base + p.val + 1) := by
  have hk : p.val / 8 < k0_t1_loop.trips := by rw [trips_eq]; omega
  have e : inTile (ix2 p j) = ix2 ⟨p.val % 8, Nat.mod_lt _ (by decide)⟩ j := by
    funext x; fin_cases x <;> rfl
  show k0_pay37 (F := Ideal) (hcar (F := Ideal) A B H (p.val / 8)) (tile A ⟨p.val / 8, hk⟩) (tile B ⟨p.val / 8, hk⟩) (inTile (ix2 p j)) = _
  rw [e, scan37_open, scan_at _ _ _ j a b (base + 8 * (p.val / 8)) ha
      (fun r => by rw [tile_at A ⟨p.val / 8, hk⟩ r j (by show 8 * (p.val / 8) + r.val < 256; omega), hA]; congr 1; show base + (8 * (p.val / 8) + r.val) = _; omega)
      (fun r => by rw [tile_at B ⟨p.val / 8, hk⟩ r j (by show 8 * (p.val / 8) + r.val < 256; omega), hB]; congr 1; show base + (8 * (p.val / 8) + r.val) = _; omega)
      (carry_at A B H j a b base ha hA hB hh _ (by omega))]
  congr 1
  show base + 8 * (p.val / 8) + p.val % 8 + 1 = _
  omega

section Block

variable (P : FVec Ideal ⟨2, ![8192, 4608]⟩ .f32) (cw : FVec Ideal ⟨2, ![4, 1024]⟩ .f32) (cb : FVec Ideal ⟨1, ![1024]⟩ .f32)
  (wa : FVec Ideal ⟨3, ![8, 128, 128]⟩ .f32) (ba : FVec Ideal ⟨1, ![1024]⟩ .f32) (wi : FVec Ideal ⟨3, ![8, 128, 128]⟩ .f32)
  (bi : FVec Ideal ⟨1, ![1024]⟩ .f32) (lam : FVec Ideal ⟨1, ![1024]⟩ .f32) (base : ℕ)

/-- The block's operands are the arrays' rows from `base` on. -/
structure Rows : Prop where
  h0 : ∀ (p : Fin 256) (j : Fin 1024), x0 (ix2 p j) = Lru.padded P (base + p.val + 3) j
  hX : ∀ (q : Fin 8) (j : Fin 1024), 5 ≤ q.val → X (ix2 q j) = Lru.padded P (base + (q.val - 5)) j
  h2 : ∀ (a : Fin 4) (j : Fin 1024), x2 (ix2 a j) = cw (ix2 a j)
  h3 : ∀ j, x3 (ix2 0 j) = cb (ix1 j)
  h4 : ∀ a b c, x4 (ix3 a b c) = wa (ix3 a b c)
  h5 : ∀ j, x5 (ix2 0 j) = ba (ix1 j)
  h6 : ∀ a b c, x6 (ix3 a b c) = wi (ix3 a b c)
  h7 : ∀ j, x7 (ix2 0 j) = bi (ix1 j)
  h8 : ∀ j, x8 (ix2 0 j) = lam (ix1 j)

variable (R : Rows x0 X x2 x3 x4 x5 x6 x7 x8 P cw cb wa ba wi bi lam base)
include R

theorem block_gateI (p : Fin 256) (j : Fin 1024) :
    gateI (F := Ideal) x0 X x2 x3 x6 x7 (ix2 p j) = Lru.gate P cw cb wi bi (base + p.val) j := by
  rw [gateI_open, R.h7]
  simp only [R.h6, conv_at x0 X x2 x3 P cw cb base R.h0 R.hX R.h2 R.h3]
  rfl

theorem block_gateR (p : Fin 256) (j : Fin 1024) :
    gateR (F := Ideal) x0 X x2 x3 x4 x5 (ix2 p j) = Ideal.ofBits .f32 3238002688#32 * Lru.gate P cw cb wa ba (base + p.val) j := by
  rw [gateR_open, R.h5]
  simp only [R.h4, conv_at x0 X x2 x3 P cw cb base R.h0 R.hX R.h2 R.h3]
  rfl

theorem block_decay (p : Fin 256) (j : Fin 1024) :
    decay (F := Ideal) x0 x1 x2 x3 x4 x5 x6 x7 x8 X (ix2 p j) = Lru.decay P cw cb wa ba lam (base + p.val) j := by
  rw [decay_open, block_gateR x0 X x2 x3 x4 x5 x6 x7 x8 P cw cb wa ba wi bi lam base R, R.h8]
  rfl

theorem block_drive (p : Fin 256) (j : Fin 1024) :
    drive (F := Ideal) x0 x1 x2 x3 x4 x5 x6 x7 x8 X (ix2 p j) = Lru.drive P cw cb wa ba wi bi lam (base + p.val) j := by
  rw [drive_open, block_gateR x0 X x2 x3 x4 x5 x6 x7 x8 P cw cb wa ba wi bi lam base R,
    block_gateI x0 X x2 x3 x4 x5 x6 x7 x8 P cw cb wa ba wi bi lam base R, R.h8, conv_at x0 X x2 x3 P cw cb base R.h0 R.hX R.h2 R.h3]
  unfold Lru.drive
  rw [← Lru.gap _ _ (Lru.gate_tame ..)]
  rfl

theorem block_rows (H : Vec Ideal S1x1024 .f32) (hH : ∀ j, H (ix2 0 j) = Lru.state P cw cb wa ba wi bi lam base j) (p : Fin 256) (j : Fin 1024) :
    outB (F := Ideal) x0 x1 x2 x3 x4 x5 x6 x7 x8 X H (ix2 p j)
      = Lru.act (x1 (ix2 p j)) * Lru.state P cw cb wa ba wi bi lam (base + p.val + 1) j := by
  unfold outB
  rw [pay1_open, rows_at _ _ H j (fun n => Lru.decay P cw cb wa ba lam n j) (fun n => Lru.drive P cw cb wa ba wi bi lam n j) base
    (fun n => Lru.decay_is_tame P cw cb wa ba lam n j)
    (fun p => block_decay x0 X x2 x3 x1 x4 x5 x6 x7 x8 P cw cb wa ba wi bi lam base R p j)
    (fun p => block_drive x0 X x2 x3 x1 x4 x5 x6 x7 x8 P cw cb wa ba wi bi lam base R p j) (hH j) p]
  rfl

theorem block_carry (H : Vec Ideal S1x1024 .f32) (hH : ∀ j, H (ix2 0 j) = Lru.state P cw cb wa ba wi bi lam base j) (j : Fin 1024) :
    outH (F := Ideal) x0 x1 x2 x3 x4 x5 x6 x7 x8 X H (ix2 0 j) = Lru.state P cw cb wa ba wi bi lam (base + 256) j := by
  unfold outH
  rw [scan39_open, trips_eq, carry_at _ _ H j (fun n => Lru.decay P cw cb wa ba lam n j) (fun n => Lru.drive P cw cb wa ba wi bi lam n j) base
    (fun n => Lru.decay_is_tame P cw cb wa ba lam n j)
    (fun p => block_decay x0 X x2 x3 x1 x4 x5 x6 x7 x8 P cw cb wa ba wi bi lam base R p j)
    (fun p => block_drive x0 X x2 x3 x1 x4 x5 x6 x7 x8 P cw cb wa ba wi bi lam base R p j) (hH j) 32 le_rfl]
  rfl

end Block

end Cert.KerVal

end
-- ==== Proof.KerArr.lean ====
/- The kernel's result array: the recurrence of `Math` over the program's arguments. -/
module

public import proofs.«01_k».proof.Proof.Run
public import proofs.«01_k».proof.Proof.KerVal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KerArr

open Cert.KernelIdeal Cert.KernelIdeal.Gen Cert.KernelIdeal.Hand

variable (m : (ℓ : Loc nD τ sig) → Buf (Elt Ideal) ℓ)

/-- The windows' index maps. -/
theorem idx : ∀ t : Fin cfg0.N, win0_0.index t = ![t.val, 2] ∧ win0_1.index t = ![t.val, 1] ∧ win0_2.index t = ![0, 0]
    ∧ win0_3.index t = ![0, 0] ∧ win0_4.index t = ![0, 0, 0] ∧ win0_5.index t = ![0, 0] ∧ win0_6.index t = ![0, 0, 0]
    ∧ win0_7.index t = ![0, 0] ∧ win0_8.index t = ![0, 0] ∧ win0_9.index t = ![t.val, 0] :=
  (by decide +kernel : ∀ t : Fin grid0.N, _)

theorem N_eq : cfg0.N = 32 := by decide +kernel

abbrev arg0 (c : Dev nD) : FVec Ideal S8192x4608 .f32 := m ((c : Thread nD τ).loc main_arg0)
abbrev arg1 (c : Dev nD) : FVec Ideal S4x1024 .f32 := m ((c : Thread nD τ).loc main_arg1)
abbrev arg2 (c : Dev nD) : FVec Ideal S1024 .f32 := m ((c : Thread nD τ).loc main_arg2)
abbrev arg3 (c : Dev nD) : FVec Ideal S8x128x128 .f32 := m ((c : Thread nD τ).loc main_arg3)
abbrev arg4 (c : Dev nD) : FVec Ideal S1024 .f32 := m ((c : Thread nD τ).loc main_arg4)
abbrev arg5 (c : Dev nD) : FVec Ideal S8x128x128 .f32 := m ((c : Thread nD τ).loc main_arg5)
abbrev arg6 (c : Dev nD) : FVec Ideal S1024 .f32 := m ((c : Thread nD τ).loc main_arg6)
abbrev arg7 (c : Dev nD) : FVec Ideal S1024 .f32 := m ((c : Thread nD τ).loc main_arg7)

theorem blk0 (c : Dev nD) (t : Fin cfg0.N) (p : Fin 256) (j : Fin 1024) (h : 256 * t.val + p.val < 8192) :
    X0_0 m c t (ix2 p j) = arg0 m c (ix2 ⟨256 * t.val + p.val, h⟩ ⟨2048 + j.val, by omega⟩) := by
  unfold X0_0 Pipeline.Window.fill
  rw [dif_pos (moved0_0 t _)]
  blk_ext [iblk, V, idx t]

theorem blk1 (c : Dev nD) (t : Fin cfg0.N) (p : Fin 256) (j : Fin 1024) (h : 256 * t.val + p.val < 8192) :
    X0_1 m c t (ix2 p j) = arg0 m c (ix2 ⟨256 * t.val + p.val, h⟩ ⟨1024 + j.val, by omega⟩) := by
  unfold X0_1 Pipeline.Window.fill
  rw [dif_pos (moved0_1 t _)]
  blk_ext [iblk, V, idx t]

theorem blk2 (c : Dev nD) (t : Fin cfg0.N) (a : Fin 4) (j : Fin 1024) : iblk m c 2 t (ix2 a j) = arg1 m c (ix2 a j) := by
  blk_ext [iblk, V, idx t]

theorem blk3 (c : Dev nD) (t : Fin cfg0.N) (j : Fin 1024) : iblk m c 3 t (ix2 0 j) = arg2 m c (ix1 j) := by
  blk_point [iblk, V, idx t]

theorem blk4 (c : Dev nD) (t : Fin cfg0.N) (a : Fin 8) (x y : Fin 128) : iblk m c 4 t (ix3 a x y) = arg3 m c (ix3 a x y) := by
  blk_ext [iblk, V, idx t]

theorem blk5 (c : Dev nD) (t : Fin cfg0.N) (j : Fin 1024) : iblk m c 5 t (ix2 0 j) = arg4 m c (ix1 j) := by
  blk_point [iblk, V, idx t]

theorem blk6 (c : Dev nD) (t : Fin cfg0.N) (a : Fin 8) (x y : Fin 128) : iblk m c 6 t (ix3 a x y) = arg5 m c (ix3 a x y) := by
  blk_ext [iblk, V, idx t]

theorem blk7 (c : Dev nD) (t : Fin cfg0.N) (j : Fin 1024) : iblk m c 7 t (ix2 0 j) = arg6 m c (ix1 j) := by
  blk_point [iblk, V, idx t]

theorem blk8 (c : Dev nD) (t : Fin cfg0.N) (j : Fin 1024) : iblk m c 8 t (ix2 0 j) = arg7 m c (ix1 j) := by
  blk_point [iblk, V, idx t]

theorem rows_before (c : Dev nD) (n : ℕ) (hn : n ≤ cfg0.N) (q : Fin 8) (j : Fin 1024) (hq : 5 ≤ q.val) :
    rowsBefore m c n hn (ix2 q j) = Lru.padded (arg0 m c) (256 * n + (q.val - 5)) j := by
  have hN := N_eq
  unfold Lru.padded
  cases n with
  | zero =>
    rw [dif_neg (by omega)]
    exact KerVal.scan2'_open q j
  | succ n =>
    rw [dif_pos ⟨by omega, by omega⟩]
    show k0_pay9 (X0_0 m c ⟨n, hn⟩) (ix2 q j) = _
    rw [KerVal.scan9_open, blk0 m c ⟨n, hn⟩ _ j (by show 256 * n + (248 + q.val) < 8192; omega)]
    congr 2
    refine Fin.ext ?_
    show 256 * n + (248 + q.val) = 256 * (n + 1) + (q.val - 5) - 3
    omega

theorem rows (c : Dev nD) (t : Fin cfg0.N) :
    KerVal.Rows (X0_0 m c t) (rowsBefore m c t.val (Nat.le_of_lt t.isLt)) (iblk m c 2 t) (iblk m c 3 t) (iblk m c 4 t) (iblk m c 5 t)
      (iblk m c 6 t) (iblk m c 7 t) (iblk m c 8 t) (arg0 m c) (arg1 m c) (arg2 m c) (arg3 m c) (arg4 m c) (arg5 m c) (arg6 m c) (arg7 m c)
      (256 * t.val) where
  h0 p j := by
    have hN := N_eq
    have ht := t.isLt
    rw [blk0 m c t p j (by omega)]
    unfold Lru.padded
    rw [dif_pos ⟨by omega, by omega⟩]
    rfl
  hX q j hq := rows_before m c t.val _ q j hq
  h2 := blk2 m c t
  h3 := blk3 m c t
  h4 := blk4 m c t
  h5 := blk5 m c t
  h6 := blk6 m c t
  h7 := blk7 m c t
  h8 := blk8 m c t

theorem state_before (c : Dev nD) (n : ℕ) (hn : n ≤ cfg0.N) (j : Fin 1024) : stateBefore m c n hn (ix2 0 j)
    = Lru.state (arg0 m c) (arg1 m c) (arg2 m c) (arg3 m c) (arg4 m c) (arg5 m c) (arg6 m c) (arg7 m c) (256 * n) j := by
  induction n generalizing j with
  | zero =>
    show k0_pay3 (F := Ideal) (ix2 0 j) = 0
    pointwise [k0_pay3]
  | succ n ih =>
    exact KerVal.block_carry _ _ _ _ _ _ _ _ _ _ _ _ _ _ _ _ _ _ _ (rows m c ⟨n, hn⟩) _ (fun j => ih (Nat.le_of_lt hn) j) j

/-- The result array. -/
theorem final (c : Dev nD) : (dats m 0 c).arrAt 9 (cfgs 0).N
    = Lru.result (arg0 m c) (arg1 m c) (arg2 m c) (arg3 m c) (arg4 m c) (arg5 m c) (arg6 m c) (arg7 m c) := by
  refine (dats m 0 c).arrAt_eq_of_covers 9 _ (by decide +kernel) fun t _ y => ?_
  blk_simp
  rw [after0_9]
  have hN := N_eq
  have ht := t.isLt
  idx_vars y
  have ht' : t.val < 32 := by rw [← hN]; exact t.isLt
  have e : ((View.whole main_v4).slice (win0_9.rect t)).emb (ix2 y0 y1) = ix2 ⟨256 * t.val + y0.val, by omega⟩ y1 := by
    blk_ext [idx t]
  rw [e]
  refine (KerVal.block_rows _ _ _ _ _ _ _ _ _ _ _ _ _ _ _ _ _ _ _ (rows m c t) _ (fun j => state_before m c t.val _ j) y0 y1).trans ?_
  rw [blk1 m c t y0 y1 (by omega)]
  rfl

end Cert.KerArr

end
-- ==== Proof.Dense.lean ====
/- The projections and the norm before them in plain terms. -/
module

public import Idealize.ShloMosaic.Lib.Pointwise

@[expose] public section

noncomputable section

open Idealize.ShloMosaic

namespace Cert.Dense

/-- A row times a column. -/
def dot (l w : Fin 2048 → EReal) : EReal := ∑ k, l k * w k

/-- It is the product over the first half and that over the second. -/
theorem dot_halves (l w : Fin 2048 → EReal) : dot l w
    = (∑ k : Fin 1024, l ⟨k.val, by omega⟩ * w ⟨k.val, by omega⟩)
      + ∑ k : Fin 1024, l ⟨1024 + k.val, by omega⟩ * w ⟨1024 + k.val, by omega⟩ :=
  Fin.sum_univ_add (a := 1024) (b := 1024) fun k => l k * w k

/-- Two rows side by side. -/
def beside (a b : Fin 1024 → EReal) (k : Fin 2048) : EReal :=
  if h : k.val < 1024 then a ⟨k.val, h⟩ else b ⟨k.val - 1024, by omega⟩

theorem dot_beside (a b : Fin 1024 → EReal) (w : Fin 2048 → EReal) : dot (beside a b) w
    = (∑ k : Fin 1024, a k * w ⟨k.val, by omega⟩) + ∑ k : Fin 1024, b k * w ⟨1024 + k.val, by omega⟩ := by
  rw [dot_halves]
  refine congrArg₂ (· + ·) (Finset.sum_congr rfl fun k _ => ?_) (Finset.sum_congr rfl fun k _ => ?_)
  · rw [beside, dif_pos k.isLt]
  · rw [beside, dif_neg (by simp)]
    exact congrArg (fun q => b q * _) (Fin.ext (by simp))

/-- A row over the root of its mean square, scaled by the norm's weights and modulated. -/
def mixed (x g sc sh : Fin 2048 → EReal) (k : Fin 2048) : EReal :=
  x k * Ideal.rsqrt (Ideal.div (∑ a, x a * x a) (Ideal.ofBits FTy.f32 0x45000000#32) + Ideal.ofBits FTy.f32 0x358637BD#32) * g k
    * (1 + sc k) + sh k

end Cert.Dense

end
-- ==== Proof.OutEvenVal.lean ====
/- The output projection of an even layer: kernel and reference at an index. -/
module

public import proofs.«01_k».proof.Proof.Dense
public import proofs.«01_k».proof.Proof.Gen.OutEvenIdeal.Frame
public import proofs.«01_k».proof.Proof.Gen.RefOutEvenIdeal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutEvenVal

open Cert.OutEvenIdeal Cert.OutEvenIdeal.Gen

variable (m : (ℓ : Loc nD τ sig) → Buf (Elt Ideal) ℓ)

/-- The projection of the two mixers' outputs, gated, added to the residual. -/
def result (a b : FVec Ideal S8192x1024 .bf16) (w : FVec Ideal S2048x2048 .f32) (x : FVec Ideal S8192x2048 .f32)
    (g : FVec Ideal S1x2048 .f32) : FVec Ideal S8192x2048 .f32 :=
  fun i => x i + g (ix2 0 (i 1)) * Dense.dot (Dense.beside (fun k => a (ix2 (i 0) k)) fun k => b (ix2 (i 0) k)) fun k => w (ix2 k (i 1))

theorem idx : ∀ t : Fin cfg0.N, win0_0.index t = ![t.val / 2, 0] ∧ win0_1.index t = ![t.val / 2, 0] ∧ win0_2.index t = ![0, t.val % 2]
    ∧ win0_3.index t = ![1, t.val % 2] ∧ win0_4.index t = ![t.val / 2, t.val % 2] ∧ win0_5.index t = ![0, t.val % 2]
    ∧ win0_6.index t = ![t.val / 2, t.val % 2] :=
  (by decide +kernel : ∀ t : Fin grid0.N, _)

theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  frame_out
  unfold result
  rw [Dense.dot_beside]
  pointwise [k0_pay1]
  blk_point [iblk, V, idx t]

/-- The reference's composed term. -/
theorem ref_eq (a b : FVec Ideal S8192x1024 .bf16) (w : FVec Ideal S2048x2048 .f32) (x : FVec Ideal S8192x2048 .f32)
    (g : FVec Ideal S1x2048 .f32) :
    addf (F := Ideal) x (mulf (broadcastInDim Cert.RefOutEvenIdeal.S8192x2048 ![0, 1] Cert.RefOutEvenIdeal.Gen.bcast_S1x2048_S8192x2048_0_1 g)
      (Host.dotGeneral Cert.RefOutEvenIdeal.dot_S8192x2048_S2048x2048_S8192x2048_1_0_0_1_n_n none
        (concatenate Cert.RefOutEvenIdeal.S8192x2048 1
          [⟨Cert.RefOutEvenIdeal.S8192x1024, (extf .f32 a Cert.RefOutEvenIdeal.Gen.bitsLt_bf16_f32)⟩,
            ⟨Cert.RefOutEvenIdeal.S8192x1024, (extf .f32 b Cert.RefOutEvenIdeal.Gen.bitsLt_bf16_f32)⟩]
          Cert.RefOutEvenIdeal.Gen.concatenates_S8192x1024_S8192x1024_S8192x2048_d1) w))
      = result a b w x g := by
  unfold result Dense.dot Dense.beside
  funext i
  pointwise []

end Cert.OutEvenVal

end
-- ==== Proof.OutOddVal.lean ====
/- The output projection of an odd layer: kernel and reference at an index. -/
module

public import proofs.«01_k».proof.Proof.Dense
public import proofs.«01_k».proof.Proof.Gen.OutOddIdeal.Frame
public import proofs.«01_k».proof.Proof.Gen.RefOutOddIdeal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutOddVal

open Cert.OutOddIdeal Cert.OutOddIdeal.Gen

variable (m : (ℓ : Loc nD τ sig) → Buf (Elt Ideal) ℓ)

/-- The projection of the mixer's output, gated, added to the residual. -/
def result (a : FVec Ideal S8192x2048 .bf16) (w : FVec Ideal S2048x2048 .f32) (x : FVec Ideal S8192x2048 .f32)
    (g : FVec Ideal S1x2048 .f32) : FVec Ideal S8192x2048 .f32 :=
  fun i => x i + g (ix2 0 (i 1)) * Dense.dot (fun k => a (ix2 (i 0) k)) fun k => w (ix2 k (i 1))

theorem idx : ∀ t : Fin cfg0.N, win0_0.index t = ![t.val / 2, 0] ∧ win0_1.index t = ![t.val / 2, 1] ∧ win0_2.index t = ![0, t.val % 2]
    ∧ win0_3.index t = ![1, t.val % 2] ∧ win0_4.index t = ![t.val / 2, t.val % 2] ∧ win0_5.index t = ![0, t.val % 2]
    ∧ win0_6.index t = ![t.val / 2, t.val % 2] :=
  (by decide +kernel : ∀ t : Fin grid0.N, _)

theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  frame_out
  unfold result
  rw [Dense.dot_halves]
  pointwise [k0_pay1]
  blk_point [iblk, V, idx t]

/-- The reference's composed term. -/
theorem ref_eq (a : FVec Ideal S8192x2048 .bf16) (w : FVec Ideal S2048x2048 .f32) (x : FVec Ideal S8192x2048 .f32)
    (g : FVec Ideal S1x2048 .f32) :
    addf (F := Ideal) x (mulf (broadcastInDim Cert.RefOutOddIdeal.S8192x2048 ![0, 1] Cert.RefOutOddIdeal.Gen.bcast_S1x2048_S8192x2048_0_1 g)
      (Host.dotGeneral Cert.RefOutOddIdeal.dot_S8192x2048_S2048x2048_S8192x2048_1_0_0_1_n_n none
        (extf .f32 a Cert.RefOutOddIdeal.Gen.bitsLt_bf16_f32) w))
      = result a w x g := by
  unfold result Dense.dot
  funext i
  pointwise []

end Cert.OutOddVal

end
-- ==== Proof.InOddVal.lean ====
/- The norm and the input projection of an odd layer: kernel and reference at an index. -/
module

public import proofs.«01_k».proof.Proof.Dense
public import proofs.«01_k».proof.Proof.Gen.InOddIdeal.Frame
public import proofs.«01_k».proof.Proof.Gen.RefInOddIdeal
public import Idealize.ShloMosaic.Lib.Claim
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InOddVal

open Cert.InOddIdeal Cert.InOddIdeal.Gen

variable (m : (ℓ : Loc nD τ sig) → Buf (Elt Ideal) ℓ)

/-- The modulated norm of row `i`. -/
def hmix (x : FVec Ideal S8192x2048 .f32) (g sc sh : FVec Ideal S1x2048 .f32) (i : Fin 8192) : Fin 2048 → EReal :=
  Dense.mixed (fun k => x (ix2 i k)) (fun k => g (ix2 0 k)) (fun k => sc (ix2 0 k)) fun k => sh (ix2 0 k)

/-- Its projection. -/
def result (x : FVec Ideal S8192x2048 .f32) (g sc sh : FVec Ideal S1x2048 .f32) (w : FVec Ideal S2048x8192 .f32) :
    FVec Ideal S8192x8192 .f32 :=
  fun i => Dense.dot (hmix x g sc sh (i 0)) fun k => w (ix2 k (i 1))

theorem idx : ∀ t : Fin cfg0.N, win0_0.index t = ![t.val / 8, 0] ∧ win0_1.index t = ![0, 0] ∧ win0_2.index t = ![0, 0]
    ∧ win0_3.index t = ![0, 0] ∧ win0_4.index t = ![0, t.val % 8] ∧ win0_5.index t = ![t.val / 8, t.val % 8] :=
  (by decide +kernel : ∀ t : Fin grid0.N, _)

theorem N_eq : cfg0.N = 64 := by decide +kernel

abbrev arg0 (c : Dev nD) : FVec Ideal S8192x2048 .f32 := m ((c : Thread nD τ).loc main_arg0)
abbrev arg1 (c : Dev nD) : FVec Ideal S1x2048 .f32 := m ((c : Thread nD τ).loc main_arg1)
abbrev arg2 (c : Dev nD) : FVec Ideal S1x2048 .f32 := m ((c : Thread nD τ).loc main_arg2)
abbrev arg3 (c : Dev nD) : FVec Ideal S1x2048 .f32 := m ((c : Thread nD τ).loc main_arg3)
abbrev arg4 (c : Dev nD) : FVec Ideal S2048x8192 .f32 := m ((c : Thread nD τ).loc main_arg4)

/-- What the first point of a row of blocks stores in the scratch. -/
theorem pay_at (c : Dev nD) (t : Fin cfg0.N) (p : Fin 1024) (k : Fin 2048) (r : Fin 8192)
    (hr : r.val = 1024 * (t.val / 8) + p.val) : k0_pay1 (F := Ideal) (iblk m c 0 t) (iblk m c 1 t) (iblk m c 2 t) (iblk m c 3 t) (ix2 p k)
      = hmix (arg0 m c) (arg1 m c) (arg2 m c) (arg3 m c) r k := by
  unfold hmix Dense.mixed
  pointwise [k0_pay1]
  blk_point [iblk, V, idx t]

/-- The scratch after a point: the norm of the point's rows. -/
theorem scratch_at (c : Dev nD) (n : ℕ) (hn : n < cfg0.N) (p : Fin 1024) (k : Fin 2048) (r : Fin 8192)
    (hr : r.val = 1024 * (n / 8) + p.val) :
    (outsAt0 m c n hn).2 (ix2 p k) = hmix (arg0 m c) (arg1 m c) (arg2 m c) (arg3 m c) r k := by
  induction n with
  | zero =>
    rw [outsAt0_A m c ⟨0, hn⟩ rfl]
    frame_out
    exact pay_at m c ⟨0, hn⟩ p k r hr
  | succ n ih =>
    by_cases h8 : (n + 1) % 8 = 0
    · rw [outsAt0_A m c ⟨n + 1, hn⟩ h8]
      frame_out
      exact pay_at m c ⟨n + 1, hn⟩ p k r hr
    · rw [outsAt0_B m c ⟨n + 1, hn⟩ h8]
      exact ih (Nat.lt_of_succ_lt hn) (by omega)

/-- A block of the product over the rows in the scratch. -/
theorem block_at (c : Dev nD) (t : Fin cfg0.N) (s : FVec Ideal S1024x2048 .bf16)
    (hs : ∀ (p : Fin 1024) (k : Fin 2048) (r : Fin 8192), r.val = 1024 * (t.val / 8) + p.val →
      s (ix2 p k) = hmix (arg0 m c) (arg1 m c) (arg2 m c) (arg3 m c) r k) (y) :
    k0_pay2 (F := Ideal) s (iblk m c 4 t) y
      = result (arg0 m c) (arg1 m c) (arg2 m c) (arg3 m c) (arg4 m c) (((cfg0.win 5).blk t).view.emb y) := by
  unfold result Dense.dot
  have hN := N_eq
  have ht := t.isLt
  idx_vars y
  pointwise [k0_pay2]
  refine Finset.sum_congr rfl fun x _ => congrArg₂ (· * ·) (hs y0 x _ ?_) ?_
  · blk_simp [idx t]
    all_goals omega
  · blk_point [iblk, V, idx t]

/-- The result array. -/
theorem final (c : Dev nD) : (dats m 0 c).arrAt 5 (cfgs 0).N
    = result (arg0 m c) (arg1 m c) (arg2 m c) (arg3 m c) (arg4 m c) := by
  refine (dats m 0 c).arrAt_eq_of_covers 5 _ (by decide +kernel) fun t _ y => ?_
  blk_simp
  rw [after0_5]
  by_cases h : t.val % 8 = 0
  · rw [outsAt0_A m c t h]
    frame_out
    exact block_at m c t _ (fun p k r hr => pay_at m c t p k r hr) y
  · rw [outsAt0_B m c t h]
    frame_out
    refine block_at m c t _ (fun p k r hr => ?_) y
    rw [read_unread_whole]
    exact scratch_at m c (t.val - 1) _ p k r (by omega)

/-- The reference's composed term. -/
theorem ref_eq (x : FVec Ideal S8192x2048 .f32) (g sc sh : FVec Ideal S1x2048 .f32) (w : FVec Ideal S2048x8192 .f32) :
    Host.dotGeneral (F := Ideal) Cert.RefInOddIdeal.dot_S8192x2048_S2048x8192_S8192x8192_1_0_0_1_n_n none
      (addf (mulf (mulf (mulf x (broadcastInDim Cert.RefInOddIdeal.S8192x2048 ![0, 1] Cert.RefInOddIdeal.Gen.bcast_S8192x1_S8192x2048_0_1
        (Host.rsqrt (addf (Host.divf (broadcastInDim Cert.RefInOddIdeal.S8192x1 ![0] Cert.RefInOddIdeal.Gen.bcast_S8192_S8192x1_0
          (Host.reduceAdd (mulf x x) (constant Cert.RefInOddIdeal.S_ .f32 0x00000000#32)
            Cert.RefInOddIdeal.Gen.reducesTo_S8192x2048_S8192_d1 Cert.RefInOddIdeal.Gen.h_S_))
          (broadcastInDim Cert.RefInOddIdeal.S8192x1 ![] Cert.RefInOddIdeal.Gen.bcast_S_S8192x1 (constant Cert.RefInOddIdeal.S_ .f32 0x45000000#32)))
          (broadcastInDim Cert.RefInOddIdeal.S8192x1 ![] Cert.RefInOddIdeal.Gen.bcast_S_S8192x1 (constant Cert.RefInOddIdeal.S_ .f32 0x358637BD#32))))))
        (broadcastInDim Cert.RefInOddIdeal.S8192x2048 ![0, 1] Cert.RefInOddIdeal.Gen.bcast_S1x2048_S8192x2048_0_1 g))
        (broadcastInDim Cert.RefInOddIdeal.S8192x2048 ![0, 1] Cert.RefInOddIdeal.Gen.bcast_S1x2048_S8192x2048_0_1
          (addf (broadcastInDim Cert.RefInOddIdeal.S1x2048 ![] Cert.RefInOddIdeal.Gen.bcast_S_S1x2048 (constant Cert.RefInOddIdeal.S_ .f32 0x3F800000#32)) sc)))
        (broadcastInDim Cert.RefInOddIdeal.S8192x2048 ![0, 1] Cert.RefInOddIdeal.Gen.bcast_S1x2048_S8192x2048_0_1 sh)) w
      = result x g sc sh w := by
  funext i
  unfold result hmix Dense.dot Dense.mixed
  pointwise []

end Cert.InOddVal

end
-- ==== Proof.InEvenBody.lean ====
/- One grid point of the even layers' input projection, run once for any reading of the float operations. At the first column
   block of a row block the body norms the rows into its scratch buffer and stores the gate columns; at every point it stores
   one column block of the main product; at the last two it stores that block's copy at half precision as well. -/
module

public import proofs.«01_k».proof.Proof.Gen.InEvenIdeal.Skeleton
public import proofs.«01_k».proof.Proof.Gen.InEvenIdeal.Frame
public import Idealize.ShloMosaic.Lib.VecWindow
public import Idealize.ShloMosaic.Lib.WholeRead
public import Idealize.ShloMosaic.Lib.Pipeline.ValueKit.Acc

@[expose] public section

set_option maxRecDepth 16384

noncomputable section

namespace Cert.InEvenIdeal.Hand

open Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a whole buffer reads its contents. -/
theorem ld_whole {s : Shape} {e : EltTy} (m : Memref sig .tc .vmem s e) (h : m.IsWhole) (X : Vec F s e) {off : Fin s.rank → ℕ}
    (inb : ∀ a, off a + s.size a ≤ s.size a) :
    View.readAt (Elt F) m.view (Rect.unit off s.size inb).toLoadRect (h.unread X) = X :=
  (View.readAt_full m.view (h.unread X) inb).trans (h.read_unread X)

/-- The rows a row block's first point norms, as the scratch buffer keeps them. -/
def normed (x0 : Vec F S1024x2048 .f32) (x1 x2 x3 : Vec F S1x2048 .f32) : Vec F S1024x2048 .bf16 := k0_pay2 x0 x1 x2 x3

set_option maxHeartbeats 2000000 in
/-- A row block's first point: the scratch buffer is filled, the gate columns and the first main block stored. -/
theorem run_first (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S2048x768 .bf16) (harg6 : arg6.IsWhole)
    (arg7 : Memref sig .tc .vmem S2048x128 .bf16) (harg7 : arg7.IsWhole)
    (arg8 : Memref sig .tc .vmem S1024x768 .f32) (harg8 : arg8.IsWhole)
    (arg9 : Memref sig .tc .vmem S1024x128 .f32) (harg9 : arg9.IsWhole)
    (arg10 : Memref sig .tc .vmem S1024x768 .bf16) (harg10 : arg10.IsWhole)
    (arg11 : Memref sig .tc .vmem S1024x2048 .bf16) (harg11 : arg11.IsWhole)
    (hc1 : k0_cond1 i = 1#1) (hc2 : ¬ k0_cond2 i = 1#1) (x0 : Vec F S1024x2048 .f32) (x1 : Vec F S1x2048 .f32) (x2 : Vec F S1x2048 .f32) (x3 : Vec F S1x2048 .f32) (x4 : Vec F S2048x768 .bf16) (x5 : Vec F S2048x128 .bf16) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ (∃ d, owns (c : Thread nD τ) arg11 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay4 (normed x0 x1 x2 x3) x4)
            ∗ owns (c : Thread nD τ) arg9 fullShare (k0_pay3 x0 x1 x2 x3 x5)
            ∗ owns (c : Thread nD τ) arg11 fullShare (normed x0 x1 x2 x3)) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    rw [View.read_writes_full, ld_whole arg6 harg6 x4]; unfold run_first.sl.v3 View.readCov; rw [View.readAt_full]; unfold run_first.sl.H11_1; rw [View.read_writes_full, ld_whole arg2 harg2 x0, ld_whole arg3 harg3 x1, ld_whole arg4 harg4 x2, ld_whole arg5 harg5 x3]; rfl
  isplitl [H9]
  · iexists _; isplitr; swap; · iexact H9
    ipureintro
    rw [View.read_writes_full, ld_whole arg2 harg2 x0, ld_whole arg3 harg3 x1, ld_whole arg4 harg4 x2, ld_whole arg5 harg5 x3, ld_whole arg7 harg7 x5]
  iexists _; isplitr; swap; · iexact H11
  ipureintro
  unfold run_first.sl.H11_1; rw [View.read_writes_full, ld_whole arg2 harg2 x0, ld_whole arg3 harg3 x1, ld_whole arg4 harg4 x2, ld_whole arg5 harg5 x3]; rfl

set_option maxHeartbeats 2000000 in
/-- A point after it: one main block, off the scratch buffer. -/
theorem run_mid (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S2048x768 .bf16) (harg6 : arg6.IsWhole)
    (arg7 : Memref sig .tc .vmem S2048x128 .bf16) (harg7 : arg7.IsWhole)
    (arg8 : Memref sig .tc .vmem S1024x768 .f32) (harg8 : arg8.IsWhole)
    (arg9 : Memref sig .tc .vmem S1024x128 .f32) (harg9 : arg9.IsWhole)
    (arg10 : Memref sig .tc .vmem S1024x768 .bf16) (harg10 : arg10.IsWhole)
    (arg11 : Memref sig .tc .vmem S1024x2048 .bf16) (harg11 : arg11.IsWhole)
    (hc1 : ¬ k0_cond1 i = 1#1) (hc2 : ¬ k0_cond2 i = 1#1) (x4 : Vec F S2048x768 .bf16) (X : Vec F S1024x2048 .bf16) (E : Set ℕ) (K : PUnit → sProp 𝕄) :
    iprop(owns (c : Thread nD τ) arg6 fullShare x4
        ∗ (∃ d, owns (c : Thread nD τ) arg8 fullShare d)
        ∗ owns (c : Thread nD τ) arg11 fullShare X
        ∗ (iprop(owns (c : Thread nD τ) arg6 fullShare x4
            ∗ owns (c : Thread nD τ) arg8 fullShare (k0_pay4 X x4)
            ∗ owns (c : Thread nD τ) arg11 fullShare X) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  unfold owns
  iintro ⟨⟨%f6, %hf6, H6⟩, ⟨%d8, %f8, -, H8⟩, ⟨%f11, %hf11, H11⟩, Hk⟩
  obtain rfl := harg6.eq_unread hf6; obtain rfl := harg11.eq_unread hf11
  sl_exec (disch := first | sl_exact hc1 | sl_exact hc2)
  sl_step
  iapply Hk
  isplitl [H6]
  · iexists _; isplitr; · ipureintro; exact harg6.read_unread _
    iexact H6
  isplitl [H8]
  · iexists _; isplitr; swap; · iexact H8
    ipureintro
    rw [View.read_writes_full, ld_whole arg11 harg11 X, ld_whole arg6 harg6 x4]
  iexists _; isplitr; · ipureintro; exact harg11.read_unread _
  iexact H11

set_option maxHeartbeats 2000000 in
/-- One of the last two points: one main block and its half-precision copy. -/
theorem run_last (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S2048x768 .bf16) (harg6 : arg6.IsWhole)
    (arg7 : Memref sig .tc .vmem S2048x128 .bf16) (harg7 : arg7.IsWhole)
    (arg8 : Memref sig .tc .vmem S1024x768 .f32) (harg8 : arg8.IsWhole)
    (arg9 : Memref sig .tc .vmem S1024x128 .f32) (harg9 : arg9.IsWhole)
    (arg10 : Memref sig .tc .vmem S1024x768 .bf16) (harg10 : arg10.IsWhole)
    (arg11 : Memref sig .tc .vmem S1024x2048 .bf16) (harg11 : arg11.IsWhole)
    (hc1 : ¬ k0_cond1 i = 1#1) (hc2 : k0_cond2 i = 1#1) (x4 : Vec F S2048x768 .bf16) (X : Vec F S1024x2048 .bf16) (E : Set ℕ) (K : PUnit → sProp 𝕄) :
    iprop(owns (c : Thread nD τ) arg6 fullShare x4
        ∗ (∃ d, owns (c : Thread nD τ) arg8 fullShare d)
        ∗ (∃ d, owns (c : Thread nD τ) arg10 fullShare d)
        ∗ owns (c : Thread nD τ) arg11 fullShare X
        ∗ (iprop(owns (c : Thread nD τ) arg6 fullShare x4
            ∗ owns (c : Thread nD τ) arg8 fullShare (k0_pay4 X x4)
            ∗ owns (c : Thread nD τ) arg10 fullShare (k0_pay5 X x4)
            ∗ owns (c : Thread nD τ) arg11 fullShare X) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  unfold owns
  iintro ⟨⟨%f6, %hf6, H6⟩, ⟨%d8, %f8, -, H8⟩, ⟨%d10, %f10, -, H10⟩, ⟨%f11, %hf11, H11⟩, Hk⟩
  obtain rfl := harg6.eq_unread hf6; obtain rfl := harg11.eq_unread hf11
  sl_exec (disch := first | sl_exact hc1 | sl_exact hc2)
  sl_step
  iapply Hk
  isplitl [H6]
  · iexists _; isplitr; · ipureintro; exact harg6.read_unread _
    iexact H6
  isplitl [H8]
  · iexists _; isplitr; swap; · iexact H8
    ipureintro
    rw [View.read_writes_full, ld_whole arg11 harg11 X, ld_whole arg6 harg6 x4]
  isplitl [H10]
  · iexists _; isplitr; swap; · iexact H10
    ipureintro
    rw [View.read_writes_full, ld_whole arg11 harg11 X, ld_whole arg6 harg6 x4]
  iexists _; isplitr; · ipureintro; exact harg11.read_unread _
  iexact H11

end Cert.InEvenIdeal.Hand

end
-- ==== Proof.InEvenRun.lean ====
/- The even layers' input projection's launch: the normed rows followed from point to point in the scratch buffer, and what the
   launch leaves in memory. -/
module

public import proofs.«01_k».proof.Proof.InEvenBody
public import proofs.«01_k».proof.Proof.Gen.InEvenIdeal.Launch
public import proofs.«01_k».proof.Proof.Gen.InEvenIdeal.Points
public import Idealize.ShloMosaic.Lib.Claim

@[expose] public section

set_option maxRecDepth 16384

noncomputable section

namespace Cert.InEvenIdeal.Hand

open Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- The first point of `t`'s row block. -/
def first (t : Fin cfg0.N) : Fin cfg0.N := ⟨t.val - t.val % 6, lt_of_le_of_lt (Nat.sub_le _ _) t.isLt⟩

theorem first_self (t : Fin cfg0.N) (h : t.val % 6 = 0) : first t = t := Fin.ext (by unfold first; dsimp only; omega)

theorem first_succ (n : ℕ) (h : n + 1 < cfg0.N) (h6 : (n + 1) % 6 ≠ 0) : first ⟨n + 1, h⟩ = first ⟨n, by omega⟩ :=
  Fin.ext (by unfold first; dsimp only; omega)

/-- The normed rows of `t`'s row block, -/
def rowsAt (c : Dev nD) (t : Fin cfg0.N) : Vec F S1024x2048 .bf16 :=
  normed (iblk m c 0 (first t)) (iblk m c 1 (first t)) (iblk m c 2 (first t)) (iblk m c 3 (first t))

/-- and its gate columns. -/
def gateAt (c : Dev nD) (t : Fin cfg0.N) : Vec F S1024x128 .f32 :=
  k0_pay3 (iblk m c 0 (first t)) (iblk m c 1 (first t)) (iblk m c 2 (first t)) (iblk m c 3 (first t)) (iblk m c 5 (first t))

/-! ## The scratch buffer -/

abbrev scM := Memref.whole cc0_scratch0

theorem PhiA0_eq (c : Dev nD) : (Pipeline.ΦA spec0 c : sProp 𝕄)
    = iprop((∃ d, owns (c : Thread nD τ) scM fullShare d) ∗ (∃ r, prngReg c r)) := by
  unfold Pipeline.ΦA
  rw [scopedRest0_eq]
  simp only [scM, owns_whole]
  try rfl

/-- The region's invariant before point `n`: the scratch buffer at the rows of the point before. -/
def PhiS (c : Dev nD) : (n : ℕ) → n ≤ cfg0.N → sProp 𝕄
  | 0, _ => Pipeline.ΦA spec0 c
  | n + 1, h => iprop(owns (c : Thread nD τ) scM fullShare (rowsAt m c ⟨n, h⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (h : n < cfg0.N) :
    PhiS m c (n + 1) h = iprop(owns (c : Thread nD τ) scM fullShare (rowsAt m c ⟨n, h⟩) ∗ (∃ r, prngReg c r)) := rfl

/-- Whatever was left in it, the scratch buffer holds something. -/
theorem PhiS_any (c : Dev nD) (n : ℕ) (h : n ≤ cfg0.N) :
    PhiS m c n h ⊢ iprop((∃ d, owns (c : Thread nD τ) scM fullShare d) ∗ (∃ r, prngReg c r)) := by
  cases n with
  | zero => rw [PhiS_zero m c 0 h rfl, PhiA0_eq]
  | succ n =>
    rw [PhiS_succ]
    iintro ⟨HS, Hg⟩
    isplitl [HS]
    · iexists _; iexact HS
    iexact Hg

/-- Past a row block's first point it holds the block's rows. -/
theorem PhiS_inside (c : Dev nD) (t : Fin cfg0.N) (h6 : t.val % 6 ≠ 0) :
    PhiS m c t.val (Nat.le_of_lt t.isLt) = iprop(owns (c : Thread nD τ) scM fullShare (rowsAt m c t) ∗ (∃ r, prngReg c r)) := by
  obtain ⟨n, hn⟩ := t
  cases n with
  | zero => exact absurd (Nat.zero_mod 6) h6
  | succ n =>
    rw [PhiS_succ]
    unfold rowsAt
    rw [first_succ n hn h6]

/-! ## The pipeline's proof data -/

/-- The arrays as the region finds them; every input's buffer left at its block, the outputs' at what the point stores or, for
    the gate columns, at what the row block's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (rowsAt m c t) (iblk m c 4 t)
    | ⟨7, _⟩ => gateAt m c t
    | ⟨8, _⟩ => k0_pay5 (rowsAt m c t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (rowsAt m c t) (iblk m c 4 t) := by dsimp only [dats]
theorem after0_7 (c : Dev nD) (t : Fin cfg0.N) : (dats m 0 c).after 7 t = gateAt m c t := by dsimp only [dats]
theorem after0_8 (c : Dev nD) (t : Fin cfg0.N) : (dats m 0 c).after 8 t = k0_pay5 (rowsAt m c t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Which points store what -/

theorem cond1_iff : ∀ t : Fin cfg0.N, k0_cond1 (grid0.coords t) = 1#1 ↔ t.val % 6 = 0 := by decide +kernel
theorem cond2_iff : ∀ t : Fin cfg0.N, k0_cond2 (grid0.coords t) = 1#1 ↔ 4 ≤ t.val % 6 := by decide +kernel
theorem idle7_first : ∀ t : Fin cfg0.N, t.val % 6 = 0 → cfg0.idle 7 (cfg0.grid.coords t) = false := by decide +kernel
theorem idle7_later : ∀ t : Fin cfg0.N, t.val % 6 ≠ 0 → cfg0.idle 7 (cfg0.grid.coords t) = true := by decide +kernel
theorem idle8_last : ∀ t : Fin cfg0.N, 4 ≤ t.val % 6 → cfg0.idle 8 (cfg0.grid.coords t) = false := by decide +kernel
theorem idle8_early : ∀ t : Fin cfg0.N, ¬ 4 ≤ t.val % 6 → cfg0.idle 8 (cfg0.grid.coords t) = true := by decide +kernel
theorem flush7_last : ∀ t : Fin cfg0.N, t.val % 6 = 5 → (cfg0.win 7).flush t = true := by decide +kernel
theorem flush7_early : ∀ t : Fin cfg0.N, t.val % 6 ≠ 5 → (cfg0.win 7).flush t = false := by decide +kernel
theorem flush8_early : ∀ t : Fin cfg0.N, ¬ 4 ≤ t.val % 6 → (cfg0.win 8).flush t = false := by decide +kernel
theorem fetch7 : ∀ t : Fin cfg0.N, (cfg0.win 7).fetch t = false := fun _ => rfl

/-- Past a row block's first point the gate columns' buffer holds what that point stored. -/
theorem before0_7 (c : Dev nD) : ∀ (n : ℕ) (h : n < cfg0.N) (d), n % 6 ≠ 0 → (dats m 0 c).before 7 ⟨n, h⟩ d = gateAt m c ⟨n, h⟩
  | 0, _, _, h6 => absurd (Nat.zero_mod 6) h6
  | n + 1, h, d, h6 => by
    have e := (dats m 0 c).before_of_pos 7 ⟨n + 1, h⟩ (Nat.succ_ne_zero n) (fetch7 _) d
    have hn : n < cfg0.N := by omega
    refine e.trans ?_
    rw [show (⟨(⟨n + 1, h⟩ : Fin cfg0.N).val - 1, Nat.lt_of_le_of_lt (Nat.sub_le _ _) h⟩ : Fin cfg0.N) = ⟨n, hn⟩ from rfl,
      flush7_early ⟨n, hn⟩ (by dsimp only; omega), if_neg Bool.false_ne_true]
    have hg : gateAt m c ⟨n + 1, h⟩ = gateAt m c ⟨n, hn⟩ := by unfold gateAt; rw [first_succ n h h6]
    rw [hg]
    unfold Dat.left
    by_cases h0 : n % 6 = 0
    · rw [idle7_first ⟨n, hn⟩ h0]
      exact after0_7 m c ⟨n, hn⟩
    · rw [idle7_later ⟨n, hn⟩ h0]
      exact before0_7 c n hn d h0

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t ∗ (dats m 0 c).leavesExact 8 t)

/-- What is given back of the gate columns' buffer past a row block's first point: what was found. -/
theorem leaves7 (c : Dev nD) (t : Fin cfg0.N) (h6 : t.val % 6 ≠ 0) (d) :
    owns (c : Thread nD τ) (st0_7 t) fullShare ((dats m 0 c).before 7 t d) ⊢ ((dats m 0 c).leavesExact 7 t : sProp 𝕄) := by
  by_cases h5 : t.val % 6 = 5
  · unfold Dat.leavesExact
    rw [idle7_later t h6, flush7_last t h5]
    dsimp only
    rw [after0_7, before0_7 m c t.val t.isLt d h6]
  · rw [(dats m 0 c).leavesExact_idle 7 t (idle7_later t h6) (flush7_early t h5)]
    iintro H
    iexists d; iexact H

/-- What is given back of the half-precision block's buffer before the last two points: what was found. -/
theorem leaves8 (c : Dev nD) (t : Fin cfg0.N) (h4 : ¬ 4 ≤ t.val % 6) (d) :
    owns (c : Thread nD τ) (st0_8 t) fullShare ((dats m 0 c).before 8 t d) ⊢ ((dats m 0 c).leavesExact 8 t : sProp 𝕄) := by
  rw [(dats m 0 c).leavesExact_idle 8 t (idle8_early t h4) (flush8_early t h4)]
  iintro H
  iexists d; iexact H

theorem stores7 (c : Dev nD) (t : Fin cfg0.N) (h6 : t.val % 6 = 0) :
    owns (c : Thread nD τ) (st0_7 t) fullShare (gateAt m c t) ⊢ ((dats m 0 c).leavesExact 7 t : sProp 𝕄) := by
  unfold Dat.leavesExact
  rw [idle7_first t h6]
  dsimp only
  rw [after0_7]

theorem stores8 (c : Dev nD) (t : Fin cfg0.N) (h4 : 4 ≤ t.val % 6) :
    owns (c : Thread nD τ) (st0_8 t) fullShare (k0_pay5 (rowsAt m c t) (iblk m c 4 t)) ⊢ ((dats m 0 c).leavesExact 8 t : sProp 𝕄) := by
  unfold Dat.leavesExact
  rw [idle8_last t h4]
  dsimp only
  rw [after0_8]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  by_cases h0 : t.val % 6 = 0
  · have h4 : ¬ 4 ≤ t.val % 6 := by omega
    have hr : rowsAt m c t = normed (iblk m c 0 t) (iblk m c 1 t) (iblk m c 2 t) (iblk m c 3 t) := by
      unfold rowsAt; rw [first_self t h0]
    have hg : gateAt m c t = k0_pay3 (iblk m c 0 t) (iblk m c 1 t) (iblk m c 2 t) (iblk m c 3 t) (iblk m c 5 t) := by
      unfold gateAt; rw [first_self t h0]
    have s7 := stores7 m c t h0
    rw [hg] at s7
    rw [show (⟨t.val, t.isLt⟩ : Fin cfg0.N) = t from rfl, hr]
    refine (sep_mono (PhiS_any m c t.val _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ ((cond1_iff t).mpr h0) (fun h => h4 ((cond2_iff t).mp h)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply s7; iexact H7
    iapply (leaves8 m c t h4 _); iexact H8
  · have hP := PhiS_inside m c t h0
    rw [hP]
    by_cases h4 : 4 ≤ t.val % 6
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) _ _ _ _ _ _ _ _ _ _ _ _ _ _ _ _ _ _ _ _ (fun h => h0 ((cond1_iff t).mp h)) ((cond2_iff t).mpr h4) (iblk m c 4 t) (rowsAt m c t) Set.univ _)
      isplitl [H4]; · iexact H4
      isplitl [H6]; · iexists _; iexact H6
      isplitl [H8]; · iexists _; iexact H8
      isplitl [HS]; · iexact HS
      iintro ⟨H4, H6, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (leaves7 m c t h0 _); iexact H7
      iapply (stores8 m c t h4); iexact H8
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords t) _ _ _ _ _ _ _ _ _ _ _ _ _ _ _ _ _ _ _ _ (fun h => h0 ((cond1_iff t).mp h)) (fun h => h4 ((cond2_iff t).mp h)) (iblk m c 4 t) (rowsAt m c t) Set.univ _)
      isplitl [H4]; · iexact H4
      isplitl [H6]; · iexists _; iexact H6
      isplitl [HS]; · iexact HS
      iintro ⟨H4, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (leaves7 m c t h0 _); iexact H7
      iapply (leaves8 m c t h4 _); iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  exact PhiS_any m c _ _

/-! ## The run -/

set_option backward.isDefEq.respectTransparency.types false in
/-- Every run of the program ends with the pipeline's arrays at what the points left in them and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InEvenIdeal.Hand

end
-- ==== Proof.InEvenVal.lean ====
/- The norm and the input projection of an even layer: kernel and reference at an index. -/
module

public import proofs.«01_k».proof.Proof.Dense
public import proofs.«01_k».proof.Proof.InEvenRun
public import proofs.«01_k».proof.Proof.Gen.RefInEvenIdeal
public import Idealize.ShloMosaic.Lib.Claim
public import Idealize.ShloMosaic.Lib.Pipeline.ValueKit
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.InEvenVal

open Cert.InEvenIdeal Cert.InEvenIdeal.Gen Cert.InEvenIdeal.Hand

variable (m : (ℓ : Loc nD τ sig) → Buf (Elt Ideal) ℓ)

/-- The modulated norm of row `i`. -/
def hmix (x : FVec Ideal S8192x2048 .f32) (g sc sh : FVec Ideal S1x2048 .f32) (i : Fin 8192) : Fin 2048 → EReal :=
  Dense.mixed (fun k => x (ix2 i k)) (fun k => g (ix2 0 k)) (fun k => sc (ix2 0 k)) fun k => sh (ix2 0 k)

/-- Column `j` of its projection. -/
def proj (x : FVec Ideal S8192x2048 .f32) (g sc sh : FVec Ideal S1x2048 .f32) (w : FVec Ideal S2048x4632 .f32) (i : Fin 8192)
    (j : Fin 4632) : EReal := Dense.dot (hmix x g sc sh i) fun k => w (ix2 k j)

/-- The column of the weights that column `j` of the first result is the product with: the queries', then the recurrence's two
    inputs, then the keys' and values'. -/
def col (j : Fin 4608) : Fin 4632 :=
  if h : j.val < 1024 then ⟨j.val, by omega⟩
  else if h' : j.val < 3072 then ⟨j.val + 1560, by omega⟩ else ⟨j.val - 2048, by omega⟩

/-- The first result, -/
def result (x : FVec Ideal S8192x2048 .f32) (g sc sh : FVec Ideal S1x2048 .f32) (w : FVec Ideal S2048x4632 .f32) :
    FVec Ideal S8192x4608 .f32 := fun i => proj x g sc sh w (i 0) (col (i 1))

/-- the gates, zeros beyond the twenty-four, -/
def gates (x : FVec Ideal S8192x2048 .f32) (g sc sh : FVec Ideal S1x2048 .f32) (w : FVec Ideal S2048x4632 .f32) :
    FVec Ideal S8192x128 .f32 :=
  fun i => if h : (i 1).val < 24 then proj x g sc sh w (i 0) ⟨2560 + (i 1).val, by omega⟩ else 0

/-- and the keys and values. -/
def keys (x : FVec Ideal S8192x2048 .f32) (g sc sh : FVec Ideal S1x2048 .f32) (w : FVec Ideal S2048x4632 .f32) :
    FVec Ideal S8192x1536 .bf16 :=
  fun i => proj x g sc sh w (i 0) ⟨1024 + (i 1).val, by have := (i 1).isLt; change (i 1).val < 1536 at this; omega⟩

abbrev arg0 (c : Dev nD) : FVec Ideal S8192x2048 .f32 := m ((c : Thread nD τ).loc main_arg0)
abbrev arg1 (c : Dev nD) : FVec Ideal S1x2048 .f32 := m ((c : Thread nD τ).loc main_arg1)
abbrev arg2 (c : Dev nD) : FVec Ideal S1x2048 .f32 := m ((c : Thread nD τ).loc main_arg2)
abbrev arg3 (c : Dev nD) : FVec Ideal S1x2048 .f32 := m ((c : Thread nD τ).loc main_arg3)
abbrev arg4 (c : Dev nD) : FVec Ideal S2048x4632 .f32 := m ((c : Thread nD τ).loc main_arg4)

/-! ## The weights the launch is given -/

/-- The rearranged columns. -/
theorem main_at (w : FVec Ideal S2048x4632 .f32) (k : Fin 2048) (j : Fin 4608) :
    truncf (F := Ideal) .bf16 (concatenate S2048x4608 1 [⟨S2048x1024, extractStridedSlice S2048x1024 ![0, 0] w slices_S2048x4632_S2048x1024_0_0⟩,
      ⟨S2048x2048, extractStridedSlice S2048x2048 ![0, 2584] w slices_S2048x4632_S2048x2048_0_2584⟩,
      ⟨S2048x1536, extractStridedSlice S2048x1536 ![0, 1024] w slices_S2048x4632_S2048x1536_0_1024⟩]
      concatenates_S2048x1024_S2048x2048_S2048x1536_S2048x4608_d1) bitsLt_bf16_f32 (ix2 k j) = w (ix2 k (col j)) := by
  unfold col
  pointwise []
  by_cases h : j.val < 1024
  · rw [dif_pos h, dif_pos h]
  · rw [dif_neg h, dif_neg h]
    by_cases h' : j.val < 3072
    · rw [dif_pos (by omega), dif_pos h']
      exact congrArg (fun q => w (ix2 k q)) (Fin.ext (by dsimp only; omega))
    · rw [dif_neg (by omega), dif_neg h']
      exact congrArg (fun q => w (ix2 k q)) (Fin.ext (by dsimp only; omega))

/-- Where the gate columns are set into the zeros. -/
theorem lands (idx : IVec S1 32) (hidx : ∀ i, idx i = 0#32) (a : Fin 2048) (b : Fin 24) (r : Fin 2048) (j : Fin 128) :
    scatter_S2048x128_S1_S2048x24_01_n_1_0.resultIdx? (ix2 a b) idx = some (ix2 r j) ↔ a.val = r.val ∧ b.val = j.val := by
  have h0 : scatter_S2048x128_S1_S2048x24_01_n_1_0.start (ix2 a b) idx 0 = 0 := rfl
  have h1 : scatter_S2048x128_S1_S2048x24_01_n_1_0.start (ix2 a b) idx 1 = 0 := by
    refine (show _ = (idx _).toInt from rfl).trans ?_
    rw [hidx]; rfl
  have w0 : scatter_S2048x128_S1_S2048x24_01_n_1_0.window (ix2 a b) 0 = a.val := rfl
  have w1 : scatter_S2048x128_S1_S2048x24_01_n_1_0.window (ix2 a b) 1 = b.val := rfl
  refine (Routing.resultIdx?_ix2 (R := 2048) (C := 128) _ (ix2 a b) idx r j).trans ?_
  rw [h0, h1, w0, w1]
  omega

theorem gate_at (x : FVec Ideal S2048x128 .f32) (hx : ∀ i, x i = 0) (idx : IVec S1 32) (hidx : ∀ i, idx i = 0#32)
    (u : FVec Ideal S2048x24 .f32) (k : Fin 2048) (j : Fin 128) :
    Host.scatter scatter_S2048x128_S1_S2048x24_01_n_1_0 (fun _ b => b) x idx u (ix2 k j)
      = if h : j.val < 24 then u (ix2 k ⟨j.val, h⟩) else (0 : EReal) := by
  by_cases h : j.val < 24
  · rw [dif_pos h]
    refine Routing.scatter_set_hit _ x idx u _ _ (fun q hq => ?_) (ix2 k ⟨j.val, h⟩) ((lands idx hidx k ⟨j.val, h⟩ k j).2 ⟨rfl, rfl⟩)
    rw [eq_ix2 q] at hq ⊢
    obtain ⟨e0, e1⟩ := (lands idx hidx _ _ k j).1 hq
    rw [show q 0 = k from Fin.ext e0, show q 1 = (⟨j.val, h⟩ : Fin 24) from Fin.ext e1]
  · rw [dif_neg h, ← hx (ix2 k j)]
    refine Routing.scatter_set_miss _ x idx u _ fun q hq => h ?_
    rw [eq_ix2 q] at hq
    obtain ⟨e0, e1⟩ := (lands idx hidx _ _ k j).1 hq
    have := (q 1).isLt
    change (q 1).val < 24 at this
    omega

theorem V_main (c : Dev nD) (k : Fin 2048) (j : Fin 4608) : V m c main_v4 (ix2 k j) = arg4 m c (ix2 k (col j)) := by
  refine Eq.trans ?_ (main_at (arg4 m c) k j)
  unfold V
  after_results_simp
  rfl

/-- The gate columns among zeros. -/
theorem gate_weights (w : FVec Ideal S2048x4632 .f32) (k : Fin 2048) (j : Fin 128) :
    truncf (F := Ideal) .bf16 (Host.scatter scatter_S2048x128_S1_S2048x24_01_n_1_0 (fun _ b => b)
        (broadcastInDim S2048x128 ![] bcast_S_S2048x128 (constant (F := Ideal) S_ .f32 0#32))
        (broadcastInDim S1 ![] bcast_S_S1 (constantI S_ 32 0#32))
        (extractStridedSlice S2048x24 ![0, 2560] w slices_S2048x4632_S2048x24_0_2560)) bitsLt_bf16_f32 (ix2 k j)
      = if h : j.val < 24 then w (ix2 k ⟨2560 + j.val, by omega⟩) else (0 : EReal) := by
  have e := gate_at (broadcastInDim S2048x128 ![] bcast_S_S2048x128 (constant (F := Ideal) S_ .f32 0#32)) (fun i => by pointwise [])
    (broadcastInDim S1 ![] bcast_S_S1 (constantI S_ 32 0#32)) (fun i => rfl)
    (extractStridedSlice S2048x24 ![0, 2560] w slices_S2048x4632_S2048x24_0_2560) k j
  generalize Host.scatter scatter_S2048x128_S1_S2048x24_01_n_1_0 (fun _ b => b)
        (broadcastInDim S2048x128 ![] bcast_S_S2048x128 (constant (F := Ideal) S_ .f32 0#32))
        (broadcastInDim S1 ![] bcast_S_S1 (constantI S_ 32 0#32))
        (extractStridedSlice S2048x24 ![0, 2560] w slices_S2048x4632_S2048x24_0_2560) = X at e ⊢
  pointwise []
  rw [e]
  by_cases h : j.val < 24
  · rw [dif_pos h, dif_pos h]
    pointwise []
  · rw [dif_neg h, dif_neg h]

theorem V_gate (c : Dev nD) (k : Fin 2048) (j : Fin 128) :
    V m c main_v9 (ix2 k j) = if h : j.val < 24 then arg4 m c (ix2 k ⟨2560 + j.val, by omega⟩) else (0 : EReal) := by
  refine Eq.trans ?_ (gate_weights (arg4 m c) k j)
  unfold V
  after_results_simp

/-! ## The grid -/

theorem idx : ∀ t : Fin cfg0.N, win0_0.index t = ![t.val / 6, 0] ∧ win0_1.index t = ![0, 0] ∧ win0_2.index t = ![0, 0]
    ∧ win0_3.index t = ![0, 0] ∧ win0_4.index t = ![0, t.val % 6] ∧ win0_5.index t = ![0, 0]
    ∧ win0_6.index t = ![t.val / 6, t.val % 6] ∧ win0_7.index t = ![t.val / 6, 0] ∧ win0_8.index t = ![t.val / 6, t.val % 6 - 4] :=
  (by decide +kernel : ∀ t : Fin grid0.N, _)

theorem N_eq : cfg0.N = 48 := by decide +kernel

theorem first_div (t : Fin cfg0.N) : (first t).val / 6 = t.val / 6 := by unfold first; dsimp only; omega

/-- The norm of a block of rows. -/
theorem pay_at (c : Dev nD) (t : Fin cfg0.N) (p : Fin 1024) (k : Fin 2048) (r : Fin 8192)
    (hr : r.val = 1024 * (t.val / 6) + p.val) : k0_pay1 (F := Ideal) (iblk m c 0 t) (iblk m c 1 t) (iblk m c 2 t) (iblk m c 3 t) (ix2 p k)
      = hmix (arg0 m c) (arg1 m c) (arg2 m c) (arg3 m c) r k := by
  unfold hmix Dense.mixed
  pointwise [k0_pay1]
  blk_point [iblk, V, idx t]

/-- The scratch buffer's rows. -/
theorem rows_at (c : Dev nD) (t : Fin cfg0.N) (p : Fin 1024) (k : Fin 2048) (r : Fin 8192)
    (hr : r.val = 1024 * (t.val / 6) + p.val) : rowsAt m c t (ix2 p k) = hmix (arg0 m c) (arg1 m c) (arg2 m c) (arg3 m c) r k := by
  unfold rowsAt normed
  refine Eq.trans ?_ (pay_at m c (first t) p k r (by rw [first_div]; exact hr))
  pointwise [k0_pay2]

/-! ## The result arrays -/

/-- A block of the main product. -/
theorem block_at (c : Dev nD) (t : Fin cfg0.N) (p : Fin 1024) (q : Fin 768) (r : Fin 8192) (j : Fin 4608)
    (hr : r.val = 1024 * (t.val / 6) + p.val) (hj : j.val = 768 * (t.val % 6) + q.val) :
    k0_pay4 (F := Ideal) (rowsAt m c t) (iblk m c 4 t) (ix2 p q)
      = proj (arg0 m c) (arg1 m c) (arg2 m c) (arg3 m c) (arg4 m c) r (col j) := by
  unfold proj Dense.dot
  pointwise [k0_pay4]
  refine Finset.sum_congr rfl fun x _ => congrArg₂ (· * ·) (rows_at m c t p x r hr) ?_
  rw [← V_main m c x j]
  blk_point [iblk, idx t]

theorem final (c : Dev nD) : (dats m 0 c).arrAt 6 (cfgs 0).N
    = result (arg0 m c) (arg1 m c) (arg2 m c) (arg3 m c) (arg4 m c) := by
  refine (dats m 0 c).arrAt_eq_of_covers 6 _ (by decide +kernel) fun t _ y => ?_
  blk_simp
  rw [after0_6]
  have hN := N_eq
  have ht := t.isLt
  unfold result
  idx_vars y
  refine block_at m c t y0 y1 _ _ ?_ ?_
  · blk_simp [idx t]
    all_goals omega
  · blk_simp [idx t]
    all_goals omega

/-- A block of the gate columns. -/
theorem gate_block (c : Dev nD) (t : Fin cfg0.N) (p : Fin 1024) (q : Fin 128) (r : Fin 8192) (hr : r.val = 1024 * (t.val / 6) + p.val) :
    k0_pay3 (F := Ideal) (iblk m c 0 t) (iblk m c 1 t) (iblk m c 2 t) (iblk m c 3 t) (iblk m c 5 t) (ix2 p q)
      = Dense.dot (hmix (arg0 m c) (arg1 m c) (arg2 m c) (arg3 m c) r) fun k => V m c main_v9 (ix2 k q) := by
  unfold Dense.dot
  pointwise [k0_pay3]
  refine Finset.sum_congr rfl fun x _ => congrArg₂ (· * ·) (pay_at m c t p x r hr) ?_
  unfold iblk
  show View.read (Elt Ideal) ((cfg0.win 5).blk t).view (V m c main_v9) (ix2 x q) = V m c main_v9 (ix2 x q)
  generalize V m c main_v9 = W
  blk_point [idx t]

theorem gate_zero (c : Dev nD) (l : Fin 2048 → EReal) (q : Fin 128) (h : ¬ q.val < 24) :
    Dense.dot l (fun k => V m c main_v9 (ix2 k q)) = 0 := by
  unfold Dense.dot
  refine Finset.sum_eq_zero fun k _ => ?_
  refine (congrArg (l k * ·) ((V_gate m c k q).trans (dif_neg h))).trans ?_
  exact mul_zero _

theorem final_gates (c : Dev nD) : (dats m 0 c).arrAt 7 (cfgs 0).N
    = gates (arg0 m c) (arg1 m c) (arg2 m c) (arg3 m c) (arg4 m c) := by
  refine (dats m 0 c).arrAt_eq_of_covers 7 _ (by decide +kernel) fun t _ y => ?_
  blk_simp
  rw [after0_7]
  have hN := N_eq
  have ht := t.isLt
  idx_vars y
  unfold gates gateAt
  have e0 : ((((View.whole main_v10_1).slice (win0_7.rect t)).emb (ix2 y0 y1)) 1).val = y1.val := by
    blk_simp [idx t]
    all_goals omega
  have e1 : ((((View.whole main_v10_1).slice (win0_7.rect t)).emb (ix2 y0 y1)) 0).val = 1024 * ((first t).val / 6) + y0.val := by
    rw [first_div]
    blk_simp [idx t]
    all_goals omega
  rw [gate_block m c (first t) y0 y1 _ e1]
  by_cases h : y1.val < 24
  · rw [dif_pos (by rw [e0]; exact h)]
    unfold proj
    refine congrArg (Dense.dot _) (funext fun k => ?_)
    rw [V_gate, dif_pos h]
    exact congrArg (fun q => arg4 m c (ix2 k q)) (Fin.ext (by dsimp only; rw [e0]))
  · rw [dif_neg (by rw [e0]; exact h)]
    exact gate_zero m c _ y1 h

theorem final_keys (c : Dev nD) : (dats m 0 c).arrAt 8 (cfgs 0).N
    = keys (arg0 m c) (arg1 m c) (arg2 m c) (arg3 m c) (arg4 m c) := by
  refine (dats m 0 c).arrAt_eq_of_covers 8 _ (by decide +kernel) fun t hf y => ?_
  blk_simp
  rw [after0_8]
  have hN := N_eq
  have ht := t.isLt
  unfold keys
  have h4 : 4 ≤ t.val % 6 := by
    by_contra h
    exact Bool.false_ne_true ((flush8_early t h).symm.trans hf)
  idx_vars y
  have e0 : ((((View.whole main_v10_2).slice (win0_8.rect t)).emb (ix2 y0 y1)) 0).val = 1024 * (t.val / 6) + y0.val := by
    blk_simp [idx t]
    all_goals omega
  have e1 : ((((View.whole main_v10_2).slice (win0_8.rect t)).emb (ix2 y0 y1)) 1).val = 768 * (t.val % 6 - 4) + y1.val := by
    blk_simp [idx t]
    all_goals omega
  refine Eq.trans ?_ ((block_at m c t y0 y1 _ ⟨768 * (t.val % 6) + y1.val, by omega⟩ e0 rfl).trans ?_)
  · pointwise [k0_pay5]
  · refine congrArg (proj _ _ _ _ _ _) (Fin.ext ?_)
    unfold col
    rw [dif_neg (by dsimp only; omega), dif_neg (by dsimp only; omega)]
    dsimp only
    rw [e1]
    omega

/-! ## The reference's composed terms -/

/-- The whole projection. -/
abbrev refProj (x : FVec Ideal S8192x2048 .f32) (g sc sh : FVec Ideal S1x2048 .f32) (w : FVec Ideal S2048x4632 .f32) :
    FVec Ideal Cert.RefInEvenIdeal.S8192x4632 .f32 :=
  Host.dotGeneral (F := Ideal) Cert.RefInEvenIdeal.dot_S8192x2048_S2048x4632_S8192x4632_1_0_0_1_n_n none
    (addf (mulf (mulf (mulf x (broadcastInDim Cert.RefInEvenIdeal.S8192x2048 ![0, 1] Cert.RefInEvenIdeal.Gen.bcast_S8192x1_S8192x2048_0_1
      (Host.rsqrt (addf (Host.divf (broadcastInDim Cert.RefInEvenIdeal.S8192x1 ![0] Cert.RefInEvenIdeal.Gen.bcast_S8192_S8192x1_0
        (Host.reduceAdd (mulf x x) (constant Cert.RefInEvenIdeal.S_ .f32 0x00000000#32)
          Cert.RefInEvenIdeal.Gen.reducesTo_S8192x2048_S8192_d1 Cert.RefInEvenIdeal.Gen.h_S_))
        (broadcastInDim Cert.RefInEvenIdeal.S8192x1 ![] Cert.RefInEvenIdeal.Gen.bcast_S_S8192x1 (constant Cert.RefInEvenIdeal.S_ .f32 0x45000000#32)))
        (broadcastInDim Cert.RefInEvenIdeal.S8192x1 ![] Cert.RefInEvenIdeal.Gen.bcast_S_S8192x1 (constant Cert.RefInEvenIdeal.S_ .f32 0x358637BD#32))))))
      (broadcastInDim Cert.RefInEvenIdeal.S8192x2048 ![0, 1] Cert.RefInEvenIdeal.Gen.bcast_S1x2048_S8192x2048_0_1 g))
      (broadcastInDim Cert.RefInEvenIdeal.S8192x2048 ![0, 1] Cert.RefInEvenIdeal.Gen.bcast_S1x2048_S8192x2048_0_1
        (addf (broadcastInDim Cert.RefInEvenIdeal.S1x2048 ![] Cert.RefInEvenIdeal.Gen.bcast_S_S1x2048 (constant Cert.RefInEvenIdeal.S_ .f32 0x3F800000#32)) sc)))
      (broadcastInDim Cert.RefInEvenIdeal.S8192x2048 ![0, 1] Cert.RefInEvenIdeal.Gen.bcast_S1x2048_S8192x2048_0_1 sh)) w

theorem refProj_at (x : FVec Ideal S8192x2048 .f32) (g sc sh : FVec Ideal S1x2048 .f32) (w : FVec Ideal S2048x4632 .f32)
    (i : Fin 8192) (j : Fin 4632) : refProj x g sc sh w (ix2 i j) = proj x g sc sh w i j := by
  unfold refProj proj hmix Dense.dot Dense.mixed
  pointwise []

theorem ref_eq (x : FVec Ideal S8192x2048 .f32) (g sc sh : FVec Ideal S1x2048 .f32) (w : FVec Ideal S2048x4632 .f32) :
    concatenate Cert.RefInEvenIdeal.S8192x4608 1
      [⟨Cert.RefInEvenIdeal.S8192x1024, (extractStridedSlice Cert.RefInEvenIdeal.S8192x1024 ![0, 0] (refProj x g sc sh w)
          Cert.RefInEvenIdeal.Gen.slices_S8192x4632_S8192x1024_0_0)⟩,
        ⟨Cert.RefInEvenIdeal.S8192x2048, (extractStridedSlice Cert.RefInEvenIdeal.S8192x2048 ![0, 2584] (refProj x g sc sh w)
          Cert.RefInEvenIdeal.Gen.slices_S8192x4632_S8192x2048_0_2584)⟩,
        ⟨Cert.RefInEvenIdeal.S8192x1536, (extractStridedSlice Cert.RefInEvenIdeal.S8192x1536 ![0, 1024] (refProj x g sc sh w)
          Cert.RefInEvenIdeal.Gen.slices_S8192x4632_S8192x1536_0_1024)⟩]
      Cert.RefInEvenIdeal.Gen.concatenates_S8192x1024_S8192x2048_S8192x1536_S8192x4608_d1
      = result x g sc sh w := by
  have hP := refProj_at x g sc sh w
  generalize refProj x g sc sh w = P at hP ⊢
  funext i
  idx_vars i
  refine Eq.trans ?_ (hP i0 (col i1))
  unfold col
  pointwise []
  by_cases h : i1.val < 1024
  · rw [dif_pos h, dif_pos h]
  · rw [dif_neg h, dif_neg h]
    by_cases h' : i1.val < 3072
    · rw [dif_pos (by omega), dif_pos h']
      exact congrArg (fun q => P (ix2 i0 q)) (Fin.ext (by dsimp only; omega))
    · rw [dif_neg (by omega), dif_neg h']
      exact congrArg (fun q => P (ix2 i0 q)) (Fin.ext (by dsimp only; omega))

theorem ref_eq_gates (x : FVec Ideal S8192x2048 .f32) (g sc sh : FVec Ideal S1x2048 .f32) (w : FVec Ideal S2048x4632 .f32) :
    pad Cert.RefInEvenIdeal.S8192x128 ![0, 0] ![0, 104] ![0, 0]
      (extractStridedSlice Cert.RefInEvenIdeal.S8192x24 ![0, 2560] (refProj x g sc sh w) Cert.RefInEvenIdeal.Gen.slices_S8192x4632_S8192x24_0_2560)
      (sitofp .f32 (constantI Cert.RefInEvenIdeal.S_ 32 0#32)) Cert.RefInEvenIdeal.Gen.pads_S8192x24_S8192x128_000_01040 Cert.RefInEvenIdeal.Gen.h_S_
      = gates x g sc sh w := by
  have hP := refProj_at x g sc sh w
  generalize refProj x g sc sh w = P at hP ⊢
  funext i
  idx_vars i
  show _ = if h : i1.val < 24 then proj x g sc sh w i0 ⟨2560 + i1.val, by omega⟩ else 0
  by_cases h : i1.val < 24
  · rw [dif_pos h, ← hP]
    pointwise []
    rw [dif_pos h]
  · rw [dif_neg h]
    pointwise []
    rw [dif_neg h]
    show (((0#32 : BitVec 32).toInt : ℝ) : EReal) = 0
    simp

theorem ref_eq_keys (x : FVec Ideal S8192x2048 .f32) (g sc sh : FVec Ideal S1x2048 .f32) (w : FVec Ideal S2048x4632 .f32) :
    truncf (F := Ideal) .bf16 (extractStridedSlice Cert.RefInEvenIdeal.S8192x1536 ![0, 1024] (refProj x g sc sh w)
      Cert.RefInEvenIdeal.Gen.slices_S8192x4632_S8192x1536_0_1024) Cert.RefInEvenIdeal.Gen.bitsLt_bf16_f32
      = keys x g sc sh w := by
  have hP := refProj_at x g sc sh w
  generalize refProj x g sc sh w = P at hP ⊢
  funext i
  idx_vars i
  refine Eq.trans ?_ (hP i0 ⟨1024 + i1.val, by omega⟩)
  pointwise []

end Cert.InEvenVal

end
-- ==== Proof.ModulationVal.lean ====
/- The modulation: kernel and reference at an index. -/
module

public import proofs.«01_k».proof.Proof.Gen.ModulationIdeal.Frame
public import proofs.«01_k».proof.Proof.Gen.RefModulationIdeal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModulationVal

open Cert.ModulationIdeal Cert.ModulationIdeal.Gen

variable (m : (ℓ : Loc nD τ sig) → Buf (Elt Ideal) ℓ)

/-- The conditioning vector through silu. -/
def act (c : FVec Ideal S1x2048 .f32) (k : Fin 2048) : EReal := c (ix2 0 k) * Ideal.logistic (c (ix2 0 k))

/-- Its product with a layer's weights, and the bias. -/
def result (c : FVec Ideal S1x2048 .f32) (w : FVec Ideal S2x2048x12288 .f32) (b : FVec Ideal S2x12288 .f32) : FVec Ideal S2x1x12288 .f32 :=
  fun i => (∑ k, act c k * w (ix3 (i 0) k (i 2))) + b (ix2 (i 0) (i 2))

theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  unfold result act
  pointwise [k0_pay1]
  blk_point [iblk, V, idx t]

/-- The reference's composed term. -/
theorem ref_eq (c : FVec Ideal S1x2048 .f32) (w : FVec Ideal S2x2048x12288 .f32) (b : FVec Ideal S2x12288 .f32) :
    concatenate Cert.RefModulationIdeal.S2x1x12288 0
      [⟨Cert.RefModulationIdeal.S1x1x12288, (broadcastInDim Cert.RefModulationIdeal.S1x1x12288 ![1, 2] Cert.RefModulationIdeal.Gen.bcast_S1x12288_S1x1x12288_1_2
        (addf (Host.dotGeneral (F := Ideal) Cert.RefModulationIdeal.dot_S1x2048_S2048x12288_S1x12288_1_0_0_1_n_n none
          (mulf c (Host.divf (broadcastInDim Cert.RefModulationIdeal.S1x2048 ![] Cert.RefModulationIdeal.Gen.bcast_S_S1x2048 (constant Cert.RefModulationIdeal.S_ .f32 0x3F800000#32))
            (addf (broadcastInDim Cert.RefModulationIdeal.S1x2048 ![] Cert.RefModulationIdeal.Gen.bcast_S_S1x2048 (constant Cert.RefModulationIdeal.S_ .f32 0x3F800000#32))
              (Host.exp (Host.negf c)))))
          (shapeCast _ (extractStridedSlice Cert.RefModulationIdeal.S1x2048x12288 ![0, 0, 0] w Cert.RefModulationIdeal.Gen.slices_S2x2048x12288_S1x2048x12288_0_0_0)
            Cert.RefModulationIdeal.Gen.shapeCasts_S1x2048x12288_S2048x12288))
          (broadcastInDim Cert.RefModulationIdeal.S1x12288 ![1] Cert.RefModulationIdeal.Gen.bcast_S12288_S1x12288_1
            (shapeCast _ (extractStridedSlice Cert.RefModulationIdeal.S1x12288 ![0, 0] b Cert.RefModulationIdeal.Gen.slices_S2x12288_S1x12288_0_0)
              Cert.RefModulationIdeal.Gen.shapeCasts_S1x12288_S12288))))⟩,
        ⟨Cert.RefModulationIdeal.S1x1x12288, (broadcastInDim Cert.RefModulationIdeal.S1x1x12288 ![1, 2] Cert.RefModulationIdeal.Gen.bcast_S1x12288_S1x1x12288_1_2
        (addf (Host.dotGeneral (F := Ideal) Cert.RefModulationIdeal.dot_S1x2048_S2048x12288_S1x12288_1_0_0_1_n_n none
          (mulf c (Host.divf (broadcastInDim Cert.RefModulationIdeal.S1x2048 ![] Cert.RefModulationIdeal.Gen.bcast_S_S1x2048 (constant Cert.RefModulationIdeal.S_ .f32 0x3F800000#32))
            (addf (broadcastInDim Cert.RefModulationIdeal.S1x2048 ![] Cert.RefModulationIdeal.Gen.bcast_S_S1x2048 (constant Cert.RefModulationIdeal.S_ .f32 0x3F800000#32))
              (Host.exp (Host.negf c)))))
          (shapeCast _ (extractStridedSlice Cert.RefModulationIdeal.S1x2048x12288 ![1, 0, 0] w Cert.RefModulationIdeal.Gen.slices_S2x2048x12288_S1x2048x12288_1_0_0)
            Cert.RefModulationIdeal.Gen.shapeCasts_S1x2048x12288_S2048x12288))
          (broadcastInDim Cert.RefModulationIdeal.S1x12288 ![1] Cert.RefModulationIdeal.Gen.bcast_S12288_S1x12288_1
            (shapeCast _ (extractStridedSlice Cert.RefModulationIdeal.S1x12288 ![1, 0] b Cert.RefModulationIdeal.Gen.slices_S2x12288_S1x12288_1_0)
              Cert.RefModulationIdeal.Gen.shapeCasts_S1x12288_S12288))))⟩] Cert.RefModulationIdeal.Gen.concatenates_S1x1x12288_S1x1x12288_S2x1x12288_d0
      = result c w b := by
  funext i
  unfold result act Ideal.logistic
  pointwise []
  have hi : (i 0).val < 2 := (i 0).isLt
  split_ifs with h
  · rw [show i 0 = (0 : Fin 2) from Fin.ext (by show (i 0).val = 0; omega)]
  · rw [show i 0 = (1 : Fin 2) from Fin.ext (by show (i 0).val = 1; omega)]

end Cert.ModulationVal

end
-- ==== Proof.CompressVal.lean ====
/- The compressed keys and values: the kernel at an index. -/
module

public import proofs.«01_k».proof.Proof.Gen.CompressIdeal.Frame
public import proofs.«01_k».proof.Proof.Gen.RefCompressIdeal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CompressVal

open Cert.CompressIdeal Cert.CompressIdeal.Gen

variable (m : (ℓ : Loc nD τ sig) → Buf (Elt Ideal) ℓ)

/-- The gelu as the program states it, tanh's form. -/
def gelu (x : EReal) : EReal :=
  x * (Ideal.ofBits .f32 0x3F000000#32 * (1 + Ideal.tanh (Ideal.ofBits .f32 0x3F4C422A#32 * (x + Ideal.ofBits .f32 0x3D372713#32 * (x * (x * x))))))

theorem pay2_at (v0 : Vec Ideal S1x1x512x2048 .f32) (v2 : Vec Ideal S1x1x2048 .f32) (v7 : Vec Ideal S1x2048x128 .f32)
    (v11 : Vec Ideal S1x1x2048 .f32) (v16 : Vec Ideal S1x2048x128 .f32) (v22 : Vec Ideal S1x1x128 .f32) (n : Fin 512) (d : Fin 128) :
    k0_pay2 v0 v2 v7 v11 v16 v22 (ix2 n d)
      = (∑ k : Fin 2048, (v0 (ix4 0 0 n k) + v2 (ix3 0 0 k)) * v7 (ix3 0 k d))
        + (∑ k : Fin 2048, (v0 (ix4 0 0 ⟨(n.val + 1) % 512, Nat.mod_lt _ (by decide)⟩ k) + v11 (ix3 0 0 k)) * v16 (ix3 0 k d)) + v22 (ix3 0 0 d) := by
  pointwise [k0_pay2]
  simp only [show n.val + 512 - 511 = n.val + 1 by omega]

theorem pay1_at (v0 : Vec Ideal S1x1x512x2048 .f32) (v2 : Vec Ideal S1x1x2048 .f32) (v7 : Vec Ideal S1x2048x128 .f32)
    (v11 : Vec Ideal S1x1x2048 .f32) (v16 : Vec Ideal S1x2048x128 .f32) (v22 : Vec Ideal S1x1x128 .f32)
    (v40 : Vec Ideal S1x128x128 .f32) (v44 : Vec Ideal S1x1x128 .f32) (n : Fin 512) (e : Fin 128) :
    k0_pay1 (k0_pay2 v0 v2 v7 v11 v16 v22) (k0_pay3 v0 v2 v7 v11 v16 v22) v40 v44 (ix4 0 0 n e)
      = (∑ d : Fin 128, gelu (k0_pay2 v0 v2 v7 v11 v16 v22 (ix2 n d)) * v40 (ix3 0 d e)) + v44 (ix3 0 0 e) := by
  unfold k0_pay3 gelu
  generalize k0_pay2 v0 v2 v7 v11 v16 v22 = P
  pointwise [k0_pay1]

theorem idx : ∀ t : Fin cfg0.N, win0_0.index t = ![t.val / 2, t.val % 2, 0, 0] ∧ win0_1.index t = ![t.val / 2, 0, 0]
    ∧ win0_2.index t = ![t.val / 2, 0, 0] ∧ win0_3.index t = ![t.val / 2, 0, 0] ∧ win0_4.index t = ![t.val / 2, 0, 0]
    ∧ win0_5.index t = ![t.val / 2, 0, 0] ∧ win0_6.index t = ![t.val / 2, t.val % 2, 0, 0] :=
  (by decide +kernel : ∀ t : Fin grid0.N, _)

/-- Entry `k` of the `n`-th half block of keys (`a = 0`) or values (`a = 1`) of group `g`, -/
def half (p : FVec Ideal S8192x4608 .f32) (a g : Fin 2) (n : Fin 512) (k : Fin 2048) : EReal :=
  p (ix2 (n0 := 8192) (n1 := 4608) ⟨16 * n.val + k.val / 128, by omega⟩ ⟨3072 + 256 * a.val + 128 * g.val + k.val % 128, by omega⟩)

/-- the position code of half `h` of a block there, -/
def code (pe : FVec Ideal S2x32x128 .f32) (a h : Fin 2) (k : Fin 2048) : EReal :=
  pe (ix3 (n0 := 2) (n1 := 32) (n2 := 128) a ⟨h.val * 16 + k.val / 128, by omega⟩ ⟨k.val % 128, by omega⟩)

/-- the hidden entry of the block of half blocks `n` and `n'`, -/
def pre (p : FVec Ideal S8192x4608 .f32) (pe : FVec Ideal S2x32x128 .f32) (w1 : FVec Ideal S2x4096x128 .f32) (b1 : FVec Ideal S2x128 .f32)
    (a g : Fin 2) (n n' : Fin 512) (d : Fin 128) : EReal :=
  (∑ k : Fin 2048, (half p a g n k + code pe a 0 k) * w1 (ix3 (n0 := 2) (n1 := 4096) (n2 := 128) a ⟨k.val, by omega⟩ d))
    + (∑ k : Fin 2048, (half p a g n' k + code pe a 1 k) * w1 (ix3 (n0 := 2) (n1 := 4096) (n2 := 128) a ⟨2048 + k.val, by omega⟩ d))
    + b1 (ix2 a d)

def next (n : Fin 512) : Fin 512 := ⟨(n.val + 1) % 512, Nat.mod_lt _ (by decide)⟩

/-- and what the second product makes of it. -/
def region (p : FVec Ideal S8192x4608 .f32) (pe : FVec Ideal S2x32x128 .f32) (w1 : FVec Ideal S2x4096x128 .f32) (b1 : FVec Ideal S2x128 .f32)
    (w2 : FVec Ideal S2x128x128 .f32) (b2 : FVec Ideal S2x128 .f32) : FVec Ideal S2x2x512x128 .f32 :=
  fun i => (∑ d : Fin 128, gelu (pre p pe w1 b1 (i 0) (i 1) (i 2) (next (i 2)) d) * w2 (ix3 (i 0) d (i 3))) + b2 (ix2 (i 0) (i 3))

/-- The result: the last row, which has no second half, is zero. -/
def result (p : FVec Ideal S8192x4608 .f32) (pe : FVec Ideal S2x32x128 .f32) (w1 : FVec Ideal S2x4096x128 .f32) (b1 : FVec Ideal S2x128 .f32)
    (w2 : FVec Ideal S2x128x128 .f32) (b2 : FVec Ideal S2x128 .f32) : FVec Ideal S2x2x512x128 .f32 :=
  fun i => if (i 2).val < 511 then region p pe w1 b1 w2 b2 i else 0

theorem V9 (c : Dev nD) (a g : Fin 2) (n : Fin 512) (k : Fin 2048) :
    V m c main_v9 (ix4 a g n k) = half (m ((c : Thread nD τ).loc main_arg0)) a g n k := by
  unfold V V0 half
  simp only [hostOps0, List.flatten_cons, List.flatten_nil, List.append_nil]
  after_results_simp
  pointwise []
  after_results_simp
  pointwise []
  by_cases h : a.val < 1
  · rw [dif_pos h]
    refine congrArg₂ (fun u v => m ((c : Thread nD τ).loc main_arg0) (ix2 u v)) (Fin.ext ?_) (Fin.ext ?_) <;> dsimp only <;> omega
  · rw [dif_neg h]
    refine congrArg₂ (fun u v => m ((c : Thread nD τ).loc main_arg0) (ix2 u v)) (Fin.ext ?_) (Fin.ext ?_) <;> dsimp only <;> omega

theorem V10 (c : Dev nD) (a h : Fin 2) (k : Fin 2048) :
    V m c main_v10 (ix3 a h k) = code (m ((c : Thread nD τ).loc main_arg1)) a h k := by
  unfold V V0 code
  simp only [hostOps0, List.flatten_cons, List.flatten_nil, List.append_nil]
  after_results_simp
  pointwise []

theorem V11 (c : Dev nD) (a : Fin 2) (d : Fin 128) : V m c main_v11 (ix3 a 0 d) = m ((c : Thread nD τ).loc main_arg3) (ix2 a d) := by
  unfold V V0
  simp only [hostOps0, List.flatten_cons, List.flatten_nil, List.append_nil]
  after_results_simp
  pointwise []

theorem V12 (c : Dev nD) (a : Fin 2) (d : Fin 128) : V m c main_v12 (ix3 a 0 d) = m ((c : Thread nD τ).loc main_arg5) (ix2 a d) := by
  unfold V V0
  simp only [hostOps0, List.flatten_cons, List.flatten_nil, List.append_nil]
  after_results_simp
  pointwise []

theorem four (t : Fin cfg0.N) : t.val < 4 := t.isLt

def A (t : Fin cfg0.N) : Fin 2 := ⟨t.val / 2, by have := four t; omega⟩
def G (t : Fin cfg0.N) : Fin 2 := ⟨t.val % 2, by omega⟩

theorem r0_1_at (x : FVec Ideal S1x2x2048 .f32) (k : Fin 2048) : View.ld (Val := Elt Ideal) (e' := .f32) x r0_1 (ix3 0 0 k) = x (ix3 0 0 k) := by
  refine congrArg x (funext fun a => Fin.ext ?_)
  fin_cases a <;> simp [Rect.unit]

theorem r0_3_at (x : FVec Ideal S1x2x2048 .f32) (k : Fin 2048) : View.ld (Val := Elt Ideal) (e' := .f32) x r0_3 (ix3 0 0 k) = x (ix3 0 1 k) := by
  refine congrArg x (funext fun a => Fin.ext ?_)
  fin_cases a <;> simp [Rect.unit]

theorem r0_2_at (x : FVec Ideal S1x4096x128 .f32) (k : Fin 2048) (d : Fin 128) : View.ld (Val := Elt Ideal) (e' := .f32) x r0_2 (ix3 0 k d) = x (ix3 (n0 := 1) (n1 := 4096) (n2 := 128) 0 ⟨k.val, by omega⟩ d) := by
  refine congrArg x (funext fun a => Fin.ext ?_)
  fin_cases a <;> simp [Rect.unit]

theorem r0_4_at (x : FVec Ideal S1x4096x128 .f32) (k : Fin 2048) (d : Fin 128) : View.ld (Val := Elt Ideal) (e' := .f32) x r0_4 (ix3 0 k d) = x (ix3 (n0 := 1) (n1 := 4096) (n2 := 128) 0 ⟨2048 + k.val, by omega⟩ d) := by
  refine congrArg x (funext fun a => Fin.ext ?_)
  fin_cases a <;> simp [Rect.unit]

theorem blk0 (t : Fin cfg0.N) (W : FVec Ideal S2x2x512x2048 .f32) (n : Fin 512) (k : Fin 2048) :
    View.read (Elt Ideal) ((cfg0.win 0).blk t).view W (ix4 0 0 n k) = W (ix4 (A t) (G t) n k) := by
  blk_point [idx t]
  all_goals exact Nat.add_zero _

theorem blk1 (t : Fin cfg0.N) (W : FVec Ideal S2x2x2048 .f32) (k : Fin 2048) :
    View.ld (View.read (Elt Ideal) ((cfg0.win 1).blk t).view W) r0_1 (ix3 0 0 k) = W (ix3 (A t) 0 k) := by
  rw [r0_1_at]
  blk_point [idx t]
  all_goals exact Nat.add_zero _

theorem blk1s (t : Fin cfg0.N) (W : FVec Ideal S2x2x2048 .f32) (k : Fin 2048) :
    View.ld (View.read (Elt Ideal) ((cfg0.win 1).blk t).view W) r0_3 (ix3 0 0 k) = W (ix3 (A t) 1 k) := by
  rw [r0_3_at]
  blk_point [idx t]
  all_goals exact Nat.add_zero _

theorem blk2 (t : Fin cfg0.N) (W : FVec Ideal S2x4096x128 .f32) (k : Fin 2048) (d : Fin 128) :
    View.ld (View.read (Elt Ideal) ((cfg0.win 2).blk t).view W) r0_2 (ix3 0 k d) = W (ix3 (n0 := 2) (n1 := 4096) (n2 := 128) (A t) ⟨k.val, by omega⟩ d) := by
  rw [r0_2_at]
  blk_point [idx t]
  all_goals exact Nat.add_zero _

theorem blk2s (t : Fin cfg0.N) (W : FVec Ideal S2x4096x128 .f32) (k : Fin 2048) (d : Fin 128) :
    View.ld (View.read (Elt Ideal) ((cfg0.win 2).blk t).view W) r0_4 (ix3 0 k d) = W (ix3 (n0 := 2) (n1 := 4096) (n2 := 128) (A t) ⟨2048 + k.val, by omega⟩ d) := by
  rw [r0_4_at]
  blk_point [idx t]
  all_goals exact Nat.add_zero _

theorem blk3 (t : Fin cfg0.N) (W : FVec Ideal S2x1x128 .f32) (d : Fin 128) :
    View.read (Elt Ideal) ((cfg0.win 3).blk t).view W (ix3 0 0 d) = W (ix3 (A t) 0 d) := by
  blk_point [idx t]
  all_goals exact Nat.add_zero _

theorem blk4 (t : Fin cfg0.N) (W : FVec Ideal S2x128x128 .f32) (d e : Fin 128) :
    View.read (Elt Ideal) ((cfg0.win 4).blk t).view W (ix3 0 d e) = W (ix3 (A t) d e) := by
  blk_point [idx t]
  all_goals exact Nat.add_zero _

theorem blk5 (t : Fin cfg0.N) (W : FVec Ideal S2x1x128 .f32) (e : Fin 128) :
    View.read (Elt Ideal) ((cfg0.win 5).blk t).view W (ix3 0 0 e) = W (ix3 (A t) 0 e) := by
  blk_point [idx t]
  all_goals exact Nat.add_zero _

theorem out_at (t : Fin cfg0.N) (n : Fin 512) (e : Fin 128) :
    ((cfg0.win 6).blk t).view.emb (ix4 0 0 n e) = ix4 (A t) (G t) n e := by
  have h := idx t
  funext a
  refine Fin.ext ?_
  fin_cases a <;> simp [Pipeline.Window.blk, h, A, G]

theorem V9r (c : Dev nD) (a g : Fin 2) (n : Fin 512) (k : Fin 2048) :
    V m c (Pipeline.arrRef spec0 0) (ix4 a g n k) = half (m ((c : Thread nD τ).loc main_arg0)) a g n k := V9 m c a g n k
theorem V10r (c : Dev nD) (a h : Fin 2) (k : Fin 2048) :
    V m c (Pipeline.arrRef spec0 1) (ix3 a h k) = code (m ((c : Thread nD τ).loc main_arg1)) a h k := V10 m c a h k
theorem V11r (c : Dev nD) (a : Fin 2) (d : Fin 128) :
    V m c (Pipeline.arrRef spec0 3) (ix3 a 0 d) = m ((c : Thread nD τ).loc main_arg3) (ix2 a d) := V11 m c a d
theorem V12r (c : Dev nD) (a : Fin 2) (d : Fin 128) :
    V m c (Pipeline.arrRef spec0 5) (ix3 a 0 d) = m ((c : Thread nD τ).loc main_arg5) (ix2 a d) := V12 m c a d
theorem V2r (c : Dev nD) : V m c (Pipeline.arrRef spec0 2) = m ((c : Thread nD τ).loc main_arg2) := V_main_arg2 m c
theorem V4r (c : Dev nD) : V m c (Pipeline.arrRef spec0 4) = m ((c : Thread nD τ).loc main_arg4) := V_main_arg4 m c

/-- What the body leaves at an index, of the arrays its blocks are read from. -/
theorem body_at (t : Fin cfg0.N) (W0 : FVec Ideal S2x2x512x2048 .f32) (W1 : FVec Ideal S2x2x2048 .f32) (W2 : FVec Ideal S2x4096x128 .f32)
    (W3 : FVec Ideal S2x1x128 .f32) (W4 : FVec Ideal S2x128x128 .f32) (W5 : FVec Ideal S2x1x128 .f32) (n : Fin 512) (e : Fin 128) :
    out0_6 (View.read (Elt Ideal) ((cfg0.win 0).blk t).view W0) (View.read (Elt Ideal) ((cfg0.win 1).blk t).view W1)
        (View.read (Elt Ideal) ((cfg0.win 2).blk t).view W2) (View.read (Elt Ideal) ((cfg0.win 3).blk t).view W3)
        (View.read (Elt Ideal) ((cfg0.win 4).blk t).view W4) (View.read (Elt Ideal) ((cfg0.win 5).blk t).view W5) (ix4 0 0 n e)
      = (∑ d : Fin 128, gelu ((∑ k : Fin 2048, (W0 (ix4 (A t) (G t) n k) + W1 (ix3 (A t) 0 k))
              * W2 (ix3 (n0 := 2) (n1 := 4096) (n2 := 128) (A t) ⟨k.val, by omega⟩ d))
            + (∑ k : Fin 2048, (W0 (ix4 (A t) (G t) (next n) k) + W1 (ix3 (A t) 1 k))
              * W2 (ix3 (n0 := 2) (n1 := 4096) (n2 := 128) (A t) ⟨2048 + k.val, by omega⟩ d)) + W3 (ix3 (A t) 0 d))
          * W4 (ix3 (A t) d e)) + W5 (ix3 (A t) 0 e) := by
  have h0 := blk0 t W0
  have h1 := blk1 t W1
  have h1s := blk1s t W1
  have h2 := blk2 t W2
  have h2s := blk2s t W2
  have h3 := blk3 t W3
  have h4 := blk4 t W4
  have h5 := blk5 t W5
  generalize View.read (Elt Ideal) ((cfg0.win 0).blk t).view W0 = B0 at *
  generalize View.read (Elt Ideal) ((cfg0.win 1).blk t).view W1 = B1 at *
  generalize View.read (Elt Ideal) ((cfg0.win 2).blk t).view W2 = B2 at *
  generalize View.read (Elt Ideal) ((cfg0.win 3).blk t).view W3 = B3 at *
  generalize View.read (Elt Ideal) ((cfg0.win 4).blk t).view W4 = B4 at *
  generalize View.read (Elt Ideal) ((cfg0.win 5).blk t).view W5 = B5 at *
  frame_out
  refine (pay1_at B0 (View.ld B1 r0_1) (View.ld B2 r0_2) (View.ld B1 r0_3) (View.ld B2 r0_4) B3 B4 B5 n e).trans ?_
  refine congrArg₂ (· + ·) (Finset.sum_congr rfl fun d _ => congrArg₂ (fun u v => gelu u * v) ?_ (h4 d e)) (h5 e)
  refine (pay2_at B0 (View.ld B1 r0_1) (View.ld B2 r0_2) (View.ld B1 r0_3) (View.ld B2 r0_4) B3 n d).trans ?_
  refine congrArg₂ (· + ·) (congrArg₂ (· + ·) (Finset.sum_congr rfl fun k _ => ?_) (Finset.sum_congr rfl fun k _ => ?_)) (h3 d)
  · exact congrArg₂ (· * ·) (congrArg₂ (· + ·) (h0 n k) (h1 k)) (h2 k d)
  · exact congrArg₂ (· * ·) (congrArg₂ (· + ·) (h0 (next n) k) (h1s k)) (h2s k d)

theorem final (c : Dev nD) : (dats m 0 c).arrAt 6 (cfgs 0).N
    = region (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  obtain rfl : y0 = 0 := Subsingleton.elim _ _
  obtain rfl : y1 = 0 := Subsingleton.elim _ _
  rw [show ((View.whole main_v13).slice (win0_6.rect t)).emb (ix4 0 0 y2 y3) = ix4 (A t) (G t) y2 y3 from out_at t y2 y3]
  have h9 := V9r m c
  have h10 := V10r m c
  have h11 := V11r m c
  have h12 := V12r m c
  have h2 := V2r m c
  have h4 := V4r m c
  unfold iblk
  generalize V m c (Pipeline.arrRef spec0 0) = W0 at *
  generalize V m c (Pipeline.arrRef spec0 1) = W1 at *
  generalize V m c (Pipeline.arrRef spec0 2) = W2 at *
  generalize V m c (Pipeline.arrRef spec0 3) = W3 at *
  generalize V m c (Pipeline.arrRef spec0 4) = W4 at *
  generalize V m c (Pipeline.arrRef spec0 5) = W5 at *
  subst h2 h4
  refine (body_at t W0 W1 _ W3 _ W5 y2 y3).trans ?_
  simp only [h9, h10, h11, h12]
  rfl

theorem tail (c : Dev nD) : Pipeline.afterTail₀ cfgs (dats m) 0 (V0 m) [hostOps1, hostOps1_1] c main_v18
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Pipeline.afterTail₀
  simp only [hostOps1, hostOps1_1, List.flatten_cons, List.flatten_nil, List.append_nil, List.cons_append, List.nil_append,
    StableHlo.TRef.unary, StableHlo.TRef.ternary, StableHlo.TRef.toBuf, StableHlo.TRef.ofBuf, cast_eq]
  after_results_simp
  have e : Pipeline.withArrays (cfgs 0).spec c (V0 m c) (fun w => (dats m 0 c).arrAt w (cfgs 0).N) (Proc.tc.devRef main_v13)
      = (dats m 0 c).arrAt 6 (cfgs 0).N :=
    Pipeline.withArrays_arr (cfgs 0).spec launch0.win.arr_inj c (V0 m c) (fun w => (dats m 0 c).arrAt w (cfgs 0).N) 6
  rw [e, final]
  funext i
  unfold result
  generalize region _ _ _ _ _ _ = R
  pointwise []
  have hw : ∀ n : Fin 512, IntOp.cmpi CmpIPredicate.slt (BitVec.ofNat 32 n.val) 511#32 = if n.val < 511 then 1#1 else 0#1 := by decide +kernel
  have hz : id (constant (F := Ideal) S_ FTy.f32 0#32) ix0 = (0 : EReal) := by unfold id; pointwise []
  rw [hz, hw (i 2)]
  by_cases h : (i 2).val < 511
  · rw [if_pos h, if_pos h]; rfl
  · rw [if_neg h, if_neg h]; rfl

end Cert.CompressVal

end
-- ==== Proof.CompressRef.lean ====
/- The compressed keys and values: the reference at an index. -/
module

public import proofs.«01_k».proof.Proof.CompressVal
public import proofs.«01_k».proof.Proof.Gen.RefCompressIdeal.Run

@[expose] public section

set_option maxRecDepth 16384

noncomputable section

open Idealize.ShloMosaic Idealize.ShloMosaic.TcCoe Idealize.SL.Sem

namespace Cert.CompressVal

open Cert.RefCompressIdeal Cert.RefCompressIdeal.Gen

/-- The rows the blocks are gathered at. -/
abbrev words : IVec S511x32 32 :=
  addi (broadcastInDim S511x32 ![0, 1] bcast_S511x1_S511x32_0_1 (muli (broadcastInDim S511x1 ![0] bcast_S511_S511x1_0 (iotaInDim S511 32 0)) (broadcastInDim S511x1 ![] bcast_S_S511x1 (constantI S_ 32 16#32)))) (broadcastInDim S511x32 ![0, 1] bcast_S1x32_S511x32_0_1 (broadcastInDim S1x32 ![1] bcast_S32_S1x32_1 (iotaInDim S32 32 0)))

abbrev rows : IVec S511x32x1 32 :=
  broadcastInDim S511x32x1 ![0, 1] bcast_S511x32_S511x32x1_0_1 (select (cmpi .slt words (broadcastInDim S511x32 ![] bcast_S_S511x32 (constantI S_ 32 0#32))) (addi words (broadcastInDim S511x32 ![] bcast_S_S511x32 (constantI S_ 32 8192#32))) words)

theorem rows_at (n : Fin 511) (j : Fin 32) : (rows (ix3 n j 0)).toInt.toNat = 16 * n.val + j.val := by
  pointwise []
  have hn : n.val < 511 := n.isLt
  have hj : j.val < 32 := j.isLt
  have e : IntOp.addi (IntOp.muli (BitVec.ofNat 32 n.val) 16#32) (BitVec.ofNat 32 j.val) = BitVec.ofNat 32 (16 * n.val + j.val) := by
    unfold IntOp.addi IntOp.muli
    apply BitVec.eq_of_toNat_eq
    simp
    omega
  rw [e]
  have hlt : IntOp.cmpi CmpIPredicate.slt (BitVec.ofNat 32 (16 * n.val + j.val)) 0#32 = 0#1 := by
    have := WordCmp.cmpi_slt_ofNat (w := 32) (a := 16 * n.val + j.val) (b := 0) (by omega) (by omega)
    simpa using this
  have ht : (BitVec.ofNat 32 (16 * n.val + j.val)).toInt = ((16 * n.val + j.val : ℕ) : ℤ) := by
    rw [BitVec.toInt_eq_toNat_of_lt] <;> simp [BitVec.toNat_ofNat] <;> omega
  rw [hlt]
  show (BitVec.ofNat 32 (16 * n.val + j.val)).toInt.toNat = _
  rw [ht]
  rfl

abbrev GD := gather_S2x2x8192x128_S511x32x1_S2x2x511x32x128_014_2_n_n_2_2_221128

theorem gather_at (x : FVec Ideal S2x2x8192x128 .f32) (idx : IVec S511x32x1 32)
    (a g : Fin 2) (n : Fin 511) (j : Fin 32) (d : Fin 128) :
    Host.gather gather_S2x2x8192x128_S511x32x1_S2x2x511x32x128_014_2_n_n_2_2_221128 x idx (ix5 a g n j d)
      = x (ix4 (n0 := 2) (n1 := 2) (n2 := 8192) (n3 := 128) a g ⟨min (idx (ix3 n j 0)).toInt.toNat 8191, by omega⟩ d) := by
  unfold Host.gather
  congr 1
  funext b
  refine Fin.ext ?_
  show GD.start (ix5 a g n j d) idx b + GD.batchCoord (ix5 a g n j d) b + GD.offCoord (ix5 a g n j d) b = _
  rw [GatherDims.batchCoord_eq_zero _ _ _ List.not_mem_nil]
  have hs : ∀ b : Fin 4, b ≠ 2 → GD.start (ix5 a g n j d) idx b = 0 := fun b hb => by
    unfold GatherDims.start
    rw [dif_neg (show b ∉ GD.startIndexMap from fun h => hb (List.mem_singleton.mp h))]
  have h2 : GD.start (ix5 a g n j d) idx 2 = min (idx (ix3 n j 0)).toInt.toNat 8191 := by
    unfold GatherDims.start
    rw [dif_pos (show (2 : Fin 4) ∈ GD.startIndexMap from List.mem_singleton.mpr rfl)]
    have hsi : GD.siIdx (ix5 a g n j d) ⟨List.idxOf (2 : Fin 4) GD.startIndexMap,
        List.idxOf_lt_length_iff.2 (List.mem_singleton.mpr rfl)⟩ = ix3 n j 0 := by
      funext b; refine Fin.ext ?_
      fin_cases b <;> rfl
    rw [hsi]
    rfl
  have o0 : GD.offCoord (ix5 a g n j d) 0 = a.val := by
    unfold GatherDims.offCoord; rw [dif_pos (by decide)]; rfl
  have o1 : GD.offCoord (ix5 a g n j d) 1 = g.val := by
    unfold GatherDims.offCoord; rw [dif_pos (by decide)]; rfl
  have o2 : GD.offCoord (ix5 a g n j d) 2 = 0 := by
    unfold GatherDims.offCoord; rw [dif_neg (by decide)]
  have o3 : GD.offCoord (ix5 a g n j d) 3 = d.val := by
    unfold GatherDims.offCoord; rw [dif_pos (by decide)]; rfl
  fin_cases b
  · exact (congrArg₂ (· + 0 + ·) (hs 0 (by decide)) o0).trans (by simp)
  · exact (congrArg₂ (· + 0 + ·) (hs 1 (by decide)) o1).trans (by simp)
  · exact (congrArg₂ (· + 0 + ·) h2 o2).trans (by simp)
  · exact (congrArg₂ (· + 0 + ·) (hs 3 (by decide)) o3).trans (by simp)

/-- The keys' and values' rows. -/
abbrev heads (p : FVec Ideal S8192x4608 .f32) : FVec Ideal S2x2x8192x128 .f32 :=
  transpose S2x2x8192x128 [1, 2, 0, 3] (shapeCast _ (extractStridedSlice S8192x512 ![0, 3072] p slices_S8192x4608_S8192x512_0_3072) shapeCasts_S8192x512_S8192x2x2x128) transposes_S8192x2x2x128_S2x2x8192x128_1_2_0_3

theorem heads_at (p : FVec Ideal S8192x4608 .f32) (a g : Fin 2) (t : Fin 8192) (d : Fin 128) :
    heads p (ix4 a g t d) = p (ix2 (n0 := 8192) (n1 := 4608) t ⟨3072 + 256 * a.val + 128 * g.val + d.val, by omega⟩) := by
  pointwise []
  exact congrArg (fun u => p (ix2 t u)) (Fin.ext (by dsimp only; omega))

/-- The overlapping blocks, flattened. -/
abbrev blocks (p : FVec Ideal S8192x4608 .f32) (pe : FVec Ideal S2x32x128 .f32) : FVec Ideal S2x2x511x4096 .f32 :=
  shapeCast _ (addf (Host.gather GD (heads p) rows) (broadcastInDim S2x2x511x32x128 ![0, 1, 2, 3, 4] bcast_S2x1x1x32x128_S2x2x511x32x128_0_1_2_3_4 (broadcastInDim S2x1x1x32x128 ![0, 3, 4] bcast_S2x32x128_S2x1x1x32x128_0_3_4 pe))) shapeCasts_S2x2x511x32x128_S2x2x511x4096

theorem blocks_at (p : FVec Ideal S8192x4608 .f32) (pe : FVec Ideal S2x32x128 .f32) (a g : Fin 2) (n : Fin 511) (k : Fin 4096) :
    blocks p pe (ix4 a g n k)
      = p (ix2 (n0 := 8192) (n1 := 4608) ⟨16 * n.val + k.val / 128, by omega⟩ ⟨3072 + 256 * a.val + 128 * g.val + k.val % 128, by omega⟩)
        + pe (ix3 (n0 := 2) (n1 := 32) (n2 := 128) a ⟨k.val / 128, by omega⟩ ⟨k.val % 128, by omega⟩) := by
  have hG : ∀ (n : Fin 511) (j : Fin 32) (d : Fin 128), Host.gather GD (heads p) rows (ix5 a g n j d)
      = p (ix2 (n0 := 8192) (n1 := 4608) ⟨16 * n.val + j.val, by omega⟩ ⟨3072 + 256 * a.val + 128 * g.val + d.val, by omega⟩) := fun n j d => by
    refine (gather_at (heads p) rows a g n j d).trans ((heads_at p a g _ d).trans ?_)
    refine congrArg (fun u => p (ix2 u _)) (Fin.ext ?_)
    show min (rows (ix3 n j 0)).toInt.toNat 8191 = _
    rw [rows_at]
    show _ = 16 * n.val + j.val
    omega
  unfold blocks
  generalize Host.gather GD (heads p) rows = X at *
  pointwise []
  rw [hG]

/-- The hidden entries before the gelu. -/
abbrev hid (p : FVec Ideal S8192x4608 .f32) (pe : FVec Ideal S2x32x128 .f32) (w1 : FVec Ideal S2x4096x128 .f32) (b1 : FVec Ideal S2x128 .f32) :
    FVec Ideal S2x2x511x128 .f32 :=
  addf (Host.dotGeneral (F := Ideal) dot_S2x2x511x4096_S2x4096x128_S2x2x511x128_3_1_12_2_0_0 none (blocks p pe) w1) (broadcastInDim S2x2x511x128 ![0, 1, 2, 3] bcast_S2x1x1x128_S2x2x511x128_0_1_2_3 (broadcastInDim S2x1x1x128 ![0, 3] bcast_S2x128_S2x1x1x128_0_3 b1))

theorem hid_at (p : FVec Ideal S8192x4608 .f32) (pe : FVec Ideal S2x32x128 .f32) (w1 : FVec Ideal S2x4096x128 .f32) (b1 : FVec Ideal S2x128 .f32)
    (a g : Fin 2) (n : Fin 511) (n' : Fin 512) (hn : n.val = n'.val) (d : Fin 128) :
    hid p pe w1 b1 (ix4 a g n d) = pre p pe w1 b1 a g n' (next n') d := by
  have hB := blocks_at p pe a g n
  unfold hid
  generalize blocks p pe = B at *
  pointwise []
  unfold pre half code next
  refine congrArg (· + _) ?_
  refine (Finset.sum_congr rfl fun k _ => by rw [hB]).trans ?_
  refine (Fin.sum_univ_add (a := 2048) (b := 2048) _).trans ?_
  refine congrArg₂ (· + ·) (Finset.sum_congr rfl fun k _ => ?_) (Finset.sum_congr rfl fun k _ => ?_)
  · refine congrArg₂ (· * ·) (congrArg₂ (· + ·) (congrArg p ?_) (congrArg pe ?_)) (congrArg w1 ?_)
    · exact congrArg₂ (fun u v => ix2 u v) (Fin.ext (by simp only [Fin.val_castAdd]; omega)) (Fin.ext (by simp only [Fin.val_castAdd]))
    · exact congrArg₂ (fun u v => ix3 a u v) (Fin.ext (by simp [Fin.val_castAdd])) (Fin.ext (by simp only [Fin.val_castAdd]))
    · exact congrArg (fun u => ix3 a u d) (Fin.ext rfl)
  · refine congrArg₂ (· * ·) (congrArg₂ (· + ·) (congrArg p ?_) (congrArg pe ?_)) (congrArg w1 ?_)
    · exact congrArg₂ (fun u v => ix2 u v) (Fin.ext (by simp only [Fin.val_natAdd]; omega)) (Fin.ext (by simp only [Fin.val_natAdd]; omega))
    · exact congrArg₂ (fun u v => ix3 a u v) (Fin.ext (by simp [Fin.val_natAdd]; omega)) (Fin.ext (by simp only [Fin.val_natAdd]; omega))
    · exact congrArg (fun u => ix3 a u d) (Fin.ext rfl)

/-- The reference's composed term. -/
theorem ref_eq (p : FVec Ideal S8192x4608 .f32) (pe : FVec Ideal S2x32x128 .f32) (w1 : FVec Ideal S2x4096x128 .f32) (b1 : FVec Ideal S2x128 .f32)
    (w2 : FVec Ideal S2x128x128 .f32) (b2 : FVec Ideal S2x128 .f32) :
    pad S2x2x512x128 ![0, 0, 0, 0] ![0, 0, 1, 0] ![0, 0, 0, 0] (addf (Host.dotGeneral (F := Ideal) dot_S2x2x511x128_S2x128x128_S2x2x511x128_3_1_12_2_0_0 none
        (mulf (hid p pe w1 b1) (mulf (broadcastInDim S2x2x511x128 ![] bcast_S_S2x2x511x128 (constant S_ .f32 0x3F000000#32))
          (addf (broadcastInDim S2x2x511x128 ![] bcast_S_S2x2x511x128 (constant S_ .f32 0x3F800000#32))
            (Host.tanh (mulf (broadcastInDim S2x2x511x128 ![] bcast_S_S2x2x511x128 (constant S_ .f32 0x3F4C422A#32))
              (addf (hid p pe w1 b1) (mulf (broadcastInDim S2x2x511x128 ![] bcast_S_S2x2x511x128 (constant S_ .f32 0x3D372713#32))
                (mulf (mulf (hid p pe w1 b1) (hid p pe w1 b1)) (hid p pe w1 b1))))))))) w2)
        (broadcastInDim S2x2x511x128 ![0, 1, 2, 3] bcast_S2x1x1x128_S2x2x511x128_0_1_2_3 (broadcastInDim S2x1x1x128 ![0, 3] bcast_S2x128_S2x1x1x128_0_3 b2)))
        (sitofp .f32 (constantI S_ 32 0#32) : FVec Ideal S_ .f32) pads_S2x2x511x128_S2x2x512x128_000_000_010_000 h_S_
      = result p pe w1 b1 w2 b2 := by
  have hH := fun a g n n' hn d => hid_at p pe w1 b1 a g n n' hn d
  generalize hid p pe w1 b1 = H at *
  funext i
  unfold result region gelu
  pointwise []
  have cube : ∀ x : EReal, x * x * x = x * (x * x) := fun x => mul_assoc x x x
  by_cases h : (i 2).val < 511
  · rw [dif_pos h, if_pos h]
    simp only [hH (i 0) (i 1) ⟨(i 2).val, h⟩ (i 2) rfl, cube]
  · rw [dif_neg h, if_neg h]
    show (((0#32 : BitVec 32).toInt : ℝ) : EReal) = 0
    simp

theorem ref_out (m : (ℓ : Loc nD τ sig) → Buf (Elt Ideal) ℓ) (c : Dev nD) : Value.res_main_v44 m c
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Value.res_main_v44
  exact ref_eq _ _ _ _ _ _

end Cert.CompressVal

end
-- ==== Proof.RouterMath.lean ====
/- The routing of a token in plain terms: the first greatest of a row, the two experts a sort puts first, the word a
   minimum over masked lanes gives, and real numbers among the extended ones. -/
module

public import Idealize.ShloMosaic.Lib.Pointwise
public import Idealize.ShloMosaic.Lib.SortFacts

@[expose] public section

noncomputable section

open Idealize.ShloMosaic

namespace Cert.Route

/-! ## Real numbers -/

/-- A real number. -/
def Num (x : EReal) : Prop := ∃ r : ℝ, x = (r : EReal)

theorem Num.coe (r : ℝ) : Num (r : EReal) := ⟨r, rfl⟩

theorem Num.add {x y : EReal} : Num x → Num y → Num (x + y)
  | ⟨r, hr⟩, ⟨s, hs⟩ => ⟨r + s, by rw [hr, hs, EReal.coe_add]⟩

theorem Num.mul {x y : EReal} : Num x → Num y → Num (x * y)
  | ⟨r, hr⟩, ⟨s, hs⟩ => ⟨r * s, by rw [hr, hs, EReal.coe_mul]⟩

theorem Num.sub_self {x : EReal} : Num x → x - x = 0
  | ⟨r, hr⟩ => by rw [hr, ← EReal.coe_sub, _root_.sub_self, EReal.coe_zero]

theorem Num.sum {ι : Type} (s : Finset ι) (f : ι → EReal) (h : ∀ i, Num (f i)) : Num (∑ i ∈ s, f i) := by
  induction s using Finset.cons_induction with
  | empty => exact ⟨0, by simp⟩
  | cons a s ha ih => rw [Finset.sum_cons]; exact (h a).add ih

theorem Num.ne_bot {x : EReal} : Num x → x ≠ ⊥
  | ⟨r, hr⟩ => by rw [hr]; exact EReal.coe_ne_bot r

theorem num_of_abs_lt {x : EReal} (h : max x (-x) < ⊤) : Num x := by
  induction x using EReal.rec with
  | bot => simp at h
  | coe r => exact ⟨r, rfl⟩
  | top => simp at h

theorem coe_sum {ι : Type} (s : Finset ι) (g : ι → ℝ) : ((∑ i ∈ s, g i : ℝ) : EReal) = ∑ i ∈ s, (g i : EReal) := by
  induction s using Finset.cons_induction with
  | empty => simp
  | cons a s ha ih => rw [Finset.sum_cons, Finset.sum_cons, EReal.coe_add, ih]

/-- The sum of the squares of real numbers. -/
theorem num_squares {n : ℕ} (f : Fin n → EReal) (h : ∀ i, Num (f i)) : ∃ r : ℝ, 0 ≤ r ∧ ∑ i, f i * f i = (r : EReal) := by
  choose g hg using h
  refine ⟨∑ i, g i * g i, Finset.sum_nonneg fun i _ => mul_self_nonneg _, ?_⟩
  rw [coe_sum]
  exact Finset.sum_congr rfl fun i _ => by rw [hg, EReal.coe_mul]

/-! ## The first greatest -/

/-- Among the positions of `P`, `i` is the first at which `v` is greatest. -/
structure IsFirst {n : ℕ} (P : Fin n → Prop) (v : Fin n → EReal) (i : Fin n) : Prop where
  mem : P i
  le : ∀ j, P j → v j ≤ v i
  lt : ∀ j, P j → j < i → v j < v i

/-- The order a stable sort, greater first, leaves. -/
def Ordered {n : ℕ} (x : Fin n → EReal) (a b : Fin n) : Prop := x b < x a ∨ x b = x a ∧ a < b

theorem ordered_insert {n : ℕ} (x : Fin n → EReal) (a : Fin n) (l : List (Fin n)) (ha : ∀ b ∈ l, a < b)
    (hl : l.Pairwise (Ordered x)) : (insertBefore (fun k k' => decide (x k' < x k)) a l).Pairwise (Ordered x) := by
  induction l with
  | nil => exact List.pairwise_singleton _ _
  | cons b m ih =>
    obtain ⟨hb, hm⟩ := List.pairwise_cons.1 hl
    unfold insertBefore
    by_cases h : x a < x b
    · rw [if_pos (by simpa using h)]
      refine List.pairwise_cons.2 ⟨fun c hc => ?_, ih (fun c hc => ha c (List.mem_cons_of_mem _ hc)) hm⟩
      rcases List.mem_cons.1 ((perm_insertBefore _ a m).mem_iff.1 hc) with rfl | hc
      · exact .inl h
      · exact hb c hc
    · rw [if_neg (by simpa using h)]
      have hab : a < b := ha b (List.mem_cons_self ..)
      have e : x b ≤ x a := not_lt.1 h
      refine List.pairwise_cons.2 ⟨fun c hc => ?_, hl⟩
      rcases List.mem_cons.1 hc with rfl | hc
      · rcases e.lt_or_eq with e | e
        · exact .inl e
        · exact .inr ⟨e, hab⟩
      · rcases hb c hc with q | ⟨q, q'⟩
        · exact .inl (q.trans_le e)
        · rcases e.lt_or_eq with e | e
          · exact .inl (q ▸ e)
          · exact .inr ⟨q.trans e, hab.trans q'⟩

theorem ordered_sort {n : ℕ} (x : Fin n → EReal) (l : List (Fin n)) (hl : l.Pairwise (· < ·)) :
    (stableSort (fun k k' => decide (x k' < x k)) l).Pairwise (Ordered x) := by
  induction l with
  | nil => exact List.Pairwise.nil
  | cons a m ih =>
    obtain ⟨ha, hm⟩ := List.pairwise_cons.1 hl
    unfold stableSort
    exact ordered_insert x a _ (fun b hb => ha b ((perm_stableSort _ m).mem_iff.1 hb)) (ih hm)

/-- Where the stable sort, greater first, takes its elements from. -/
def source {n : ℕ} (x : Fin n → EReal) : Fin n → Fin n := sortedFrom fun k k' => decide (x k' < x k)

theorem ordered_source {n : ℕ} (x : Fin n → EReal) (i j : Fin n) (h : i < j) : Ordered x (source x i) (source x j) :=
  List.pairwise_iff_getElem.1 (ordered_sort x _ (List.pairwise_lt_finRange n)) _ _ _ _ h

/-- The sort's first is the first greatest, -/
theorem source_first {n : ℕ} (x : Fin n → EReal) (i : Fin n) (hi : i.val = 0) : IsFirst (fun _ => True) x (source x i) := by
  have key : ∀ j, j = source x i ∨ Ordered x (source x i) j := fun j => by
    obtain ⟨k, rfl⟩ := sortedFrom_surjective (fun k k' => decide (x k' < x k)) j
    by_cases h : k = i
    · exact .inl (by rw [h]; rfl)
    · exact .inr (ordered_source x i k (by have : k.val ≠ i.val := fun e => h (Fin.ext e); show i.val < k.val; omega))
  refine ⟨trivial, fun j _ => ?_, fun j _ hj => ?_⟩
  · rcases key j with h | h | ⟨h, -⟩
    · exact h ▸ le_refl _
    · exact h.le
    · exact h.le
  · rcases key j with h | h | ⟨-, h⟩
    · exact absurd hj (h ▸ lt_irrefl _)
    · exact h
    · exact absurd hj h.asymm

/-- and its second the first greatest of the others. -/
theorem source_second {n : ℕ} (x : Fin n → EReal) (i i' : Fin n) (hi : i.val = 0) (hi' : i'.val = 1) :
    IsFirst (fun j => j ≠ source x i) x (source x i') := by
  have key : ∀ j, j ≠ source x i → j = source x i' ∨ Ordered x (source x i') j := fun j hj => by
    obtain ⟨k, rfl⟩ := sortedFrom_surjective (fun k k' => decide (x k' < x k)) j
    by_cases h : k = i'
    · exact .inl (by rw [h]; rfl)
    · have h0 : k.val ≠ i.val := fun e => hj (by rw [Fin.ext e]; rfl)
      exact .inr (ordered_source x i' k (by have : k.val ≠ i'.val := fun e => h (Fin.ext e); show i'.val < k.val; omega))
  refine ⟨fun e => ?_, fun j hj => ?_, fun j hj hlt => ?_⟩
  · have := sortedFrom_injective _ e
    rw [this] at hi'
    omega
  · rcases key j hj with h | h | ⟨h, -⟩
    · exact h ▸ le_refl _
    · exact h.le
    · exact h.le
  · rcases key j hj with h | h | ⟨-, h⟩
    · exact absurd hlt (h ▸ lt_irrefl _)
    · exact h
    · exact absurd hlt h.asymm

/-! ## The least of masked lanes -/

/-- The least word of a family, as a fold. -/
theorem fold_minsi {ι : Type} [DecidableEq ι] (w : ι → BitVec 32) (init : BitVec 32) (s : Finset ι) :
    (s.fold IntOp.minsi init w = init ∨ ∃ i ∈ s, s.fold IntOp.minsi init w = w i)
      ∧ ∀ i ∈ s, (s.fold IntOp.minsi init w).toInt ≤ (w i).toInt := by
  induction s using Finset.cons_induction with
  | empty => exact ⟨.inl rfl, fun i hi => absurd hi (Finset.notMem_empty i)⟩
  | cons a s ha ih =>
    rw [Finset.fold_cons]
    obtain ⟨h1, h2⟩ := ih
    generalize s.fold IntOp.minsi init w = r at h1 h2
    unfold IntOp.minsi
    by_cases h : (w a).slt r
    · rw [if_pos h]
      have h := (BitVec.slt_iff_toInt_lt.1 h).le
      refine ⟨.inr ⟨a, Finset.mem_cons_self .., rfl⟩, fun i hi => ?_⟩
      rcases Finset.mem_cons.1 hi with rfl | hi
      · exact le_refl _
      · exact h.trans (h2 i hi)
    · rw [if_neg h]
      have h : r.toInt ≤ (w a).toInt := not_lt.1 fun q => h (BitVec.slt_iff_toInt_lt.2 q)
      refine ⟨?_, fun i hi => ?_⟩
      · rcases h1 with h1 | ⟨i, hi, h1⟩
        · exact .inl h1
        · exact .inr ⟨i, Finset.mem_cons_of_mem hi, h1⟩
      · rcases Finset.mem_cons.1 hi with rfl | hi
        · exact h
        · exact h2 i hi

theorem toInt_word (n : ℕ) (h : n < 2147483648) : (BitVec.ofNat 32 n).toInt = n := by
  rw [BitVec.toInt_eq_toNat_of_lt (by rw [BitVec.toNat_ofNat]; omega), BitVec.toNat_ofNat]
  omega

theorem word_inj {a b : ℕ} (ha : a < 2147483648) (hb : b < 2147483648) : BitVec.ofNat 32 a = BitVec.ofNat 32 b ↔ a = b :=
  ⟨fun h => by have := congrArg BitVec.toInt h; rw [toInt_word a ha, toInt_word b hb] at this; omega, fun h => h ▸ rfl⟩

theorem sel_slt {α : Type} {a b : ℕ} (ha : a < 2147483648) (hb : b < 2147483648) (x y : α) :
    Scalar.select (IntOp.cmpi .slt (BitVec.ofNat 32 a) (BitVec.ofNat 32 b)) x y = if a < b then x else y := by
  have e : (BitVec.ofNat 32 a).slt (BitVec.ofNat 32 b) = decide (a < b) := by
    rw [Bool.eq_iff_iff, BitVec.slt_iff_toInt_lt, toInt_word a ha, toInt_word b hb, decide_eq_true_iff]
    omega
  unfold Scalar.select IntOp.cmpi
  dsimp only
  rw [e]
  by_cases h : a < b <;> simp [h]

theorem sel_range {α : Type} {a b c : ℕ} (ha : a < 2147483648) (hb : b < 2147483648) (hc : c < 2147483648) (x y : α) :
    Scalar.select (IntOp.andi (IntOp.cmpi .sge (BitVec.ofNat 32 a) (BitVec.ofNat 32 b))
      (IntOp.cmpi .slt (BitVec.ofNat 32 a) (BitVec.ofNat 32 c))) x y = if b ≤ a ∧ a < c then x else y := by
  have e : (BitVec.ofNat 32 a).slt (BitVec.ofNat 32 c) = decide (a < c) := by
    rw [Bool.eq_iff_iff, BitVec.slt_iff_toInt_lt, toInt_word a ha, toInt_word c hc, decide_eq_true_iff]
    omega
  have e' : (BitVec.ofNat 32 b).sle (BitVec.ofNat 32 a) = decide (b ≤ a) := by
    rw [Bool.eq_iff_iff, BitVec.sle_iff_toInt_le, toInt_word a ha, toInt_word b hb, decide_eq_true_iff]
    omega
  unfold Scalar.select IntOp.cmpi IntOp.andi
  dsimp only
  rw [e, e']
  by_cases h : b ≤ a <;> by_cases h' : a < c <;> simp [h, h']

theorem sel_eq {α : Type} {a b : ℕ} (ha : a < 2147483648) (hb : b < 2147483648) (x y : α) :
    Scalar.select (IntOp.cmpi .eq (BitVec.ofNat 32 a) (BitVec.ofNat 32 b)) x y = if a = b then x else y := by
  unfold Scalar.select IntOp.cmpi
  dsimp only
  by_cases h : a = b
  · simp [h]
  · have : ¬ BitVec.ofNat 32 a = BitVec.ofNat 32 b := fun e => h ((word_inj ha hb).1 e)
    rw [if_neg h, show (BitVec.ofNat 32 a == BitVec.ofNat 32 b) = false from beq_eq_false_iff_ne.2 this]
    rfl

/-- The least of the lanes at which a row is `M`, the others counted as 128. -/
theorem lane_min (f : Fin 128 → EReal) (M : EReal) (i : Fin 128) (hM : f i = M) (hlt : ∀ j, j < i → f j ≠ M) :
    Finset.univ.fold IntOp.minsi 2147483647#32 (fun x : Fin 128 => if f x = M then BitVec.ofNat 32 x.val else 128#32)
      = BitVec.ofNat 32 i.val := by
  obtain ⟨h1, h2⟩ := fold_minsi (fun x : Fin 128 => if f x = M then BitVec.ofNat 32 x.val else 128#32) 2147483647#32 Finset.univ
  have hi := h2 i (Finset.mem_univ i)
  rw [if_pos hM, toInt_word i.val (by omega)] at hi
  rcases h1 with h1 | ⟨j, -, h1⟩
  · rw [h1] at hi
    have : (2147483647#32).toInt = 2147483647 := by decide
    omega
  · rw [h1] at hi ⊢
    by_cases h : f j = M
    · rw [if_pos h] at hi ⊢
      rw [toInt_word j.val (by omega)] at hi
      have : ¬ j < i := fun q => hlt j q h
      rw [show j = i from Fin.ext (by omega)]
    · rw [if_neg h] at hi
      have : (128#32).toInt = 128 := by decide
      omega

/-- The greatest of a row. -/
theorem row_max {n : ℕ} (f : Fin n → EReal) (c : EReal) (i : Fin n) (hc : c ≤ f i) (h : ∀ j, f j ≤ f i) :
    Finset.univ.fold max c f = f i :=
  le_antisymm (Finset.fold_max_le _ |>.2 ⟨hc, fun j _ => h j⟩) (Finset.le_fold_max _ |>.2 (.inr ⟨i, Finset.mem_univ i, le_refl _⟩))

/-! ## A token's route -/

/-- The lanes of the groups and those of the experts of a group. -/
def glane (j : Fin 8) : Fin 128 := ⟨j.val, by omega⟩
def elane (g j : Fin 8) : Fin 128 := ⟨8 + 8 * g.val + j.val, by omega⟩

/-- From a row of logits: the group, and in it the first and the second expert. -/
structure Picks (L : Fin 128 → EReal) (g a b : Fin 8) : Prop where
  num : ∀ q, Num (L q)
  group : IsFirst (fun _ => True) (fun j => L (glane j)) g
  one : IsFirst (fun _ => True) (fun j => L (elane g j)) a
  two : IsFirst (fun j => j ≠ a) (fun j => L (elane g j)) b

/-- The group's weight, -/
def weight (L : Fin 128 → EReal) (g : Fin 8) : EReal := Ideal.div 1 (∑ j, Ideal.exp (L (glane j) - L (glane g)))

/-- the second expert's over the first's, -/
def ratio (L : Fin 128 → EReal) (g a b : Fin 8) : EReal := Ideal.exp (L (elane g b) - L (elane g a))

/-- and the two gates. -/
def gate (L : Fin 128 → EReal) (g a b : Fin 8) (k : ℕ) : EReal :=
  if k = 0 then weight L g * Ideal.div 1 (1 + ratio L g a b)
  else if k = 1 then weight L g * Ideal.div (ratio L g a b) (1 + ratio L g a b) else 0

/-- A sum over the groups' lanes. -/
theorem sum_lanes (f : Fin 128 → EReal) : ∑ q : Fin 128, (if q.val < 8 then f q else 0) = ∑ j : Fin 8, f (glane j) := by
  refine (Fin.sum_univ_add (a := 8) (b := 120) fun q : Fin 128 => if q.val < 8 then f q else 0).trans ?_
  rw [Finset.sum_eq_zero (f := fun j : Fin 120 => _) fun j _ => if_neg (by simp), add_zero]
  exact Finset.sum_congr rfl fun j _ => if_pos j.isLt

/-- The row with the lanes outside a stretch at the bottom. -/
def only (L : Fin 128 → EReal) (lo hi : ℕ) (q : Fin 128) : EReal := if lo ≤ q.val ∧ q.val < hi then L q else ⊥

variable {L : Fin 128 → EReal} {g a b : Fin 8}

theorem Picks.group_max (h : Picks L g a b) (q : Fin 128) : only L 0 8 q ≤ only L 0 8 (glane g) := by
  unfold only
  rw [if_pos (show 0 ≤ (glane g).val ∧ (glane g).val < 8 from ⟨by omega, g.isLt⟩)]
  split_ifs with hq
  · exact h.group.le ⟨q.val, hq.2⟩ trivial
  · exact bot_le

theorem Picks.group_lt (h : Picks L g a b) (q : Fin 128) (hq : q < glane g) : only L 0 8 q ≠ L (glane g) := by
  have : q.val < g.val := hq
  unfold only
  rw [if_pos ⟨by omega, by omega⟩]
  exact (h.group.lt ⟨q.val, by omega⟩ trivial this).ne

theorem only_group (g : Fin 8) : only L 0 8 (glane g) = L (glane g) := if_pos ⟨Nat.zero_le _, g.isLt⟩

theorem only_expert (g a : Fin 8) : only L (8 + 8 * g.val) (16 + 8 * g.val) (elane g a) = L (elane g a) :=
  if_pos (by unfold elane; dsimp only; omega)

theorem elane_of {g : Fin 8} {q : Fin 128} (h : 8 + 8 * g.val ≤ q.val ∧ q.val < 16 + 8 * g.val) :
    elane g ⟨q.val - (8 + 8 * g.val), by omega⟩ = q := Fin.ext (by unfold elane; dsimp only; omega)

theorem Picks.one_max (h : Picks L g a b) (q : Fin 128) :
    only L (8 + 8 * g.val) (16 + 8 * g.val) q ≤ only L (8 + 8 * g.val) (16 + 8 * g.val) (elane g a) := by
  rw [only_expert]
  unfold only
  split_ifs with hq
  · rw [← elane_of hq]; exact h.one.le _ trivial
  · exact bot_le

theorem Picks.one_lt (h : Picks L g a b) (q : Fin 128) (hq : q < elane g a) :
    only L (8 + 8 * g.val) (16 + 8 * g.val) q ≠ L (elane g a) := by
  have : q.val < 8 + 8 * g.val + a.val := hq
  unfold only
  split_ifs with hq
  · rw [← elane_of hq]; exact (h.one.lt _ trivial (by show _ < a.val; dsimp only; omega)).ne
  · exact (h.num _).ne_bot.symm

/-- The group's row without its first expert. -/
def rest (L : Fin 128 → EReal) (g a : Fin 8) (q : Fin 128) : EReal :=
  if q.val = (elane g a).val then ⊥ else only L (8 + 8 * g.val) (16 + 8 * g.val) q

theorem elane_val_inj {g a b : Fin 8} (h : (elane g a).val = (elane g b).val) : a = b :=
  Fin.ext (by unfold elane at h; dsimp only at h; omega)

theorem Picks.rest_two (h : Picks L g a b) : rest L g a (elane g b) = L (elane g b) := by
  unfold rest
  rw [if_neg fun e => h.two.mem (elane_val_inj e), only_expert]

theorem Picks.two_max (h : Picks L g a b) (q : Fin 128) : rest L g a q ≤ rest L g a (elane g b) := by
  rw [h.rest_two]
  unfold rest only
  split_ifs with h1 h2
  · exact bot_le
  · rw [← elane_of h2] at h1 ⊢; exact h.two.le _ fun e => h1 (by rw [e])
  · exact bot_le

theorem Picks.two_lt (h : Picks L g a b) (q : Fin 128) (hq : q < elane g b) : rest L g a q ≠ L (elane g b) := by
  have : q.val < 8 + 8 * g.val + b.val := hq
  unfold rest only
  split_ifs with h1 h2
  · exact (h.num _).ne_bot.symm
  · rw [← elane_of h2] at h1 ⊢
    exact (h.two.lt _ (fun e => h1 (by rw [e])) (by show _ < b.val; dsimp only; omega)).ne
  · exact (h.num _).ne_bot.symm

end Cert.Route

end
-- ==== Proof.RouterRow.lean ====
/- Routing a row of a block: what the kernel's payloads are at it. -/
module

public import proofs.«01_k».proof.Proof.RouterMath
public import proofs.«01_k».proof.Proof.Gen.RouterIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RouterRow

open Cert.RouterIdeal Cert.RouterIdeal.Gen Cert.Route

/-! ## A row of a block -/

theorem bot_bits : Ideal.ofBits .f32 0xFF800000#32 = (⊥ : EReal) := by simp [Ideal.ofBits, Ideal.ieee]
theorem zero_bits : Ideal.ofBits .f32 0x00000000#32 = (0 : EReal) := by simp [Ideal.ofBits, Ideal.ieee]

section Group

variable (v24 v27 v30 : FVec Ideal S512x2048 .bf16) (v33 v36 : FVec Ideal S2048x128 .bf16) (v40 : FVec Ideal S2048x384 .bf16)
  (z : FVec Ideal S512x384 .f32) (v55 : Vec Ideal S1x128 .f32) (p : Fin 512) {L : Fin 128 → EReal} {g a b : Fin 8}
  (hL : ∀ q, k0_pay12 (F := Ideal) v24 v27 v30 v33 v36 v40 z v55 (ix2 p q) = L q) (h : Picks L g a b)
include hL

theorem pay14_at (q : Fin 128) : k0_pay14 (F := Ideal) v24 v27 v30 v33 v36 v40 z v55 (ix2 p q) = only L 0 8 q := by
  pointwise [k0_pay14, k0_pay13]
  refine (sel_slt (by omega) (by omega) _ _).trans ?_
  rw [hL, bot_bits]
  unfold only
  simp

include h

theorem pay15_at : k0_pay15 (F := Ideal) v24 v27 v30 v33 v36 v40 z v55 (ix2 p 0) = L (glane g) := by
  pointwise [k0_pay15]
  simp only [pay14_at v24 v27 v30 v33 v36 v40 z v55 p hL]
  rw [bot_bits, row_max (only L 0 8) ⊥ (glane g) bot_le h.group_max, only_group]

theorem pay16_at : k0_pay16 (F := Ideal) v24 v27 v30 v33 v36 v40 z v55 (ix2 p 0) = weight L g := by
  unfold weight
  pointwise [k0_pay16, k0_pay13]
  simp only [pay14_at v24 v27 v30 v33 v36 v40 z v55 p hL, pay15_at v24 v27 v30 v33 v36 v40 z v55 p hL h]
  refine congrArg (Ideal.div 1) ((Finset.sum_congr rfl fun x _ => sel_slt (by omega) (by omega) _ _).trans ?_)
  refine (sum_lanes _).trans (Finset.sum_congr rfl fun j _ => ?_)
  refine congrArg (fun e => Ideal.exp (e - L (glane g))) (if_pos ⟨Nat.zero_le _, j.isLt⟩)

theorem pay17_at : k0_pay17 (F := Ideal) v24 v27 v30 v33 v36 v40 z v55 (ix2 p 0) = BitVec.ofNat 32 (8 + 8 * g.val) := by
  pointwise [k0_pay17]
  simp only [pay14_at v24 v27 v30 v33 v36 v40 z v55 p hL, pay15_at v24 v27 v30 v33 v36 v40 z v55 p hL h]
  rw [lane_min (only L 0 8) (L (glane g)) (glane g) (only_group g) h.group_lt]
  unfold IntOp.addi IntOp.muli glane
  rw [BitVec.ofNat_add, BitVec.ofNat_mul]

theorem pay18_at (q : Fin 128) : k0_pay18 (F := Ideal) v24 v27 v30 v33 v36 v40 z v55 (ix2 p q)
    = IntOp.cmpi .sge (BitVec.ofNat 32 q.val) (BitVec.ofNat 32 (8 + 8 * g.val)) := by
  pointwise [k0_pay18]
  rw [pay17_at v24 v27 v30 v33 v36 v40 z v55 p hL h]

end Group

theorem less8 (g e : Fin 8) : IntOp.subi (BitVec.ofNat 32 (elane g e).val) 8#32 = BitVec.ofNat 32 (8 * g.val + e.val) := by
  rw [show (elane g e).val = 8 * g.val + e.val + 8 from by unfold elane; dsimp only; omega, BitVec.ofNat_add]
  unfold IntOp.subi
  exact BitVec.add_sub_cancel _ _

section Experts

variable (v58 : FVec Ideal S512x128 .f32) (v59 : IVec S512x128 32) (v80 : FVec Ideal S512x1 .f32) (v84 : IVec S512x1 32)
  (v86 : IVec S512x128 1) (p : Fin 512) {L : Fin 128 → EReal} {g a b : Fin 8} (hL : ∀ q, v58 (ix2 p q) = L q)
  (hi : ∀ q : Fin 128, v59 (ix2 p q) = BitVec.ofNat 32 q.val) (hg : v84 (ix2 p 0) = BitVec.ofNat 32 (8 + 8 * g.val))
  (hlo : ∀ q : Fin 128, v86 (ix2 p q) = IntOp.cmpi .sge (BitVec.ofNat 32 q.val) (BitVec.ofNat 32 (8 + 8 * g.val)))
  (h : Picks L g a b)
include hL hi hg hlo

theorem pay19_at (q : Fin 128) : k0_pay19 (F := Ideal) v58 v59 v84 v86 (ix2 p q) = only L (8 + 8 * g.val) (16 + 8 * g.val) q := by
  pointwise [k0_pay19]
  rw [hL, hi, hg, hlo, bot_bits, show IntOp.addi (BitVec.ofNat 32 (8 + 8 * g.val)) 8#32 = BitVec.ofNat 32 (16 + 8 * g.val) from by
    unfold IntOp.addi; rw [← BitVec.ofNat_add]; congr 1; omega]
  exact sel_range (by omega) (by omega) (by omega) _ _

include h

theorem pay20_at : k0_pay20 (F := Ideal) v58 v59 v84 v86 (ix2 p 0) = L (elane g a) := by
  pointwise [k0_pay20]
  simp only [pay19_at v58 v59 v84 v86 p hL hi hg hlo]
  rw [bot_bits, row_max (only L _ _) ⊥ (elane g a) bot_le h.one_max, only_expert]

theorem pay21_at : k0_pay21 (F := Ideal) v58 v59 v84 v86 (ix2 p 0) = BitVec.ofNat 32 (elane g a).val := by
  pointwise [k0_pay21]
  simp only [pay19_at v58 v59 v84 v86 p hL hi hg hlo, pay20_at v58 v59 v84 v86 p hL hi hg hlo h, hi]
  exact lane_min (only L _ _) (L (elane g a)) (elane g a) (only_expert g a) h.one_lt

theorem pay22_at (q : Fin 128) : k0_pay22 (F := Ideal) v58 v59 v84 v86 (ix2 p q) = rest L g a q := by
  pointwise [k0_pay22]
  rw [pay19_at v58 v59 v84 v86 p hL hi hg hlo, pay21_at v58 v59 v84 v86 p hL hi hg hlo h, hi, bot_bits]
  exact sel_eq (by omega) (by omega) _ _

theorem pay23_at : k0_pay23 (F := Ideal) v58 v59 v84 v86 (ix2 p 0) = L (elane g b) := by
  pointwise [k0_pay23]
  simp only [pay22_at v58 v59 v84 v86 p hL hi hg hlo h]
  rw [bot_bits, row_max (rest L g a) ⊥ (elane g b) bot_le h.two_max, h.rest_two]

theorem pay24_at : k0_pay24 (F := Ideal) v58 v59 v84 v86 (ix2 p 0) = BitVec.ofNat 32 (elane g b).val := by
  pointwise [k0_pay24]
  simp only [pay22_at v58 v59 v84 v86 p hL hi hg hlo h, pay23_at v58 v59 v84 v86 p hL hi hg hlo h, hi]
  exact lane_min (rest L g a) (L (elane g b)) (elane g b) h.rest_two h.two_lt

theorem pay25_at : k0_pay25 (F := Ideal) v58 v59 v84 v86 (ix2 p 0) = ratio L g a b := by
  unfold ratio
  pointwise [k0_pay25]
  rw [pay20_at v58 v59 v84 v86 p hL hi hg hlo h, pay23_at v58 v59 v84 v86 p hL hi hg hlo h]

theorem pay27_at (hw : v80 (ix2 p 0) = weight L g) :
    k0_pay27 (F := Ideal) v58 v59 v80 v84 v86 (ix2 p 0) = gate L g a b 0 := by
  unfold gate
  pointwise [k0_pay27, k0_pay26]
  rw [hw, pay25_at v58 v59 v84 v86 p hL hi hg hlo h]

theorem pay28_at (hw : v80 (ix2 p 0) = weight L g) :
    k0_pay28 (F := Ideal) v58 v59 v80 v84 v86 (ix2 p 0) = gate L g a b 1 := by
  unfold gate
  pointwise [k0_pay28, k0_pay26]
  rw [hw, pay25_at v58 v59 v84 v86 p hL hi hg hlo h]

theorem pay30_at : k0_pay30 (F := Ideal) v58 v59 v84 v86 (ix2 p 0) = BitVec.ofNat 32 (8 * g.val + a.val) := by
  pointwise [k0_pay30]
  rw [pay21_at v58 v59 v84 v86 p hL hi hg hlo h, less8]

theorem pay32_at : k0_pay32 (F := Ideal) v58 v59 v84 v86 (ix2 p 0) = BitVec.ofNat 32 (8 * g.val + b.val) := by
  pointwise [k0_pay32]
  rw [pay24_at v58 v59 v84 v86 p hL hi hg hlo h, less8]

end Experts

end Cert.RouterRow

end
-- ==== Proof.RouterSpec.lean ====
/- The routing of tokens in plain terms: the four results of the arguments. -/
module

public import proofs.«01_k».proof.Proof.Dense
public import proofs.«01_k».proof.Proof.RouterMath
public import proofs.«01_k».proof.Proof.Gen.RouterIdeal.Value
public import Idealize.ShloMosaic.Lib.Claim

@[expose] public section

set_option maxRecDepth 16384

noncomputable section

open Idealize.ShloMosaic Idealize.ShloMosaic.TcCoe

namespace Cert.Route

open Cert.RouterIdeal

/-- The modulated norm of row `i`. -/
def hmix (x : FVec Ideal S8192x2048 .f32) (g sc sh : FVec Ideal S1x2048 .f32) (i : Fin 8192) : Fin 2048 → EReal :=
  Dense.mixed (fun k => x (ix2 i k)) (fun k => g (ix2 0 k)) (fun k => sc (ix2 0 k)) fun k => sh (ix2 0 k)

/-- Column `q` of the weights, the groups' then the experts', -/
def column (wg : FVec Ideal S2048x8 .f32) (we : FVec Ideal S2048x64 .f32) (q : Fin 128) (k : Fin 2048) : EReal :=
  if h : q.val < 8 then wg (ix2 k ⟨q.val, h⟩) else if h' : q.val < 72 then we (ix2 k ⟨q.val - 8, by omega⟩) else 0

/-- and of the biases. -/
def bias (bg : FVec Ideal S8 .f32) (be : FVec Ideal S64 .f32) (q : Fin 128) : EReal :=
  if h : q.val < 8 then bg (ix1 ⟨q.val, h⟩) else if h' : q.val < 72 then be (ix1 ⟨q.val - 8, by omega⟩) else 0

/-- A bit pattern of a positive number. -/
theorem pos_bits (b : BitVec 32) (hs : (b.extractLsb' 31 1 == 1#1) = false) (h0 : (b.extractLsb' 23 8).toNat ≠ 0)
    (h1 : (b.extractLsb' 23 8).toNat ≠ 2 ^ 8 - 1) : ∃ r : ℝ, 0 < r ∧ Ideal.ofBits .f32 b = (r : EReal) := by
  unfold Ideal.ofBits Ideal.ieee
  dsimp only
  rw [if_neg h1, if_neg h0]
  refine ⟨_, ?_, rfl⟩
  rw [hs]
  simp only [Bool.false_eq_true, if_false]
  positivity

theorem div_pos_num {x : EReal} {r : ℝ} (hx : ∃ s : ℝ, 0 ≤ s ∧ x = (s : EReal)) (hr : 0 < r) :
    ∃ s : ℝ, 0 ≤ s ∧ Ideal.div x (r : EReal) = (s : EReal) := by
  obtain ⟨s, h0, rfl⟩ := hx
  refine ⟨s * r⁻¹, by positivity, ?_⟩
  unfold Ideal.div
  rw [if_neg (by exact_mod_cast hr.ne'), EReal.coe_mul, EReal.coe_inv]

theorem num_mixed (x g sc sh : Fin 2048 → EReal) (hx : ∀ k, Num (x k)) (hg : ∀ k, Num (g k)) (hsc : ∀ k, Num (sc k))
    (hsh : ∀ k, Num (sh k)) (k : Fin 2048) : Num (Dense.mixed x g sc sh k) := by
  unfold Dense.mixed
  obtain ⟨u, hu, eu⟩ := pos_bits 0x45000000#32 (by decide) (by decide) (by decide)
  obtain ⟨v, hv, ev⟩ := pos_bits 0x358637BD#32 (by decide) (by decide) (by decide)
  rw [eu, ev]
  obtain ⟨s, hs, es⟩ := div_pos_num (num_squares x hx) hu
  rw [es, ← EReal.coe_add]
  have hr : Num (Ideal.rsqrt ((s + v : ℝ) : EReal)) := by
    refine ⟨(Real.sqrt (s + v))⁻¹, ?_⟩
    show (if s + v < 0 then (⊥ : EReal) else if s + v = 0 then ⊤ else (((Real.sqrt (s + v))⁻¹ : ℝ) : EReal)) = _
    rw [if_neg (not_lt.2 (add_nonneg hs hv.le)), if_neg (add_pos_of_nonneg_of_pos hs hv).ne']
  exact ((((hx k).mul hr).mul (hg k)).mul ((Num.coe 1).add (hsc k))).add (hsh k)

/-- What the call is given. -/
structure Inputs where
  x : FVec Ideal S8192x2048 .f32
  g : FVec Ideal S1x2048 .f32
  sc : FVec Ideal S1x2048 .f32
  sh : FVec Ideal S1x2048 .f32
  wg : FVec Ideal S2048x8 .f32
  bg : FVec Ideal S8 .f32
  we : FVec Ideal S2048x64 .f32
  be : FVec Ideal S64 .f32

/-- All of it real. -/
structure Inputs.Real (A : Inputs) : Prop where
  x : ∀ i, Num (A.x i)
  g : ∀ i, Num (A.g i)
  sc : ∀ i, Num (A.sc i)
  sh : ∀ i, Num (A.sh i)
  wg : ∀ i, Num (A.wg i)
  bg : ∀ i, Num (A.bg i)
  we : ∀ i, Num (A.we i)
  be : ∀ i, Num (A.be i)

namespace Inputs

variable (A : Inputs)

/-- A token's row of the norm, -/
abbrev row (i : Fin 8192) : Fin 2048 → EReal := hmix A.x A.g A.sc A.sh i

/-- its logits, -/
def logits (i : Fin 8192) (q : Fin 128) : EReal := Dense.dot (A.row i) (column A.wg A.we q) + bias A.bg A.be q

/-- its group, -/
def grp (i : Fin 8192) : Fin 8 := source (fun j => A.logits i (glane j)) 0

/-- and its two experts in it. -/
def pick (i : Fin 8192) (k : Fin 8) : Fin 8 := source (fun j => A.logits i (elane (A.grp i) j)) k

/-- The results: the norm, -/
def norm : FVec Ideal S8192x2048 .bf16 := fun i => A.row (i 0) (i 1)

/-- the experts' numbers, -/
def eids : IVec S8192x128 32 := fun i =>
  if (i 1).val = 0 then BitVec.ofNat 32 (8 * (A.grp (i 0)).val + (A.pick (i 0) 0).val)
  else if (i 1).val = 1 then BitVec.ofNat 32 (8 * (A.grp (i 0)).val + (A.pick (i 0) 1).val) else 0#32

/-- their gates, -/
def gates : FVec Ideal S8192x128 .f32 := fun i =>
  gate (A.logits (i 0)) (A.grp (i 0)) (A.pick (i 0) 0) (A.pick (i 0) 1) (i 1).val

/-- and how many tokens each expert was given. -/
def given (q : ℕ) (i : Fin 8192) : EReal :=
  (if q = 8 * (A.grp i).val + (A.pick i 0).val then 1 else 0) + if q = 8 * (A.grp i).val + (A.pick i 1).val then 1 else 0

def counts : FVec Ideal S1x128 .f32 := fun i => ∑ r, A.given (i 1).val r

variable {A}

theorem Real.row (h : A.Real) (i : Fin 8192) (k : Fin 2048) : Num (A.row i k) :=
  num_mixed _ _ _ _ (fun _ => h.x _) (fun _ => h.g _) (fun _ => h.sc _) (fun _ => h.sh _) k

theorem Real.column (h : A.Real) (q : Fin 128) (k : Fin 2048) : Num (column A.wg A.we q k) := by
  unfold Route.column
  split_ifs
  · exact h.wg _
  · exact h.we _
  · exact Num.coe 0

theorem Real.bias (h : A.Real) (q : Fin 128) : Num (bias A.bg A.be q) := by
  unfold Route.bias
  split_ifs
  · exact h.bg _
  · exact h.be _
  · exact Num.coe 0

theorem Real.logits (h : A.Real) (i : Fin 8192) (q : Fin 128) : Num (A.logits i q) :=
  (Num.sum _ _ fun k => (h.row i k).mul (h.column q k)).add (h.bias q)

theorem Real.picks (h : A.Real) (i : Fin 8192) : Picks (A.logits i) (A.grp i) (A.pick i 0) (A.pick i 1) where
  num := h.logits i
  group := source_first _ 0 rfl
  one := source_first _ 0 rfl
  two := source_second _ 0 1 rfl rfl

end Inputs

end Cert.Route

end
-- ==== Proof.RouterVal.lean ====
/- The routing of tokens: the kernel's results. -/
module

public import proofs.«01_k».proof.Proof.RouterRow
public import proofs.«01_k».proof.Proof.RouterSpec
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.RouterVal

open Cert.RouterIdeal Cert.RouterIdeal.Gen Cert.Route Cert.RouterRow

variable (m : (ℓ : Loc nD τ sig) → Buf (Elt Ideal) ℓ)

abbrev arg0 (c : Dev nD) : FVec Ideal S8192x2048 .f32 := m ((c : Thread nD τ).loc main_arg0)
abbrev arg1 (c : Dev nD) : FVec Ideal S1x2048 .f32 := m ((c : Thread nD τ).loc main_arg1)
abbrev arg2 (c : Dev nD) : FVec Ideal S1x2048 .f32 := m ((c : Thread nD τ).loc main_arg2)
abbrev arg3 (c : Dev nD) : FVec Ideal S1x2048 .f32 := m ((c : Thread nD τ).loc main_arg3)
abbrev arg4 (c : Dev nD) : FVec Ideal S2048x8 .f32 := m ((c : Thread nD τ).loc main_arg4)
abbrev arg5 (c : Dev nD) : FVec Ideal S8 .f32 := m ((c : Thread nD τ).loc main_arg5)
abbrev arg6 (c : Dev nD) : FVec Ideal S2048x64 .f32 := m ((c : Thread nD τ).loc main_arg6)
abbrev arg7 (c : Dev nD) : FVec Ideal S64 .f32 := m ((c : Thread nD τ).loc main_arg7)

/-- The arguments. -/
abbrev args (c : Dev nD) : Inputs := ⟨arg0 m c, arg1 m c, arg2 m c, arg3 m c, arg4 m c, arg5 m c, arg6 m c, arg7 m c⟩

/-! ## The weights the launch is given -/

theorem lands8 (idx : IVec S1 32) (hidx : ∀ i, idx i = 0#32) (a : Fin 2048) (b : Fin 8) (r : Fin 2048) (j : Fin 128) :
    scatter_S2048x128_S1_S2048x8_01_n_1_0.resultIdx? (ix2 a b) idx = some (ix2 r j) ↔ a.val = r.val ∧ b.val = j.val := by
  have h0 : scatter_S2048x128_S1_S2048x8_01_n_1_0.start (ix2 a b) idx 0 = 0 := rfl
  have h1 : scatter_S2048x128_S1_S2048x8_01_n_1_0.start (ix2 a b) idx 1 = 0 := by
    refine (show _ = (idx _).toInt from rfl).trans ?_
    rw [hidx]; rfl
  have w0 : scatter_S2048x128_S1_S2048x8_01_n_1_0.window (ix2 a b) 0 = a.val := rfl
  have w1 : scatter_S2048x128_S1_S2048x8_01_n_1_0.window (ix2 a b) 1 = b.val := rfl
  refine (Routing.resultIdx?_ix2 (R := 2048) (C := 128) _ (ix2 a b) idx r j).trans ?_
  rw [h0, h1, w0, w1]
  omega

theorem lands64 (idx : IVec S1 32) (hidx : ∀ i, idx i = 8#32) (a : Fin 2048) (b : Fin 64) (r : Fin 2048) (j : Fin 128) :
    scatter_S2048x128_S1_S2048x64_01_n_1_0.resultIdx? (ix2 a b) idx = some (ix2 r j) ↔ a.val = r.val ∧ 8 + b.val = j.val := by
  have h0 : scatter_S2048x128_S1_S2048x64_01_n_1_0.start (ix2 a b) idx 0 = 0 := rfl
  have h1 : scatter_S2048x128_S1_S2048x64_01_n_1_0.start (ix2 a b) idx 1 = 8 := by
    refine (show _ = (idx _).toInt from rfl).trans ?_
    rw [hidx]; rfl
  have w0 : scatter_S2048x128_S1_S2048x64_01_n_1_0.window (ix2 a b) 0 = a.val := rfl
  have w1 : scatter_S2048x128_S1_S2048x64_01_n_1_0.window (ix2 a b) 1 = b.val := rfl
  refine (Routing.resultIdx?_ix2 (R := 2048) (C := 128) _ (ix2 a b) idx r j).trans ?_
  rw [h0, h1, w0, w1]
  omega

theorem bands8 (idx : IVec S2 32) (h0 : ∀ i, (i 0).val = 0 → idx i = 0#32) (h1 : ∀ i, (i 0).val = 1 → idx i = 0#32) (b : Fin 8) (r : Fin 1) (j : Fin 128) :
    scatter_S1x128_S2_S8_0_0_01_0.resultIdx? (ix1 b) idx = some (ix2 r j) ↔ b.val = j.val := by
  have e0 : scatter_S1x128_S2_S8_0_0_01_0.start (ix1 b) idx 0 = 0 := by
    refine (show _ = (idx _).toInt from rfl).trans ?_
    rw [h0 _ rfl]; rfl
  have e1 : scatter_S1x128_S2_S8_0_0_01_0.start (ix1 b) idx 1 = 0 := by
    refine (show _ = (idx _).toInt from rfl).trans ?_
    rw [h1 _ rfl]; rfl
  have w0 : scatter_S1x128_S2_S8_0_0_01_0.window (ix1 b) 0 = 0 := rfl
  have w1 : scatter_S1x128_S2_S8_0_0_01_0.window (ix1 b) 1 = b.val := rfl
  refine (Routing.resultIdx?_ix2 (R := 1) (C := 128) _ (ix1 b) idx r j).trans ?_
  rw [e0, e1, w0, w1]
  omega

theorem bands64 (idx : IVec S2 32) (h0 : ∀ i, (i 0).val = 0 → idx i = 0#32) (h1 : ∀ i, (i 0).val = 1 → idx i = 8#32) (b : Fin 64) (r : Fin 1) (j : Fin 128) :
    scatter_S1x128_S2_S64_0_0_01_0.resultIdx? (ix1 b) idx = some (ix2 r j) ↔ 8 + b.val = j.val := by
  have e0 : scatter_S1x128_S2_S64_0_0_01_0.start (ix1 b) idx 0 = 0 := by
    refine (show _ = (idx _).toInt from rfl).trans ?_
    rw [h0 _ rfl]; rfl
  have e1 : scatter_S1x128_S2_S64_0_0_01_0.start (ix1 b) idx 1 = 8 := by
    refine (show _ = (idx _).toInt from rfl).trans ?_
    rw [h1 _ rfl]; rfl
  have w0 : scatter_S1x128_S2_S64_0_0_01_0.window (ix1 b) 0 = 0 := rfl
  have w1 : scatter_S1x128_S2_S64_0_0_01_0.window (ix1 b) 1 = b.val := rfl
  refine (Routing.resultIdx?_ix2 (R := 1) (C := 128) _ (ix1 b) idx r j).trans ?_
  rw [e0, e1, w0, w1]
  omega

theorem set8 (x : FVec Ideal S2048x128 .f32) (idx : IVec S1 32) (hidx : ∀ i, idx i = 0#32)
    (u : FVec Ideal S2048x8 .f32) (k : Fin 2048) (j : Fin 128) :
    Host.scatter scatter_S2048x128_S1_S2048x8_01_n_1_0 (fun _ b => b) x idx u (ix2 k j)
      = if h : j.val < 8 then u (ix2 k ⟨j.val, h⟩) else x (ix2 k j) := by
  by_cases h : j.val < 8
  · rw [dif_pos h]
    refine Routing.scatter_set_hit _ x idx u _ _ (fun q hq => ?_) (ix2 k ⟨j.val, h⟩) ((lands8 idx hidx k ⟨j.val, h⟩ k j).2 ⟨rfl, rfl⟩)
    rw [eq_ix2 q] at hq ⊢
    obtain ⟨e0, e1⟩ := (lands8 idx hidx _ _ k j).1 hq
    rw [show q 0 = k from Fin.ext e0, show q 1 = (⟨j.val, h⟩ : Fin 8) from Fin.ext e1]
  · rw [dif_neg h]
    refine Routing.scatter_set_miss _ x idx u _ fun q hq => h ?_
    rw [eq_ix2 q] at hq
    obtain ⟨e0, e1⟩ := (lands8 idx hidx _ _ k j).1 hq
    have := (q 1).isLt
    change (q 1).val < 8 at this
    omega

theorem set64 (x : FVec Ideal S2048x128 .f32) (idx : IVec S1 32) (hidx : ∀ i, idx i = 8#32)
    (u : FVec Ideal S2048x64 .f32) (k : Fin 2048) (j : Fin 128) :
    Host.scatter scatter_S2048x128_S1_S2048x64_01_n_1_0 (fun _ b => b) x idx u (ix2 k j)
      = if h : 8 ≤ j.val ∧ j.val < 72 then u (ix2 k ⟨j.val - 8, by omega⟩) else x (ix2 k j) := by
  by_cases h : 8 ≤ j.val ∧ j.val < 72
  · rw [dif_pos h]
    refine Routing.scatter_set_hit _ x idx u _ _ (fun q hq => ?_) (ix2 k ⟨j.val - 8, by omega⟩)
      ((lands64 idx hidx k ⟨j.val - 8, by omega⟩ k j).2 ⟨rfl, by dsimp only; omega⟩)
    rw [eq_ix2 q] at hq ⊢
    obtain ⟨e0, e1⟩ := (lands64 idx hidx _ _ k j).1 hq
    rw [show q 0 = k from Fin.ext e0, show q 1 = (⟨j.val - 8, by omega⟩ : Fin 64) from Fin.ext (by dsimp only; omega)]
  · rw [dif_neg h]
    refine Routing.scatter_set_miss _ x idx u _ fun q hq => h ?_
    rw [eq_ix2 q] at hq
    obtain ⟨e0, e1⟩ := (lands64 idx hidx _ _ k j).1 hq
    have := (q 1).isLt
    change (q 1).val < 64 at this
    omega

theorem bet8 (x : FVec Ideal S1x128 .f32) (idx : IVec S2 32) (h0 : ∀ i, (i 0).val = 0 → idx i = 0#32) (h1 : ∀ i, (i 0).val = 1 → idx i = 0#32)
    (u : FVec Ideal S8 .f32) (j : Fin 128) :
    Host.scatter scatter_S1x128_S2_S8_0_0_01_0 (fun _ b => b) x idx u (ix2 0 j)
      = if h : j.val < 8 then u (ix1 ⟨j.val, h⟩) else x (ix2 0 j) := by
  by_cases h : j.val < 8
  · rw [dif_pos h]
    refine Routing.scatter_set_hit _ x idx u _ _ (fun q hq => ?_) (ix1 ⟨j.val, h⟩) ((bands8 idx h0 h1 ⟨j.val, h⟩ 0 j).2 rfl)
    rw [eq_ix1 q] at hq ⊢
    have e1 := (bands8 idx h0 h1 _ 0 j).1 hq
    rw [show q 0 = (⟨j.val, h⟩ : Fin 8) from Fin.ext e1]
  · rw [dif_neg h]
    refine Routing.scatter_set_miss _ x idx u _ fun q hq => h ?_
    rw [eq_ix1 q] at hq
    have e1 := (bands8 idx h0 h1 _ 0 j).1 hq
    have := (q 0).isLt
    change (q 0).val < 8 at this
    omega

theorem bet64 (x : FVec Ideal S1x128 .f32) (idx : IVec S2 32) (h0 : ∀ i, (i 0).val = 0 → idx i = 0#32) (h1 : ∀ i, (i 0).val = 1 → idx i = 8#32)
    (u : FVec Ideal S64 .f32) (j : Fin 128) :
    Host.scatter scatter_S1x128_S2_S64_0_0_01_0 (fun _ b => b) x idx u (ix2 0 j)
      = if h : 8 ≤ j.val ∧ j.val < 72 then u (ix1 ⟨j.val - 8, by omega⟩) else x (ix2 0 j) := by
  by_cases h : 8 ≤ j.val ∧ j.val < 72
  · rw [dif_pos h]
    refine Routing.scatter_set_hit _ x idx u _ _ (fun q hq => ?_) (ix1 ⟨j.val - 8, by omega⟩)
      ((bands64 idx h0 h1 ⟨j.val - 8, by omega⟩ 0 j).2 (by dsimp only; omega))
    rw [eq_ix1 q] at hq ⊢
    have e1 := (bands64 idx h0 h1 _ 0 j).1 hq
    rw [show q 0 = (⟨j.val - 8, by omega⟩ : Fin 64) from Fin.ext (by dsimp only; omega)]
  · rw [dif_neg h]
    refine Routing.scatter_set_miss _ x idx u _ fun q hq => h ?_
    rw [eq_ix1 q] at hq
    have e1 := (bands64 idx h0 h1 _ 0 j).1 hq
    have := (q 0).isLt
    change (q 0).val < 64 at this
    omega

theorem V_weights (c : Dev nD) (k : Fin 2048) (q : Fin 128) : V m c main_v4 (ix2 k q) = column (arg4 m c) (arg6 m c) q k := by
  have e : V m c main_v4 = Host.scatter scatter_S2048x128_S1_S2048x64_01_n_1_0 (fun _ b => b)
      (Host.scatter scatter_S2048x128_S1_S2048x8_01_n_1_0 (fun _ b => b)
        (broadcastInDim S2048x128 ![] bcast_S_S2048x128 (constant (F := Ideal) S_ .f32 0#32))
        (broadcastInDim S1 ![] bcast_S_S1 (constantI S_ 32 0#32)) (arg4 m c))
      (broadcastInDim S1 ![] bcast_S_S1 (constantI S_ 32 8#32)) (arg6 m c) := by
    unfold V
    after_results_simp
  rw [e, set64 _ (broadcastInDim S1 ![] bcast_S_S1 (constantI S_ 32 8#32)) (fun i => rfl),
    set8 _ (broadcastInDim S1 ![] bcast_S_S1 (constantI S_ 32 0#32)) (fun i => rfl)]
  unfold column
  by_cases h : q.val < 8
  · rw [dif_neg (by omega), dif_pos h, dif_pos h]
  · rw [dif_neg h, dif_neg h]
    by_cases h' : q.val < 72
    · rw [dif_pos h', dif_pos ⟨by omega, h'⟩]
    · rw [dif_neg h', dif_neg (by omega)]
      pointwise []

theorem V_bias (c : Dev nD) (q : Fin 128) : V m c main_v13 (ix2 0 q) = bias (arg5 m c) (arg7 m c) q := by
  have e : V m c main_v13 = Host.scatter scatter_S1x128_S2_S64_0_0_01_0 (fun _ b => b)
      (Host.scatter scatter_S1x128_S2_S8_0_0_01_0 (fun _ b => b)
        (broadcastInDim S1x128 ![] bcast_S_S1x128 (constant (F := Ideal) S_ .f32 0#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0) (arg5 m c))
      (concatenate S2 0 [⟨S1, broadcastInDim S1 ![] bcast_S_S1 (constantI S_ 32 0#32)⟩,
          ⟨S1, broadcastInDim S1 ![] bcast_S_S1 (constantI S_ 32 8#32)⟩] concatenates_S1_S1_S2_d0) (arg7 m c) := by
    unfold V
    after_results_simp
    rfl
  have z (u v : IVec S1 32) (a b : BitVec 32) (hu : ∀ i, u i = a) (hv : ∀ i, v i = b) (i : S2.Idx) :
      concatenate S2 0 [⟨S1, u⟩, ⟨S1, v⟩] concatenates_S1_S1_S2_d0 i = if (i 0).val < 1 then a else b := by
    idx_vars i
    by_cases h : i0.val < 1
    · pointwise []
      rw [dif_pos h, hu]
      exact (if_pos h).symm
    · pointwise []
      rw [dif_neg h, hv]
      exact (if_neg h).symm
  refine (congrFun e (ix2 0 q)).trans ((bet64 _ _ (fun i h => ?_) (fun i h => ?_) _ q).trans ?_)
  · exact (z _ _ 0#32 8#32 (fun _ => rfl) (fun _ => rfl) i).trans (if_pos (by omega))
  · exact (z _ _ 0#32 8#32 (fun _ => rfl) (fun _ => rfl) i).trans (if_neg (by omega))
  have e' := bet8 (broadcastInDim S1x128 ![] bcast_S_S1x128 (constant (F := Ideal) S_ .f32 0#32)) (concatenate S2 0 [⟨S1, broadcastInDim S1 ![] bcast_S_S1 (constantI S_ 32 0#32)⟩,
          ⟨S1, broadcastInDim S1 ![] bcast_S_S1 (constantI S_ 32 0#32)⟩] concatenates_S1_S1_S2_d0)
      (fun i h => (z _ _ 0#32 0#32 (fun _ => rfl) (fun _ => rfl) i).trans (if_pos (by omega)))
      (fun i h => (z _ _ 0#32 0#32 (fun _ => rfl) (fun _ => rfl) i).trans (if_neg (by omega))) (arg5 m c) q
  rw [e']
  unfold bias
  by_cases h : q.val < 8
  · rw [dif_neg (by omega), dif_pos h, dif_pos h]
  · rw [dif_neg h, dif_neg h]
    by_cases h' : q.val < 72
    · rw [dif_pos h', dif_pos ⟨by omega, h'⟩]
    · rw [dif_neg h', dif_neg (by omega)]
      pointwise []

/-! ## The grid -/

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![0, 0] :=
  (by decide +kernel : ∀ t : Fin grid0.N, _)

/-- The norm of a block of rows. -/
theorem pay1_at (c : Dev nD) (t : Fin cfg0.N) (p : Fin 512) (k : Fin 2048) (r : Fin 8192) (hr : r.val = 512 * t.val + p.val) :
    k0_pay1 (F := Ideal) (iblk m c 0 t) (iblk m c 1 t) (iblk m c 2 t) (iblk m c 3 t) (ix2 p k)
      = hmix (arg0 m c) (arg1 m c) (arg2 m c) (arg3 m c) r k := by
  unfold hmix Dense.mixed
  pointwise [k0_pay1]
  blk_point [iblk, V, idx t]

/-! ## The logits -/

section Split

variable (x : Vec Ideal S512x2048 .f32) (g sc sh : Vec Ideal S1x2048 .f32) (p : Fin 512) {H : Fin 2048 → EReal}
  (hH : ∀ k, k0_pay1 (F := Ideal) x g sc sh (ix2 p k) = H k) (hn : ∀ k, Num (H k))
include hH

theorem pay3_at (k : Fin 2048) : k0_pay3 (F := Ideal) x g sc sh (ix2 p k) = H k := by
  pointwise [k0_pay3]
  exact hH k

include hn

theorem pay4_at (k : Fin 2048) : k0_pay4 (F := Ideal) x g sc sh (ix2 p k) = 0 := by
  pointwise [k0_pay4]
  rw [pay3_at x g sc sh p hH, hH, (hn k).sub_self]

theorem pay5_at (k : Fin 2048) : k0_pay5 (F := Ideal) x g sc sh (ix2 p k) = 0 := by
  pointwise [k0_pay5]
  exact pay4_at x g sc sh p hH hn k

theorem pay6_at (k : Fin 2048) : k0_pay6 (F := Ideal) x g sc sh (ix2 p k) = 0 := by
  pointwise [k0_pay6]
  rw [pay4_at x g sc sh p hH hn, pay5_at x g sc sh p hH hn, sub_zero]

end Split

section Weights

variable (w : Vec Ideal S2048x128 .f32) {W : Fin 128 → Fin 2048 → EReal} (hw : ∀ k q, w (ix2 k q) = W q k) (hn : ∀ q k, Num (W q k))
include hw

theorem pay8_at (k : Fin 2048) (q : Fin 128) : k0_pay8 (F := Ideal) w (ix2 k q) = W q k := by
  pointwise [k0_pay8, k0_pay7]
  exact hw k q

include hn

theorem pay9_at (k : Fin 2048) (q : Fin 128) : k0_pay9 (F := Ideal) w (ix2 k q) = 0 := by
  pointwise [k0_pay9, k0_pay7]
  rw [pay8_at w hw, hw, (hn q k).sub_self]

theorem pay10_at (k : Fin 2048) (q : Fin 128) : k0_pay10 (F := Ideal) w (ix2 k q) = 0 := by
  pointwise [k0_pay10]
  exact pay9_at w hw hn k q

theorem pay11_at (k : Fin 2048) (q : Fin 384) : k0_pay11 (F := Ideal) w (ix2 k q) = if h : q.val < 128 then W ⟨q.val, h⟩ k else 0 := by
  pointwise [k0_pay11]
  by_cases h : q.val < 128
  · rw [dif_pos h, dif_pos h, pay8_at w hw]
  · rw [dif_neg h, dif_neg h]
    by_cases h' : q.val - 128 < 128
    · rw [dif_pos h', pay10_at w hw hn]
    · rw [dif_neg h', pay9_at w hw hn, pay10_at w hw hn, sub_zero]

end Weights

/-- The six products of the three parts come to one. -/
theorem logit_at (x : Vec Ideal S512x2048 .f32) (g sc sh : Vec Ideal S1x2048 .f32) (w : Vec Ideal S2048x128 .f32) (b : Vec Ideal S1x128 .f32)
    (p : Fin 512) {H : Fin 2048 → EReal} {W : Fin 128 → Fin 2048 → EReal} {B : Fin 128 → EReal}
    (hH : ∀ k, k0_pay1 (F := Ideal) x g sc sh (ix2 p k) = H k) (hn : ∀ k, Num (H k)) (hw : ∀ k q, w (ix2 k q) = W q k)
    (hm : ∀ q k, Num (W q k)) (hb : ∀ q, b (ix2 0 q) = B q) (q : Fin 128) :
    k0_pay12 (F := Ideal) (k0_pay3 x g sc sh) (k0_pay5 x g sc sh) (k0_pay6 x g sc sh) (k0_pay8 w) (k0_pay10 w) (k0_pay11 w)
      (constant S512x384 FTy.f32 0#32) b (ix2 p q) = Dense.dot H (W q) + B q := by
  unfold Dense.dot
  pointwise [k0_pay12]
  simp only [pay3_at x g sc sh p hH, pay5_at x g sc sh p hH hn, pay6_at x g sc sh p hH hn, pay8_at w hw, pay10_at w hw hm,
    pay11_at w hw hm, hb, zero_mul, Finset.sum_const_zero, add_zero, zero_add]
  simp [show ¬ 256 + q.val < 128 from by omega]

end Cert.RouterVal

end
-- ==== Proof.RouterFin.lean ====
/- The precondition of the routing, read back: all that the call is given is real. -/
module

public import proofs.«01_k».proof.Defs
public import proofs.«01_k».proof.Proof.RouterVal
public import Idealize.ShloMosaic.Lib.ReduceAll

@[expose] public section

noncomputable section

open Idealize.ShloMosaic Idealize.ShloMosaic.TcCoe

namespace Cert.RouterFin

open Cert.Route

theorem facts : Cert.Pre_finite.Facts :=
  ⟨by decide, by decide, by decide, by decide, by decide, by decide, by decide, by decide, by decide, by decide, by decide, by decide,
    by decide⟩

theorem top_bits : Ideal.ofBits .f32 0x7F800000#32 = (⊤ : EReal) := by simp [Ideal.ofBits, Ideal.ieee]

/-- The test of one argument: below infinity in size at every index. -/
theorem num_all {s : Shape} {axes : List (Fin s.rank)} (x : FVec Ideal s .f32) (bc : Cert.Pre_finite.S_.BroadcastsInDim s ![])
    (h : s.ReducesTo axes Cert.Pre_finite.S_) (hu : 0 < Cert.Pre_finite.S_.numel)
    (e : Host.reduce IntOp.andi (cmpf .olt (Host.absf x) (broadcastInDim s ![] bc (constant (F := Ideal) Cert.Pre_finite.S_ .f32 0x7F800000#32)))
      (constantI Cert.Pre_finite.S_ 1 1#1) h hu ix0 = 1#1) (i : s.Idx) : Num (x i) := by
  have e' := Host.reduce_andi_all _ _ h hu ix0 e i
  have e2 : BitVec.ofBool (decide (max (x i) (-(x i)) < Ideal.ofBits .f32 0x7F800000#32)) = 1#1 := e'
  rw [top_bits] at e2
  have b : ∀ b : Bool, BitVec.ofBool b = 1#1 → b = true := by decide
  exact num_of_abs_lt (of_decide_eq_true (b _ e2))

theorem real (m : (ℓ : Loc Cert.RouterIdeal.nD Cert.RouterIdeal.τ Cert.RouterIdeal.sig) → Buf (Elt Ideal) ℓ)
    (h : Cert.Pre_RouterIdeal_finite (hPre_finite := facts) m) (c : Dev Cert.RouterIdeal.nD) : (Cert.RouterVal.args m c).Real := by
  have e := congrFun (h c) ix0
  unfold Cert.Pre_finite.fn Cert.Pre_finite.fn_part1 Cert.Pre_finite.fn_part2 at e
  dsimp only at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨num_all _ _ _ _ h0, num_all _ _ _ _ h1, num_all _ _ _ _ h2, num_all _ _ _ _ h3, num_all _ _ _ _ h4, num_all _ _ _ _ h5,
    num_all _ _ _ _ h6, num_all _ _ _ _ h7⟩

end Cert.RouterFin

end
-- ==== Proof.RouterBlk.lean ====
/- The routing of tokens: what a point of the kernel's grid leaves. -/
module

public import proofs.«01_k».proof.Proof.RouterVal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RouterVal

open Cert.RouterIdeal Cert.RouterIdeal.Gen Cert.Route Cert.RouterRow

variable (m : (ℓ : Loc nD τ sig) → Buf (Elt Ideal) ℓ) (c : Dev nD) (t : Fin cfg0.N)

/-! ## What a point of the grid leaves -/

/-- The lanes, -/
abbrev lanes : IVec S512x128 32 := iota Kind.tc S512x128 32 [1] iota_S512x128_d1_w32

/-- the logits, -/
abbrev blockLogits : FVec Ideal S512x128 .f32 :=
  k0_pay12 (k0_pay3 (iblk m c 0 t) (iblk m c 1 t) (iblk m c 2 t) (iblk m c 3 t))
    (k0_pay5 (iblk m c 0 t) (iblk m c 1 t) (iblk m c 2 t) (iblk m c 3 t))
    (k0_pay6 (iblk m c 0 t) (iblk m c 1 t) (iblk m c 2 t) (iblk m c 3 t)) (k0_pay8 (iblk m c 4 t))
    (k0_pay10 (iblk m c 4 t)) (k0_pay11 (iblk m c 4 t)) (constant S512x384 FTy.f32 0#32) (iblk m c 5 t)

/-- the groups' weights, -/
abbrev blockWeight : FVec Ideal S512x1 .f32 :=
  k0_pay16 (k0_pay3 (iblk m c 0 t) (iblk m c 1 t) (iblk m c 2 t) (iblk m c 3 t))
    (k0_pay5 (iblk m c 0 t) (iblk m c 1 t) (iblk m c 2 t) (iblk m c 3 t))
    (k0_pay6 (iblk m c 0 t) (iblk m c 1 t) (iblk m c 2 t) (iblk m c 3 t)) (k0_pay8 (iblk m c 4 t))
    (k0_pay10 (iblk m c 4 t)) (k0_pay11 (iblk m c 4 t)) (constant S512x384 FTy.f32 0#32) (iblk m c 5 t)

/-- the first lane of their experts -/
abbrev blockLow : IVec S512x1 32 :=
  k0_pay17 (F := Ideal) (k0_pay3 (iblk m c 0 t) (iblk m c 1 t) (iblk m c 2 t) (iblk m c 3 t))
    (k0_pay5 (iblk m c 0 t) (iblk m c 1 t) (iblk m c 2 t) (iblk m c 3 t))
    (k0_pay6 (iblk m c 0 t) (iblk m c 1 t) (iblk m c 2 t) (iblk m c 3 t)) (k0_pay8 (iblk m c 4 t))
    (k0_pay10 (iblk m c 4 t)) (k0_pay11 (iblk m c 4 t)) (constant S512x384 FTy.f32 0#32) (iblk m c 5 t)

/-- and the lanes from it on. -/
abbrev blockFrom : IVec S512x128 1 :=
  k0_pay18 (F := Ideal) (k0_pay3 (iblk m c 0 t) (iblk m c 1 t) (iblk m c 2 t) (iblk m c 3 t))
    (k0_pay5 (iblk m c 0 t) (iblk m c 1 t) (iblk m c 2 t) (iblk m c 3 t))
    (k0_pay6 (iblk m c 0 t) (iblk m c 1 t) (iblk m c 2 t) (iblk m c 3 t)) (k0_pay8 (iblk m c 4 t))
    (k0_pay10 (iblk m c 4 t)) (k0_pay11 (iblk m c 4 t)) (constant S512x384 FTy.f32 0#32) (iblk m c 5 t)

theorem left6 : (outsAt0 m c t.val t.isLt).1 = k0_pay2 (iblk m c 0 t) (iblk m c 1 t) (iblk m c 2 t) (iblk m c 3 t) := by
  by_cases h0 : t.val % 16 = 0
  · rw [outsAt0_A m c t h0]
    dsimp only
    frame_out
  · rw [outsAt0_B m c t h0]
    dsimp only
    frame_out

theorem left7 : (outsAt0 m c t.val t.isLt).2.1 = k0_pay33 (k0_pay29 lanes)
    (k0_pay30 (blockLogits m c t) lanes (blockLow m c t) (blockFrom m c t)) (k0_pay31 lanes)
    (k0_pay32 (blockLogits m c t) lanes (blockLow m c t) (blockFrom m c t)) 0#32 := by
  by_cases h0 : t.val % 16 = 0
  · rw [outsAt0_A m c t h0]
    dsimp only
    frame_out
  · rw [outsAt0_B m c t h0]
    dsimp only
    frame_out

theorem left8 : (outsAt0 m c t.val t.isLt).2.2.1 = k0_pay34 lanes
    (k0_pay27 (blockLogits m c t) lanes (blockWeight m c t) (blockLow m c t) (blockFrom m c t))
    (k0_pay28 (blockLogits m c t) lanes (blockWeight m c t) (blockLow m c t) (blockFrom m c t)) := by
  by_cases h0 : t.val % 16 = 0
  · rw [outsAt0_A m c t h0]
    dsimp only
    frame_out
  · rw [outsAt0_B m c t h0]
    dsimp only
    frame_out

theorem left9_first (h0 : t.val % 16 = 0) : (outsAt0 m c t.val t.isLt).2.2.2 = k0_pay36 (F := Ideal) lanes
    (k0_pay21 (blockLogits m c t) lanes (blockLow m c t) (blockFrom m c t))
    (k0_pay24 (blockLogits m c t) lanes (blockLow m c t) (blockFrom m c t)) (k0_pay35 (F := Ideal)) := by
  rw [outsAt0_A m c t h0]
  dsimp only
  frame_out

theorem left9_later (h0 : ¬ t.val % 16 = 0) : (outsAt0 m c t.val t.isLt).2.2.2 = k0_pay36 (F := Ideal) lanes
    (k0_pay21 (blockLogits m c t) lanes (blockLow m c t) (blockFrom m c t))
    (k0_pay24 (blockLogits m c t) lanes (blockLow m c t) (blockFrom m c t))
    (outsAt0 m c (t.val - 1) (Nat.lt_of_le_of_lt (Nat.sub_le _ _) t.isLt)).2.2.2 := by
  rw [outsAt0_B m c t h0]
  dsimp only
  frame_out

/-! ## A row of it -/

theorem weights_emb (k : Fin 2048) (q : Fin 128) : ((View.whole main_v4).slice (win0_4.rect t)).emb (ix2 k q) = ix2 k q := by
  have e0 : ((((View.whole main_v4).slice (win0_4.rect t)).emb (ix2 k q)) 0).val = k.val := by
    blk_simp [idx t]
    all_goals omega
  have e1 : ((((View.whole main_v4).slice (win0_4.rect t)).emb (ix2 k q)) 1).val = q.val := by
    blk_simp [idx t]
    all_goals omega
  funext a
  refine Fin.cases ?_ (fun a => ?_) a
  · exact Fin.ext e0
  · rw [Subsingleton.elim a 0]; exact Fin.ext e1

theorem weights_block (k : Fin 2048) (q : Fin 128) : (iblk m c 4 t : Vec Ideal S2048x128 .f32) (ix2 k q) = V m c main_v4 (ix2 k q) :=
  congrArg (V m c main_v4) (weights_emb t k q)

theorem bias_block (q : Fin 128) : (iblk m c 5 t : Vec Ideal S1x128 .f32) (ix2 0 q) = V m c main_v13 (ix2 0 q) := by
  unfold iblk
  show View.read (Elt Ideal) ((cfg0.win 5).blk t).view (V m c main_v13) (ix2 0 q) = V m c main_v13 (ix2 0 q)
  generalize V m c main_v13 = W
  blk_point [idx t]

theorem lanes_at (p : Fin 512) (q : Fin 128) : lanes (ix2 p q) = BitVec.ofNat 32 q.val := by
  pointwise []

section Row

variable (p : Fin 512) (r : Fin 8192) (hr : r.val = 512 * t.val + p.val)
include hr

theorem row_logits (hA : (args m c).Real) (q : Fin 128) : blockLogits m c t (ix2 p q) = (args m c).logits r q :=
  logit_at (iblk m c 0 t) (iblk m c 1 t) (iblk m c 2 t) (iblk m c 3 t) (iblk m c 4 t) (iblk m c 5 t) p
    (H := (args m c).row r) (W := column (args m c).wg (args m c).we) (B := bias (args m c).bg (args m c).be)
    (fun k => pay1_at m c t p k r hr) (fun k => hA.row r k) (fun k q => (weights_block m c t k q).trans (V_weights m c k q))
    (fun q k => hA.column q k) (fun q => (bias_block m c t q).trans (V_bias m c q)) q

end Row

end Cert.RouterVal

end
-- ==== Proof.RouterOut.lean ====
/- The routing of tokens: the kernel's results. -/
module

public import proofs.«01_k».proof.Proof.RouterBlk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RouterVal

open Cert.RouterIdeal Cert.RouterIdeal.Gen Cert.Route Cert.RouterRow

variable (m : (ℓ : Loc nD τ sig) → Buf (Elt Ideal) ℓ) (c : Dev nD)

/-! ## A row's experts, gates and marks -/

section Row

variable (v58 : FVec Ideal S512x128 .f32) (v59 : IVec S512x128 32) (v80 : FVec Ideal S512x1 .f32) (v84 : IVec S512x1 32)
  (v86 : IVec S512x128 1) (p : Fin 512) {L : Fin 128 → EReal} {g a b : Fin 8} (hL : ∀ q, v58 (ix2 p q) = L q)
  (hi : ∀ q : Fin 128, v59 (ix2 p q) = BitVec.ofNat 32 q.val) (hg : v84 (ix2 p 0) = BitVec.ofNat 32 (8 + 8 * g.val))
  (hlo : ∀ q : Fin 128, v86 (ix2 p q) = IntOp.cmpi .sge (BitVec.ofNat 32 q.val) (BitVec.ofNat 32 (8 + 8 * g.val)))
  (h : Picks L g a b)
include hL hi hg hlo h

theorem pay33_at (q : Fin 128) : k0_pay33 (k0_pay29 v59) (k0_pay30 (F := Ideal) v58 v59 v84 v86) (k0_pay31 v59)
      (k0_pay32 (F := Ideal) v58 v59 v84 v86) 0#32 (ix2 p q)
    = if q.val = 0 then BitVec.ofNat 32 (8 * g.val + a.val) else if q.val = 1 then BitVec.ofNat 32 (8 * g.val + b.val) else 0#32 := by
  pointwise [k0_pay33, k0_pay29, k0_pay31]
  rw [pay30_at v58 v59 v84 v86 p hL hi hg hlo h, pay32_at v58 v59 v84 v86 p hL hi hg hlo h, hi]
  refine (sel_eq (b := 0) (by omega) (by omega) _ _).trans (if_congr Iff.rfl rfl ?_)
  exact sel_eq (b := 1) (by omega) (by omega) _ _

theorem pay34_at (hw : v80 (ix2 p 0) = weight L g) (q : Fin 128) : k0_pay34 v59 (k0_pay27 (F := Ideal) v58 v59 v80 v84 v86)
    (k0_pay28 (F := Ideal) v58 v59 v80 v84 v86) (ix2 p q) = gate L g a b q.val := by
  have e (k : ℕ) : gate L g a b k = if k = 0 then gate L g a b 0 else if k = 1 then gate L g a b 1 else 0 := by
    match k with
    | 0 => rfl
    | 1 => rfl
    | k + 2 => rfl
  rw [e]
  pointwise [k0_pay34]
  rw [pay27_at v58 v59 v80 v84 v86 p hL hi hg hlo h hw, pay28_at v58 v59 v80 v84 v86 p hL hi hg hlo h hw, hi]
  refine (sel_eq (b := 0) (by omega) (by omega) _ _).trans (if_congr Iff.rfl rfl ?_)
  exact sel_eq (b := 1) (by omega) (by omega) _ _

end Row

theorem mark {q k l : ℕ} (hq : q < 2147483648) (hk : k < 2147483648) (hl : l < 2147483648) (h : k ≠ l) :
    (((BitVec.setWidth 32 (IntOp.ori (IntOp.cmpi .eq (BitVec.ofNat 32 q) (BitVec.ofNat 32 k))
      (IntOp.cmpi .eq (BitVec.ofNat 32 q) (BitVec.ofNat 32 l)))).toInt : ℝ) : EReal)
      = (if q = k then 1 else 0) + if q = l then 1 else 0 := by
  unfold IntOp.ori IntOp.cmpi
  dsimp only
  have e {u v : ℕ} (hu : u < 2147483648) (hv : v < 2147483648) : (BitVec.ofNat 32 u == BitVec.ofNat 32 v) = decide (u = v) := by
    by_cases huv : u = v
    · rw [huv]; simp
    · rw [decide_eq_false huv, beq_eq_false_iff_ne]
      exact fun x => huv ((word_inj hu hv).1 x)
  rw [e hq hk, e hq hl]
  by_cases h1 : q = k
  · rw [decide_eq_true h1, decide_eq_false (fun x => h (h1.symm.trans x)), if_pos h1, if_neg fun x => h (h1.symm.trans x), add_zero]
    show (((1 : ℤ) : ℝ) : EReal) = 1
    simp
  · by_cases h2 : q = l
    · rw [decide_eq_false h1, decide_eq_true h2, if_neg h1, if_pos h2, zero_add]
      show (((1 : ℤ) : ℝ) : EReal) = 1
      simp
    · rw [decide_eq_false h1, decide_eq_false h2, if_neg h1, if_neg h2, add_zero]
      show (((0 : ℤ) : ℝ) : EReal) = 0
      simp

/-! ## The blocks -/

theorem N_eq : cfg0.N = 16 := by decide +kernel

section Block

variable (t : Fin cfg0.N) (p : Fin 512) (r : Fin 8192) (hr : r.val = 512 * t.val + p.val) (hA : (args m c).Real)
include hr hA

theorem row_weight : blockWeight m c t (ix2 p 0) = weight ((args m c).logits r) ((args m c).grp r) :=
  pay16_at _ _ _ _ _ _ _ _ p (row_logits m c t p r hr hA) (hA.picks r)

theorem row_low : blockLow m c t (ix2 p 0) = BitVec.ofNat 32 (8 + 8 * ((args m c).grp r).val) :=
  pay17_at _ _ _ _ _ _ _ _ p (row_logits m c t p r hr hA) (hA.picks r)

theorem row_from (q : Fin 128) : blockFrom m c t (ix2 p q)
    = IntOp.cmpi .sge (BitVec.ofNat 32 q.val) (BitVec.ofNat 32 (8 + 8 * ((args m c).grp r).val)) :=
  pay18_at _ _ _ _ _ _ _ _ p (row_logits m c t p r hr hA) (hA.picks r) q

end Block

/-! ## The results -/

theorem final_norm : (dats m 0 c).arrAt 6 (cfgs 0).N = (args m c).norm := by
  refine (dats m 0 c).arrAt_eq_of_covers 6 _ (by decide +kernel) fun t _ y => ?_
  blk_simp
  rw [after0_6, left6]
  have hN := N_eq
  have ht := t.isLt
  idx_vars y
  unfold Inputs.norm
  have e0 : ((((View.whole main_v14_0).slice (win0_6.rect t)).emb (ix2 y0 y1)) 0).val = 512 * t.val + y0.val := by
    blk_simp [idx t]
    all_goals omega
  have e1 : ((((View.whole main_v14_0).slice (win0_6.rect t)).emb (ix2 y0 y1)) 1).val = y1.val := by
    blk_simp [idx t]
    all_goals omega
  pointwise [k0_pay2]
  exact (pay1_at m c t y0 y1 _ e0).trans (congrArg ((args m c).row _) (Fin.ext e1.symm))

theorem final_eids (hA : (args m c).Real) : (dats m 0 c).arrAt 7 (cfgs 0).N = (args m c).eids := by
  refine (dats m 0 c).arrAt_eq_of_covers 7 _ (by decide +kernel) fun t _ y => ?_
  blk_simp
  rw [after0_7, left7]
  have hN := N_eq
  have ht := t.isLt
  idx_vars y
  unfold Inputs.eids
  have e0 : ((((View.whole main_v14_1).slice (win0_7.rect t)).emb (ix2 y0 y1)) 0).val = 512 * t.val + y0.val := by
    blk_simp [idx t]
    all_goals omega
  have e1 : ((((View.whole main_v14_1).slice (win0_7.rect t)).emb (ix2 y0 y1)) 1).val = y1.val := by
    blk_simp [idx t]
    all_goals omega
  refine (pay33_at _ _ _ _ y0 (row_logits m c t y0 _ e0 hA) (lanes_at y0) (row_low m c t y0 _ e0 hA)
    (row_from m c t y0 _ e0 hA) (hA.picks _) y1).trans ?_
  rw [e1]

theorem final_gates (hA : (args m c).Real) : (dats m 0 c).arrAt 8 (cfgs 0).N = (args m c).gates := by
  refine (dats m 0 c).arrAt_eq_of_covers 8 _ (by decide +kernel) fun t _ y => ?_
  blk_simp
  rw [after0_8, left8]
  have hN := N_eq
  have ht := t.isLt
  idx_vars y
  unfold Inputs.gates
  have e0 : ((((View.whole main_v14_2).slice (win0_8.rect t)).emb (ix2 y0 y1)) 0).val = 512 * t.val + y0.val := by
    blk_simp [idx t]
    all_goals omega
  have e1 : ((((View.whole main_v14_2).slice (win0_8.rect t)).emb (ix2 y0 y1)) 1).val = y1.val := by
    blk_simp [idx t]
    all_goals omega
  refine (pay34_at _ _ _ _ _ y0 (row_logits m c t y0 _ e0 hA) (lanes_at y0) (row_low m c t y0 _ e0 hA)
    (row_from m c t y0 _ e0 hA) (hA.picks _) (row_weight m c t y0 _ e0 hA) y1).trans ?_
  rw [e1]

/-! ## The counts -/

/-- Whether a row's token was given to the expert, by the row's number. -/
def givenAt (A : Inputs) (q n : ℕ) : EReal := if h : n < 8192 then A.given q ⟨n, h⟩ else 0

theorem add_block (hA : (args m c).Real) (t : Fin cfg0.N) (prev : Vec Ideal S1x128 .f32) (q : Fin 128) :
    k0_pay36 (F := Ideal) lanes (k0_pay21 (blockLogits m c t) lanes (blockLow m c t) (blockFrom m c t))
      (k0_pay24 (blockLogits m c t) lanes (blockLow m c t) (blockFrom m c t)) prev (ix2 0 q)
      = prev (ix2 0 q) + ∑ n ∈ Finset.range 512, givenAt (args m c) q.val (512 * t.val + n) := by
  have hN := N_eq
  have ht := t.isLt
  pointwise [k0_pay36]
  rw [Finset.sum_range]
  refine congrArg (prev (ix2 0 q) + ·) (Finset.sum_congr rfl fun p _ => ?_)
  have hr : 512 * t.val + p.val < 8192 := by omega
  have e21 := pay21_at _ _ _ _ p (row_logits m c t p ⟨_, hr⟩ rfl hA) (lanes_at p) (row_low m c t p ⟨_, hr⟩ rfl hA)
    (row_from m c t p ⟨_, hr⟩ rfl hA) (hA.picks _)
  have e24 := pay24_at _ _ _ _ p (row_logits m c t p ⟨_, hr⟩ rfl hA) (lanes_at p) (row_low m c t p ⟨_, hr⟩ rfl hA)
    (row_from m c t p ⟨_, hr⟩ rfl hA) (hA.picks _)
  have hne := (hA.picks ⟨_, hr⟩).two.mem
  rw [e21, e24, less8, less8]
  unfold givenAt
  rw [dif_pos hr]
  exact mark (by omega) (by omega) (by omega) fun e => hne (Fin.ext (by omega))

theorem counts_at (hA : (args m c).Real) : ∀ (n : ℕ) (hn : n < cfg0.N) (q : Fin 128),
    (outsAt0 m c n hn).2.2.2 (ix2 0 q) = ∑ i ∈ Finset.range (512 * (n + 1)), givenAt (args m c) q.val i
  | 0, hn, q => by
    rw [left9_first m c ⟨0, hn⟩ rfl, add_block m c hA]
    have z : (k0_pay35 (F := Ideal)) (ix2 0 q) = 0 := by pointwise [k0_pay35]
    rw [z, zero_add]
    simp only [Nat.mul_zero, Nat.zero_add, Nat.mul_one]
  | n + 1, hn, q => by
    have hN := N_eq
    rw [left9_later m c ⟨n + 1, hn⟩ (by dsimp only; omega), add_block m c hA]
    refine (congrArg (· + _) (counts_at hA n (by omega) q)).trans ?_
    rw [show 512 * (n + 1 + 1) = 512 * (n + 1) + 512 from by omega, Finset.sum_range_add]

theorem flush9_last : ∀ t : Fin cfg0.N, t.val ≠ 15 → (cfg0.win 9).flush t = false := by decide +kernel

theorem final_counts (hA : (args m c).Real) : (dats m 0 c).arrAt 9 (cfgs 0).N = (args m c).counts := by
  refine (dats m 0 c).arrAt_eq_of_covers 9 _ (by decide +kernel) fun t hf y => ?_
  blk_simp
  rw [after0_9]
  have h15 : t.val = 15 := by
    by_contra h
    exact Bool.false_ne_true ((flush9_last t h).symm.trans hf)
  have hN := N_eq
  have ht := t.isLt
  idx_vars y
  unfold Inputs.counts
  have e1 : ((((View.whole main_v14_3).slice (win0_9.rect t)).emb (ix2 y0 y1)) 1).val = y1.val := by
    blk_simp [idx t]
    all_goals omega
  rw [Subsingleton.elim y0 0] at e1 ⊢
  refine (counts_at m c hA t.val t.isLt y1).trans ?_
  rw [e1, show 512 * (t.val + 1) = 8192 from by omega, Finset.sum_range]
  exact Finset.sum_congr rfl fun r _ => dif_pos r.isLt

end Cert.RouterVal

end
-- ==== Proof.RouterRef.lean ====
/- The routing of tokens: the reference's results. -/
module

public import proofs.«01_k».proof.Proof.RouterSpec
public import proofs.«01_k».proof.Proof.Gen.RefRouterIdeal
public import Idealize.ShloMosaic.Lib.Claim

@[expose] public section

set_option maxRecDepth 16384

noncomputable section

open Idealize.ShloMosaic Idealize.ShloMosaic.TcCoe Idealize.SL.Sem

namespace Cert.RouterRef

open Cert.RefRouterIdeal Cert.RefRouterIdeal.Gen Cert.Route

/-! ## Sorting and gathering at an index -/

theorem along_at (r : Fin 8192) (k q : Fin 8) : (ix2 r k : S8192x8.Idx).along 1 q = ix2 r q := by
  funext a
  refine Fin.cases ?_ (fun a => ?_) a
  · rfl
  · rw [Subsingleton.elim a 0]; rfl

theorem above (x y : EReal) : ((FloatOps.cmpfTotal (F := Ideal) (φ := .f32) .gt x y : BitVec 1) == 1#1) = decide (y < x) := by
  show (BitVec.ofBool (decide (y < x)) == 1#1) = _
  by_cases h : y < x <;> simp [h]

theorem sort_at (x : FVec Ideal S8192x8 .f32) (y : IVec S8192x8 32) (r : Fin 8192) (k : Fin 8) :
    sortedFrom (fun k' k'' => (FloatOps.cmpfTotal (F := Ideal) (φ := .f32) .gt (x ((ix2 r k : S8192x8.Idx).along 1 k'))
      (x ((ix2 r k : S8192x8.Idx).along 1 k'')) : BitVec 1) == 1#1) k = source (fun q => x (ix2 r q)) k := by
  unfold source
  refine congrFun (congrArg sortedFrom (funext fun a => funext fun b => ?_)) k
  rw [above, along_at, along_at]

theorem topK_index {n : ℕ} (hn : n ≤ 8) (h : S8192x8.Slices (fun _ => 0) ⟨2, ![8192, n]⟩) (x : FVec Ideal S8192x8 .f32) (r : Fin 8192)
    (k : Fin n) : (Host.topK ⟨2, ![8192, n]⟩ 1 (FloatOps.cmpfTotal (F := Ideal) (φ := .f32) .gt) x h).2 (ix2 r k)
      = BitVec.ofNat 32 (source (fun q => x (ix2 r q)) ⟨k.val, by omega⟩).val := by
  rw [← sort_at x (fun _ => 0#32) r ⟨k.val, by omega⟩]
  unfold Host.topK Host.sort2 extractStridedSlice
  dsimp only
  have e : (fun a : Fin S8192x8.rank => (⟨0 + ((ix2 r k : (⟨2, ![8192, n]⟩ : Shape).Idx) (a.cast h.1.symm)).val,
      Nat.lt_of_lt_of_le (Nat.add_lt_add_left ((ix2 r k : (⟨2, ![8192, n]⟩ : Shape).Idx) _).isLt _) (h.2 a)⟩ : Fin (S8192x8.size a)))
        = (ix2 r ⟨k.val, by omega⟩ : S8192x8.Idx) := by
    funext a
    refine Fin.cases ?_ (fun a => ?_) a
    · exact Fin.ext (Nat.zero_add _)
    · rw [Subsingleton.elim a 0]; exact Fin.ext (Nat.zero_add _)
  rw [e]
  rfl

theorem topK_value {n : ℕ} (hn : n ≤ 8) (h : S8192x8.Slices (fun _ => 0) ⟨2, ![8192, n]⟩) (x : FVec Ideal S8192x8 .f32) (r : Fin 8192)
    (k : Fin n) : (Host.topK ⟨2, ![8192, n]⟩ 1 (FloatOps.cmpfTotal (F := Ideal) (φ := .f32) .gt) x h).1 (ix2 r k)
      = x (ix2 r (source (fun q => x (ix2 r q)) ⟨k.val, by omega⟩)) := by
  refine Eq.trans ?_ (congrArg x (along_at r ⟨k.val, by omega⟩ _))
  rw [← sort_at x (fun _ => 0#32) r ⟨k.val, by omega⟩]
  unfold Host.topK Host.sort2 extractStridedSlice
  dsimp only
  have e : (fun a : Fin S8192x8.rank => (⟨0 + ((ix2 r k : (⟨2, ![8192, n]⟩ : Shape).Idx) (a.cast h.1.symm)).val,
      Nat.lt_of_lt_of_le (Nat.add_lt_add_left ((ix2 r k : (⟨2, ![8192, n]⟩ : Shape).Idx) _).isLt _) (h.2 a)⟩ : Fin (S8192x8.size a)))
        = (ix2 r ⟨k.val, by omega⟩ : S8192x8.Idx) := by
    funext a
    refine Fin.cases ?_ (fun a => ?_) a
    · exact Fin.ext (Nat.zero_add _)
    · rw [Subsingleton.elim a 0]; exact Fin.ext (Nat.zero_add _)
  rw [e]
  rfl

theorem clamp (g : Fin 8) : min (BitVec.ofNat 32 g.val).toInt.toNat 7 = g.val := by
  rw [toInt_word g.val (by omega)]
  omega

/-- One element of each row, -/
theorem gather_one (x : FVec Ideal S8192x8 .f32) (idx : IVec S8192x1x1 32) (r : Fin 8192) (g : Fin 8)
    (h : ∀ i, (i 0).val = r.val → idx i = BitVec.ofNat 32 g.val) :
    Host.gather gather_S8192x8_S8192x1x1_S8192x1_n_1_0_0_1_2_11 x idx (ix2 r 0) = x (ix2 r g) := by
  have s1 : gather_S8192x8_S8192x1x1_S8192x1_n_1_0_0_1_2_11.start (ix2 r 0) idx 1 = g.val := by
    refine (show _ = min (idx _).toInt.toNat 7 from rfl).trans ?_
    rw [h _ rfl, clamp]
  refine congrArg x (funext fun a => Fin.ext ?_)
  refine Fin.cases ?_ (fun a => ?_) a
  · show 0 + r.val + 0 = r.val
    omega
  · rw [Subsingleton.elim a 0]
    show gather_S8192x8_S8192x1x1_S8192x1_n_1_0_0_1_2_11.start (ix2 r 0) idx 1 + 0 + 0 = g.val
    exact s1

/-- and one row of each table. -/
theorem gather_row (x : FVec Ideal S8192x8x8 .f32) (idx : IVec S8192x1x1 32) (r : Fin 8192) (g q : Fin 8)
    (h : ∀ i, (i 0).val = r.val → idx i = BitVec.ofNat 32 g.val) :
    Host.gather gather_S8192x8x8_S8192x1x1_S8192x1x8_2_1_0_0_1_2_118 x idx (ix3 r 0 q) = x (ix3 r g q) := by
  have s1 : gather_S8192x8x8_S8192x1x1_S8192x1x8_2_1_0_0_1_2_118.start (ix3 r 0 q) idx 1 = g.val := by
    refine (show _ = min (idx _).toInt.toNat 7 from rfl).trans ?_
    rw [h _ rfl, clamp]
  refine congrArg x (funext fun a => Fin.ext ?_)
  match a with
  | ⟨0, _⟩ =>
    show 0 + r.val + 0 = r.val
    omega
  | ⟨1, _⟩ =>
    show gather_S8192x8x8_S8192x1x1_S8192x1x8_2_1_0_0_1_2_118.start (ix3 r 0 q) idx 1 + 0 + 0 = g.val
    exact s1
  | ⟨2, _⟩ =>
    show 0 + 0 + q.val = q.val
    omega

/-! ## The stages -/

/-- The norm, -/
def normed (x : FVec Ideal S8192x2048 .f32) (g sc sh : FVec Ideal S1x2048 .f32) : FVec Ideal S8192x2048 .f32 :=
  addf (mulf (mulf (mulf x (broadcastInDim S8192x2048 ![0, 1] bcast_S8192x1_S8192x2048_0_1
      (Host.rsqrt (addf (Host.divf (broadcastInDim S8192x1 ![0] bcast_S8192_S8192x1_0
        (Host.reduceAdd (mulf x x) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
      (broadcastInDim S8192x2048 ![0, 1] bcast_S1x2048_S8192x2048_0_1 g))
      (broadcastInDim S8192x2048 ![0, 1] bcast_S1x2048_S8192x2048_0_1
        (addf (broadcastInDim S1x2048 ![] bcast_S_S1x2048 (constant S_ .f32 0x3F800000#32)) sc)))
      (broadcastInDim S8192x2048 ![0, 1] bcast_S1x2048_S8192x2048_0_1 sh)

/-- the groups' logits, -/
def groups (h : FVec Ideal S8192x2048 .f32) (w : FVec Ideal S2048x8 .f32) (b : FVec Ideal S8 .f32) : FVec Ideal S8192x8 .f32 :=
  addf (Host.dotGeneral dot_S8192x2048_S2048x8_S8192x8_1_0_0_1_n_n none h w)
    (broadcastInDim S8192x8 ![0, 1] bcast_S1x8_S8192x8_0_1 (broadcastInDim S1x8 ![1] bcast_S8_S1x8_1 b))

/-- the group, -/
def top (l : FVec Ideal S8192x8 .f32) : IVec S8192 32 :=
  shapeCast S8192 ((Host.topK S8192x1 1 (FloatOps.cmpfTotal .gt) l sliceFits_S8192x8_S8192x1).2) shapeCasts_S8192x1_S8192

/-- its probability, -/
def chance (l : FVec Ideal S8192x8 .f32) : FVec Ideal S8192x1 .f32 :=
  Host.gather gather_S8192x8_S8192x1x1_S8192x1_n_1_0_0_1_2_11
    (Host.divf (Host.exp (subf l (broadcastInDim S8192x8 ![0, 1] bcast_S8192x1_S8192x8_0_1
      (broadcastInDim S8192x1 ![0] bcast_S8192_S8192x1_0 (maximumf (broadcastInDim S8192 ![] bcast_S_S8192 (constant S_ .f32 0xFF800000#32))
        (Host.reduce FloatOps.maximumf l (constant S_ .f32 0xFF800000#32) reducesTo_S8192x8_S8192_d1 h_S_))))))
      (broadcastInDim S8192x8 ![0, 1] bcast_S8192x1_S8192x8_0_1 (broadcastInDim S8192x1 ![0] bcast_S8192_S8192x1_0
        (Host.reduceAdd (Host.exp (subf l (broadcastInDim S8192x8 ![0, 1] bcast_S8192x1_S8192x8_0_1
          (broadcastInDim S8192x1 ![0] bcast_S8192_S8192x1_0 (maximumf (broadcastInDim S8192 ![] bcast_S_S8192 (constant S_ .f32 0xFF800000#32))
            (Host.reduce FloatOps.maximumf l (constant S_ .f32 0xFF800000#32) reducesTo_S8192x8_S8192_d1 h_S_))))))
          (constant S_ .f32 0x00000000#32) reducesTo_S8192x8_S8192_d1 h_S_))))
    (shapeCast S8192x1x1 (select (cmpi .slt (broadcastInDim S8192x1 ![0] bcast_S8192_S8192x1_0 (top l))
        (broadcastInDim S8192x1 ![] bcast_S_S8192x1 (constantI S_ 32 0#32)))
      (addi (broadcastInDim S8192x1 ![0] bcast_S8192_S8192x1_0 (top l)) (broadcastInDim S8192x1 ![] bcast_S_S8192x1 (constantI S_ 32 8#32)))
      (broadcastInDim S8192x1 ![0] bcast_S8192_S8192x1_0 (top l))) shapeCasts_S8192x1_S8192x1x1)

/-- the logits of its experts, -/
def experts (h : FVec Ideal S8192x2048 .f32) (w : FVec Ideal S2048x64 .f32) (b : FVec Ideal S64 .f32) (t : IVec S8192 32) :
    FVec Ideal S8192x8 .f32 :=
  shapeCast S8192x8 (Host.gather gather_S8192x8x8_S8192x1x1_S8192x1x8_2_1_0_0_1_2_118
    (shapeCast S8192x8x8 (addf (Host.dotGeneral dot_S8192x2048_S2048x64_S8192x64_1_0_0_1_n_n none h w)
      (broadcastInDim S8192x64 ![0, 1] bcast_S1x64_S8192x64_0_1 (broadcastInDim S1x64 ![1] bcast_S64_S1x64_1 b))) shapeCasts_S8192x64_S8192x8x8)
    (select (cmpi .slt (broadcastInDim S8192x1x1 ![0] bcast_S8192_S8192x1x1_0 t)
        (broadcastInDim S8192x1x1 ![] bcast_S_S8192x1x1 (constantI S_ 32 0#32)))
      (addi (broadcastInDim S8192x1x1 ![0] bcast_S8192_S8192x1x1_0 t) (broadcastInDim S8192x1x1 ![] bcast_S_S8192x1x1 (constantI S_ 32 8#32)))
      (broadcastInDim S8192x1x1 ![0] bcast_S8192_S8192x1x1_0 t))) shapeCasts_S8192x1x8_S8192x8

/-- the shares of the two first, -/
def shares (v : FVec Ideal S8192x2 .f32) : FVec Ideal S8192x2 .f32 :=
  Host.divf (Host.exp (subf v (broadcastInDim S8192x2 ![0, 1] bcast_S8192x1_S8192x2_0_1
      (broadcastInDim S8192x1 ![0] bcast_S8192_S8192x1_0 (maximumf (broadcastInDim S8192 ![] bcast_S_S8192 (constant S_ .f32 0xFF800000#32))
        (Host.reduce FloatOps.maximumf v (constant S_ .f32 0xFF800000#32) reducesTo_S8192x2_S8192_d1 h_S_))))))
    (broadcastInDim S8192x2 ![0, 1] bcast_S8192x1_S8192x2_0_1 (broadcastInDim S8192x1 ![0] bcast_S8192_S8192x1_0
      (Host.reduceAdd (Host.exp (subf v (broadcastInDim S8192x2 ![0, 1] bcast_S8192x1_S8192x2_0_1
        (broadcastInDim S8192x1 ![0] bcast_S8192_S8192x1_0 (maximumf (broadcastInDim S8192 ![] bcast_S_S8192 (constant S_ .f32 0xFF800000#32))
          (Host.reduce FloatOps.maximumf v (constant S_ .f32 0xFF800000#32) reducesTo_S8192x2_S8192_d1 h_S_))))))
        (constant S_ .f32 0x00000000#32) reducesTo_S8192x2_S8192_d1 h_S_)))

/-- and their numbers. -/
def numbers (t : IVec S8192 32) (l : FVec Ideal S8192x8 .f32) : IVec S8192x2 32 :=
  addi (broadcastInDim S8192x2 ![0, 1] bcast_S8192x1_S8192x2_0_1 (muli (broadcastInDim S8192x1 ![0] bcast_S8192_S8192x1_0 t)
      (broadcastInDim S8192x1 ![] bcast_S_S8192x1 (constantI S_ 32 8#32))))
    ((Host.topK S8192x2 1 (FloatOps.cmpfTotal .gt) l sliceFits_S8192x8_S8192x2).2)

def tally (e : IVec S8192x2 32) : FVec Ideal S64 .f32 :=
  Host.reduceAdd (uitofp .f32 (cmpi .eq
      (broadcastInDim S8192x2x64 ![0, 1, 2] bcast_S8192x2x1_S8192x2x64_0_1_2 (broadcastInDim S8192x2x1 ![0, 1] bcast_S8192x2_S8192x2x1_0_1 e))
      (broadcastInDim S8192x2x64 ![0, 1, 2] bcast_S1x1x64_S8192x2x64_0_1_2 (broadcastInDim S1x1x64 ![2] bcast_S64_S1x1x64_2 (iotaInDim S64 32 0)))))
    (constant S_ .f32 0x00000000#32) reducesTo_S8192x2x64_S64_d0_1 h_S_

/-! ## The stages at an index -/

theorem word_num {a b : ℕ} (ha : a < 2147483648) (hb : b < 2147483648) :
    (((IntOp.cmpi .eq (BitVec.ofNat 32 a) (BitVec.ofNat 32 b) : BitVec 1).toNat : ℝ) : EReal) = if a = b then 1 else 0 := by
  unfold IntOp.cmpi
  dsimp only
  by_cases h : a = b
  · rw [if_pos h, h]
    simp
  · rw [if_neg h, show (BitVec.ofNat 32 a == BitVec.ofNat 32 b) = false from beq_eq_false_iff_ne.2 fun e => h ((word_inj ha hb).1 e)]
    simp

theorem fold_top {n : ℕ} (f : Fin n → EReal) (i : Fin n) (h : ∀ j, f j ≤ f i) :
    max (Ideal.ofBits FTy.f32 4286578688#32) (Finset.univ.fold max (Ideal.ofBits FTy.f32 4286578688#32) f) = f i := by
  rw [show Ideal.ofBits FTy.f32 4286578688#32 = (⊥ : EReal) from by simp [Ideal.ofBits, Ideal.ieee],
    row_max f ⊥ i bot_le h]
  exact max_eq_right bot_le

theorem exp_zero : Ideal.exp 0 = 1 := by
  show ((Real.exp 0 : ℝ) : EReal) = 1
  rw [Real.exp_zero, EReal.coe_one]

theorem top_at (l : FVec Ideal S8192x8 .f32) (r : Fin 8192) :
    top l (ix1 r) = BitVec.ofNat 32 (source (fun q => l (ix2 r q)) 0).val := by
  unfold top
  pointwise []
  exact topK_index (n := 1) (by omega) sliceFits_S8192x8_S8192x1 l r 0

theorem nonneg_word {α : Type} (g : Fin 8) (x y : α) : Scalar.select (IntOp.cmpi .slt (BitVec.ofNat 32 g.val) 0#32) x y = y :=
  (sel_slt (b := 0) (by omega) (by omega) x y).trans (if_neg (by omega))

theorem chance_at (l : FVec Ideal S8192x8 .f32) (r : Fin 8192) (hn : ∀ q, Num (l (ix2 r q))) :
    chance l (ix2 r 0) = Ideal.div 1 (∑ j, Ideal.exp (l (ix2 r j) - l (ix2 r (source (fun q => l (ix2 r q)) 0)))) := by
  have hf := source_first (fun q => l (ix2 r q)) 0 rfl
  unfold chance
  refine (gather_one _ _ r (source (fun q => l (ix2 r q)) 0) fun i hi => ?_).trans ?_
  · idx_vars i
    pointwise []
    rw [show i0 = r from Fin.ext hi, top_at]
    exact nonneg_word _ _ _
  · pointwise []
    rw [fold_top (fun q => l (ix2 r q)) _ fun j => hf.le j trivial, (hn _).sub_self, exp_zero]

theorem experts_at (h : FVec Ideal S8192x2048 .f32) (w : FVec Ideal S2048x64 .f32) (b : FVec Ideal S64 .f32) (t : IVec S8192 32)
    (r : Fin 8192) (g : Fin 8) (ht : t (ix1 r) = BitVec.ofNat 32 g.val) (q : Fin 8) :
    experts h w b t (ix2 r q) = Dense.dot (fun k => h (ix2 r k)) (fun k => w (ix2 k ⟨8 * g.val + q.val, by omega⟩))
      + b (ix1 ⟨8 * g.val + q.val, by omega⟩) := by
  unfold experts
  have e := gather_row (shapeCast S8192x8x8 (addf (Host.dotGeneral dot_S8192x2048_S2048x64_S8192x64_1_0_0_1_n_n none h w)
      (broadcastInDim S8192x64 ![0, 1] bcast_S1x64_S8192x64_0_1 (broadcastInDim S1x64 ![1] bcast_S64_S1x64_1 b))) shapeCasts_S8192x64_S8192x8x8)
    (select (cmpi .slt (broadcastInDim S8192x1x1 ![0] bcast_S8192_S8192x1x1_0 t)
        (broadcastInDim S8192x1x1 ![] bcast_S_S8192x1x1 (constantI S_ 32 0#32)))
      (addi (broadcastInDim S8192x1x1 ![0] bcast_S8192_S8192x1x1_0 t) (broadcastInDim S8192x1x1 ![] bcast_S_S8192x1x1 (constantI S_ 32 8#32)))
      (broadcastInDim S8192x1x1 ![0] bcast_S8192_S8192x1x1_0 t)) r g q fun i hi => by
        idx_vars i
        pointwise []
        rw [show i0 = r from Fin.ext hi, ht]
        exact nonneg_word _ _ _
  generalize Host.gather gather_S8192x8x8_S8192x1x1_S8192x1x8_2_1_0_0_1_2_118 _ _ = G at e ⊢
  pointwise []
  refine e.trans ?_
  unfold Dense.dot
  pointwise []
  have e' : (⟨g.val * 8 + q.val, by omega⟩ : Fin 64) = ⟨8 * g.val + q.val, by omega⟩ := Fin.ext (by dsimp only; omega)
  rw [e']

theorem shares_at (v : FVec Ideal S8192x2 .f32) (r : Fin 8192) (hn : Num (v (ix2 r 0))) (hle : v (ix2 r 1) ≤ v (ix2 r 0)) :
    shares v (ix2 r 0) = Ideal.div 1 (1 + Ideal.exp (v (ix2 r 1) - v (ix2 r 0)))
      ∧ shares v (ix2 r 1) = Ideal.div (Ideal.exp (v (ix2 r 1) - v (ix2 r 0))) (1 + Ideal.exp (v (ix2 r 1) - v (ix2 r 0))) := by
  have hf : ∀ j : Fin 2, v (ix2 r j) ≤ v (ix2 r 0) := fun j => by
    match j with
    | 0 => exact le_refl _
    | 1 => exact hle
  unfold shares
  constructor
  · pointwise []
    rw [fold_top (fun q => v (ix2 r q)) 0 hf, Fin.sum_univ_two, hn.sub_self, exp_zero]
  · pointwise []
    rw [fold_top (fun q => v (ix2 r q)) 0 hf, Fin.sum_univ_two, hn.sub_self, exp_zero]

theorem numbers_at (t : IVec S8192 32) (l : FVec Ideal S8192x8 .f32) (r : Fin 8192) (g : Fin 8) (ht : t (ix1 r) = BitVec.ofNat 32 g.val)
    (k : Fin 2) : numbers t l (ix2 r k) = BitVec.ofNat 32 (8 * g.val + (source (fun q => l (ix2 r q)) ⟨k.val, by omega⟩).val) := by
  unfold numbers
  pointwise []
  refine (congrArg₂ IntOp.addi (congrArg (fun w => IntOp.muli w 8#32) ht)
    (topK_index (n := 2) (by omega) sliceFits_S8192x8_S8192x2 l r k)).trans ?_
  unfold IntOp.addi IntOp.muli
  rw [BitVec.ofNat_add, Nat.mul_comm, BitVec.ofNat_mul]

/-- A sum over the first two axes. -/
theorem sum_two (x : FVec Ideal S8192x2x64 .f32) (q : Fin 64) :
    Ideal.hostReduceAdd reducesTo_S8192x2x64_S64_d0_1 x 0 (ix1 q) = ∑ r : Fin 8192, ∑ k : Fin 2, x (ix3 r k q) := by
  have hd : ∀ (r : Fin 8192) (k : Fin 2) (c : Fin 64), reducesTo_S8192x2x64_S64_d0_1.drop (ix3 r k c : S8192x2x64.Idx) = ix1 q ↔ c = q :=
    fun r k c => by
      have : reducesTo_S8192x2x64_S64_d0_1.drop (ix3 r k c : S8192x2x64.Idx) = ix1 c := by
        funext a
        rw [Subsingleton.elim a 0]
        rfl
      rw [this]
      exact ⟨fun e => congrFun e 0, fun e => by rw [e]⟩
  unfold Ideal.hostReduceAdd
  rw [zero_add, Finset.sum_filter, sum_idx3]
  refine Finset.sum_congr rfl fun r _ => Finset.sum_congr rfl fun k _ => ?_
  simp only [hd]
  exact (Finset.sum_ite_eq' Finset.univ q _).trans (if_pos (Finset.mem_univ q))

theorem tally_at (e : IVec S8192x2 32) (q : Fin 64) (n : Fin 8192 → Fin 2 → ℕ) (hn : ∀ r k, n r k < 2147483648)
    (he : ∀ r k, e (ix2 r k) = BitVec.ofNat 32 (n r k)) :
    tally e (ix1 q) = ∑ r, ((if q.val = n r 0 then 1 else 0) + if q.val = n r 1 then 1 else 0) := by
  unfold tally
  pointwise []
  rw [sum_two]
  refine Finset.sum_congr rfl fun r _ => ?_
  rw [Fin.sum_univ_two]
  pointwise []
  rw [he, he]
  refine congrArg₂ (· + ·) ?_ ?_
  · exact (word_num (hn r 0) (by omega)).trans (if_congr eq_comm rfl rfl)
  · exact (word_num (hn r 1) (by omega)).trans (if_congr eq_comm rfl rfl)

end Cert.RouterRef

end
-- ==== Proof.RouterRefVal.lean ====
/- The routing of tokens: the reference's results in plain terms. -/
module

public import proofs.«01_k».proof.Proof.RouterRef
public import proofs.«01_k».proof.Proof.Gen.RefRouterIdeal.Run

@[expose] public section

set_option maxRecDepth 16384

noncomputable section

open Idealize.ShloMosaic Idealize.ShloMosaic.TcCoe Idealize.SL.Sem

namespace Cert.RouterRef

open Cert.RefRouterIdeal Cert.RefRouterIdeal.Gen Cert.Route

variable (A : Inputs)

/-- The stages of the arguments. -/
def H : FVec Ideal S8192x2048 .f32 := normed A.x A.g A.sc A.sh
def G : FVec Ideal S8192x8 .f32 := groups (H A) A.wg A.bg
def E : FVec Ideal S8192x8 .f32 := experts (H A) A.we A.be (top (G A))
def V2 : FVec Ideal S8192x2 .f32 := (Host.topK S8192x2 1 (FloatOps.cmpfTotal .gt) (E A) sliceFits_S8192x8_S8192x2).1

theorem H_at (r : Fin 8192) (k : Fin 2048) : H A (ix2 r k) = A.row r k := by
  unfold H normed Inputs.row hmix Dense.mixed
  pointwise []

theorem G_at (r : Fin 8192) (j : Fin 8) : G A (ix2 r j) = A.logits r (glane j) := by
  have hc : ∀ k, column A.wg A.we (glane j) k = A.wg (ix2 k j) := fun k => dif_pos j.isLt
  have hb : bias A.bg A.be (glane j) = A.bg (ix1 j) := dif_pos j.isLt
  unfold Inputs.logits Dense.dot
  rw [hb]
  simp only [hc]
  unfold G groups
  have hH := H_at A
  generalize H A = h at hH ⊢
  pointwise []
  simp only [hH]

theorem top_G (r : Fin 8192) : top (G A) (ix1 r) = BitVec.ofNat 32 (A.grp r).val := by
  rw [top_at]
  simp only [G_at]
  rfl

theorem E_at (r : Fin 8192) (j : Fin 8) : E A (ix2 r j) = A.logits r (elane (A.grp r) j) := by
  have hc : ∀ k, column A.wg A.we (elane (A.grp r) j) k = A.we (ix2 k ⟨8 * (A.grp r).val + j.val, by omega⟩) := fun k => by
    unfold column elane
    rw [dif_neg (by dsimp only; omega), dif_pos (by dsimp only; omega)]
    exact congrArg (fun q => A.we (ix2 k q)) (Fin.ext (by dsimp only; omega))
  have hb : bias A.bg A.be (elane (A.grp r) j) = A.be (ix1 ⟨8 * (A.grp r).val + j.val, by omega⟩) := by
    unfold bias elane
    rw [dif_neg (by dsimp only; omega), dif_pos (by dsimp only; omega)]
    exact congrArg (fun q => A.be (ix1 q)) (Fin.ext (by dsimp only; omega))
  unfold Inputs.logits E
  rw [experts_at (H A) A.we A.be (top (G A)) r (A.grp r) (top_G A r) j, hb, show column A.wg A.we (elane (A.grp r) j) = _ from funext hc,
    show (fun k => H A (ix2 r k)) = A.row r from funext (H_at A r)]

theorem numbers_E (r : Fin 8192) (k : Fin 2) :
    numbers (top (G A)) (E A) (ix2 r k) = BitVec.ofNat 32 (8 * (A.grp r).val + (A.pick r ⟨k.val, by omega⟩).val) := by
  rw [numbers_at _ _ r (A.grp r) (top_G A r)]
  simp only [E_at]
  rfl

theorem V2_at (r : Fin 8192) (k : Fin 2) : V2 A (ix2 r k) = A.logits r (elane (A.grp r) (A.pick r ⟨k.val, by omega⟩)) := by
  unfold V2
  rw [topK_value (n := 2) (by omega), E_at]
  simp only [E_at]
  rfl

variable {A}

theorem chance_G (h : A.Real) (r : Fin 8192) : chance (G A) (ix2 r 0) = weight (A.logits r) (A.grp r) := by
  rw [chance_at _ r fun q => by rw [G_at]; exact h.logits r _]
  simp only [G_at]
  rfl

theorem shares_V2 (h : A.Real) (r : Fin 8192) :
    shares (V2 A) (ix2 r 0) = Ideal.div 1 (1 + ratio (A.logits r) (A.grp r) (A.pick r 0) (A.pick r 1))
      ∧ shares (V2 A) (ix2 r 1) = Ideal.div (ratio (A.logits r) (A.grp r) (A.pick r 0) (A.pick r 1))
          (1 + ratio (A.logits r) (A.grp r) (A.pick r 0) (A.pick r 1)) := by
  have e0 : V2 A (ix2 r 0) = A.logits r (elane (A.grp r) (A.pick r 0)) := V2_at A r 0
  have e1 : V2 A (ix2 r 1) = A.logits r (elane (A.grp r) (A.pick r 1)) := V2_at A r 1
  have s := shares_at (V2 A) r (by rw [e0]; exact h.logits r _) (by rw [e0, e1]; exact (h.picks r).one.le _ trivial)
  rw [e0, e1] at s
  exact s

/-! ## The results -/

variable (A)

theorem ref_norm : truncf (F := Ideal) .bf16 (H A) bitsLt_bf16_f32 = A.norm := by
  funext i
  idx_vars i
  unfold Inputs.norm
  pointwise []
  exact H_at A i0 i1

theorem ref_eids : pad S8192x128 ![0, 0] ![0, 126] ![0, 0] (numbers (top (G A)) (E A)) (constantI S_ 32 0#32)
    pads_S8192x2_S8192x128_000_01260 h_S_ = A.eids := by
  have hN := numbers_E A
  generalize numbers (top (G A)) (E A) = N at hN ⊢
  funext i
  idx_vars i
  show _ = if i1.val = 0 then BitVec.ofNat 32 (8 * (A.grp i0).val + (A.pick i0 0).val)
    else if i1.val = 1 then BitVec.ofNat 32 (8 * (A.grp i0).val + (A.pick i0 1).val) else 0#32
  by_cases h : i1.val < 2
  · pointwise []
    rw [dif_pos h, hN]
    by_cases h0 : i1.val = 0
    · rw [if_pos h0]
      exact congrArg (fun k => BitVec.ofNat 32 (8 * (A.grp i0).val + (A.pick i0 k).val)) (Fin.ext h0)
    · rw [if_neg h0, if_pos (by omega)]
      exact congrArg (fun k => BitVec.ofNat 32 (8 * (A.grp i0).val + (A.pick i0 k).val)) (Fin.ext (show i1.val = 1 by omega))
  · pointwise []
    rw [dif_neg h, if_neg (by omega), if_neg (by omega)]

theorem zero_int : (((0#32 : BitVec 32).toInt : ℝ) : EReal) = 0 := by simp

theorem ref_gates (h : A.Real) :
    pad S8192x128 ![0, 0] ![0, 126] ![0, 0]
      (mulf (broadcastInDim S8192x2 ![0, 1] bcast_S8192x1_S8192x2_0_1 (chance (G A))) (shares (V2 A)))
      (sitofp .f32 (constantI S_ 32 0#32)) pads_S8192x2_S8192x128_000_01260 h_S_ = A.gates := by
  have hC := chance_G h
  have hS := shares_V2 h
  generalize chance (G A) = C at hC ⊢
  generalize shares (V2 A) = S at hS ⊢
  funext i
  idx_vars i
  show _ = gate (A.logits i0) (A.grp i0) (A.pick i0 0) (A.pick i0 1) i1.val
  unfold gate
  by_cases h : i1.val < 2
  · pointwise []
    rw [dif_pos h, hC]
    by_cases h0 : i1.val = 0
    · rw [if_pos h0, ← (hS i0).1]
      exact congrArg (fun k => _ * S (ix2 i0 k)) (Fin.ext h0)
    · rw [if_neg h0, if_pos (by omega), ← (hS i0).2]
      exact congrArg (fun k => _ * S (ix2 i0 k)) (Fin.ext (show i1.val = 1 by omega))
  · pointwise []
    rw [dif_neg h, if_neg (by omega), if_neg (by omega)]
    exact zero_int

theorem ref_counts :
    pad S1x128 ![0, 0] ![0, 64] ![0, 0] (broadcastInDim S1x64 ![1] bcast_S64_S1x64_1 (tally (numbers (top (G A)) (E A))))
      (sitofp .f32 (constantI S_ 32 0#32)) pads_S1x64_S1x128_000_0640 h_S_ = A.counts := by
  have hT := fun q => tally_at (numbers (top (G A)) (E A)) q _ (fun r k => by omega) (numbers_E A)
  generalize tally (numbers (top (G A)) (E A)) = T at hT ⊢
  funext i
  idx_vars i
  show _ = ∑ r, A.given i1.val r
  by_cases h : i1.val < 64
  · pointwise []
    rw [dif_pos h]
    exact hT ⟨i1.val, h⟩
  · pointwise []
    rw [dif_neg h]
    refine Eq.trans zero_int (Finset.sum_eq_zero fun r _ => ?_).symm
    unfold Inputs.given
    rw [if_neg (by omega), if_neg (by omega), add_zero]

variable (m : (ℓ : Loc nD τ sig) → Buf (Elt Ideal) ℓ)

/-- The arguments. -/
abbrev args (c : Dev nD) : Inputs := ⟨m ((c.tc : Thread nD τ).loc main_arg0), m ((c.tc : Thread nD τ).loc main_arg1),
  m ((c.tc : Thread nD τ).loc main_arg2), m ((c.tc : Thread nD τ).loc main_arg3), m ((c.tc : Thread nD τ).loc main_arg4),
  m ((c.tc : Thread nD τ).loc main_arg5), m ((c.tc : Thread nD τ).loc main_arg6), m ((c.tc : Thread nD τ).loc main_arg7)⟩

theorem out1 (c : Dev nD) : Cert.RefRouterIdeal.Value.res_out1 (F := Ideal) m c = (args m c).eids := by
  rw [← ref_eids]
  unfold Cert.RefRouterIdeal.Value.res_out1 Cert.RefRouterIdeal.Value.res_main_v71
  rfl

theorem out2 (c : Dev nD) (h : (args m c).Real) : Cert.RefRouterIdeal.Value.res_out2 (F := Ideal) m c = (args m c).gates := by
  rw [← ref_gates _ h]
  unfold Cert.RefRouterIdeal.Value.res_out2 Cert.RefRouterIdeal.Value.res_main_v72
  rfl

theorem out3 (c : Dev nD) : Cert.RefRouterIdeal.Value.res_out3 (F := Ideal) m c = (args m c).counts := by
  rw [← ref_counts]
  unfold Cert.RefRouterIdeal.Value.res_out3 Cert.RefRouterIdeal.Value.res_main_v74
  rfl

/-- The reference's results after its run. -/
theorem run (g : Dev nD → PrngReg) (h : ∀ c, (args m c).Real) :
    θ_run defs (onTc (τ := τ) (main (F := Ideal))) ⟨m, fun _ => 0, g⟩ fun r => ∀ c : Dev nD,
      r.2.mem ((c.tc : Thread nD τ).loc main_v70) = (args m c).norm
      ∧ r.2.mem ((c.tc : Thread nD τ).loc main_v71) = (args m c).eids
      ∧ r.2.mem ((c.tc : Thread nD τ).loc main_v72) = (args m c).gates
      ∧ r.2.mem ((c.tc : Thread nD τ).loc main_v74) = (args m c).counts :=
  (θ_run defs _ _).mono
    (fun _ e c => ⟨(e c).1.trans (ref_norm (args m c)), (e c).2.1.trans (out1 m c), (e c).2.2.1.trans (out2 m c (h c)),
      (e c).2.2.2.1.trans (out3 m c)⟩)
    (Cert.RefRouterIdeal.Value.run (F := Ideal) m g)

end Cert.RouterRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Step
public import proofs.«01_k».proof.Proof.RefRun
public import proofs.«01_k».proof.Proof.RefVal
public import proofs.«01_k».proof.Proof.KerArr
public import proofs.«01_k».proof.Proof.OutEvenVal
public import proofs.«01_k».proof.Proof.OutOddVal
public import proofs.«01_k».proof.Proof.InOddVal
public import proofs.«01_k».proof.Proof.InEvenVal
public import proofs.«01_k».proof.Proof.ModulationVal
public import proofs.«01_k».proof.Proof.CompressRef
public import proofs.«01_k».proof.Proof.RouterFin
public import proofs.«01_k».proof.Proof.RouterOut
public import proofs.«01_k».proof.Proof.RouterRefVal
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.RefOutEvenIdeal
public import proofs.«01_k».proof.Proof.Gen.RefOutEvenIdeal.Run
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.RefOutOddIdeal
public import proofs.«01_k».proof.Proof.Gen.RefOutOddIdeal.Run
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.RefInOddIdeal
public import proofs.«01_k».proof.Proof.Gen.RefInOddIdeal.Run
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.RefInEvenIdeal
public import proofs.«01_k».proof.Proof.Gen.RefInEvenIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.RefModulationIdeal
public import proofs.«01_k».proof.Proof.Gen.RefModulationIdeal.Run
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.RefCompressIdeal
public import proofs.«01_k».proof.Proof.Gen.RefCompressIdeal.Run
public import proofs.«01_k».proof.Proof.Gen.Router
public import proofs.«01_k».proof.Proof.Gen.RouterIdeal
public import proofs.«01_k».proof.Proof.Gen.Router.Skeleton
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.Router.Frame
public import proofs.«01_k».proof.Proof.Gen.RouterIdeal.Value
public import proofs.«01_k».proof.Proof.Gen.RefRouterIdeal
public import proofs.«01_k».proof.Proof.Gen.RefRouterIdeal.Run
public import Idealize.ShloMosaic.Lib.Claim
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The two printed kernels have the same bodies, -/
theorem bodies_eq : Cert.Kernel.defs₀ (F := Bits) = Cert.KernelIdeal.defs₀ (F := Bits) := by
  funext p l a
  match p, l, a with
  | .tc, 0, (t, s) => rfl
  | .scScalar _, _, _ => rfl
  | .scVector _ _, _, _ => rfl

/-- and the same table of calls. -/
theorem defs_eq : Cert.Kernel.defs (F := Bits) = Cert.KernelIdeal.defs (F := Bits) :=
  congrArg (Pipeline.defs Cert.KernelIdeal.pcfgs) bodies_eq

theorem frame_kernel : Cert.quiescent_Kernel := fun m ρ _ => by
  rw [defs_eq]
  exact Cert.KernelIdeal.Hand.frame_any (F := Bits) m ρ

theorem frame_ideal : Cert.quiescent_KernelIdeal := fun m ρ _ => Cert.KernelIdeal.Hand.frame_any (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The states of the reference's scan. -/
def states (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.Trips.initState m c
  | n + 1 => Cert.ReferenceIdeal.Step.step n (states m c n)

theorem algebraic : Cert.algebraic_KernelIdeal_ReferenceIdeal := by
  pair_intro
  · run_from Cert.KernelIdeal.Hand.run_main m g
  · run_from Cert.ReferenceIdeal.Trips.run_iter m' g' (states m') (fun _ => rfl) (fun _ _ => rfl)
    obtain ⟨h0, h1, h2, h3, h4, h5, h6, h7⟩ := hagree c
    refine Eq.trans ?_ (Cert.KerArr.final m c).symm
    rw [← h0]
    refine (Cert.RefVal.result_eq _ _ _ _ _ _ _ _ (states m' c) rfl (fun _ => rfl)).trans ?_
    rw [h0, h1, h2, h3, h4, h5, h6, h7]

theorem frame_RefOutEven : Cert.quiescent_RefOutEvenIdeal := fun m ρ _ =>
  (θ_run Cert.RefOutEvenIdeal.defs _ _).mono
    (fun r h => ⟨fun c => (h c).2, Idealize.ShloMosaic.sem_eq_zero_of_no_sems (by decide) r.2⟩) (Cert.RefOutEvenIdeal.Value.run (F := Ideal) m ρ)

theorem algebraic_OutEven : Cert.algebraic_OutEvenIdeal_RefOutEvenIdeal := by
  pair_intro
  · run_from Cert.OutEvenIdeal.Gen.run_main m g
  · run_from Cert.RefOutEvenIdeal.Value.run m' g'
    exact (Cert.OutEvenVal.ref_eq _ _ _ _ _).trans (Cert.OutEvenVal.final m c).symm

theorem frame_RefOutOdd : Cert.quiescent_RefOutOddIdeal := fun m ρ _ =>
  (θ_run Cert.RefOutOddIdeal.defs _ _).mono
    (fun r h => ⟨fun c => (h c).2, Idealize.ShloMosaic.sem_eq_zero_of_no_sems (by decide) r.2⟩) (Cert.RefOutOddIdeal.Value.run (F := Ideal) m ρ)

theorem algebraic_OutOdd : Cert.algebraic_OutOddIdeal_RefOutOddIdeal := by
  pair_intro
  · run_from Cert.OutOddIdeal.Gen.run_main m g
  · run_from Cert.RefOutOddIdeal.Value.run m' g'
    exact (Cert.OutOddVal.ref_eq _ _ _ _).trans (Cert.OutOddVal.final m c).symm

theorem frame_RefInOdd : Cert.quiescent_RefInOddIdeal := fun m ρ _ =>
  (θ_run Cert.RefInOddIdeal.defs _ _).mono
    (fun r h => ⟨fun c => (h c).2, Idealize.ShloMosaic.sem_eq_zero_of_no_sems (by decide) r.2⟩) (Cert.RefInOddIdeal.Value.run (F := Ideal) m ρ)

theorem algebraic_InOdd : Cert.algebraic_InOddIdeal_RefInOddIdeal := by
  pair_intro
  · run_from Cert.InOddIdeal.Gen.run_main m g
  · run_from Cert.RefInOddIdeal.Value.run m' g'
    exact (Cert.InOddVal.ref_eq _ _ _ _ _).trans (Cert.InOddVal.final m c).symm

/-- The two printed programs have the same bodies, -/
theorem bodies_eq_InEven : Cert.InEven.defs₀ (F := Bits) = Cert.InEvenIdeal.defs₀ (F := Bits) := by
  funext p l a
  match p, l, a with
  | .tc, 0, (t, s) => rfl
  | .scScalar _, _, _ => rfl
  | .scVector _ _, _, _ => rfl

/-- and the same table of calls. -/
theorem defs_eq_InEven : Cert.InEven.defs (F := Bits) = Cert.InEvenIdeal.defs (F := Bits) :=
  congrArg (Pipeline.defs Cert.InEvenIdeal.pcfgs) bodies_eq_InEven

theorem frame_InEven : Cert.quiescent_InEven := fun m ρ _ => by
  rw [defs_eq_InEven]
  exact Cert.InEvenIdeal.Hand.frame_any (F := Bits) m ρ

theorem frame_InEvenIdeal : Cert.quiescent_InEvenIdeal := fun m ρ _ => Cert.InEvenIdeal.Hand.frame_any (F := Ideal) m ρ

theorem frame_RefInEven : Cert.quiescent_RefInEvenIdeal := fun m ρ _ =>
  (θ_run Cert.RefInEvenIdeal.defs _ _).mono
    (fun r h => ⟨fun c => (h c).2.2.2, Idealize.ShloMosaic.sem_eq_zero_of_no_sems (by decide) r.2⟩) (Cert.RefInEvenIdeal.Value.run (F := Ideal) m ρ)

theorem algebraic_InEven : Cert.algebraic_InEvenIdeal_RefInEvenIdeal := by
  pair_intro
  · run_from Cert.InEvenIdeal.Hand.run_main m g
  · run_from Cert.RefInEvenIdeal.Value.run m' g'
    · refine (Cert.InEvenVal.ref_eq _ _ _ _ _).trans (Eq.trans ?_ (Cert.InEvenVal.final m c).symm)
      obtain ⟨h0, h1, h2, h3, h4⟩ := hagree c
      rw [h4]
    · exact (Cert.InEvenVal.ref_eq_gates _ _ _ _ _).trans (Cert.InEvenVal.final_gates m c).symm
    · exact (Cert.InEvenVal.ref_eq_keys _ _ _ _ _).trans (Cert.InEvenVal.final_keys m c).symm

theorem frame_RefModulation : Cert.quiescent_RefModulationIdeal := fun m ρ _ =>
  (θ_run Cert.RefModulationIdeal.defs _ _).mono
    (fun r h => ⟨fun c => (h c).2, Idealize.ShloMosaic.sem_eq_zero_of_no_sems (by decide) r.2⟩) (Cert.RefModulationIdeal.Value.run (F := Ideal) m ρ)

theorem algebraic_Modulation : Cert.algebraic_ModulationIdeal_RefModulationIdeal := by
  pair_intro
  · run_from Cert.ModulationIdeal.Gen.run_main m g
  · run_from Cert.RefModulationIdeal.Value.run m' g'
    obtain ⟨h0, h1, h2⟩ := hagree c
    rw [h2]
    exact (Cert.ModulationVal.ref_eq _ _ _).trans (Cert.ModulationVal.final m c).symm

theorem frame_RefCompress : Cert.quiescent_RefCompressIdeal := fun m ρ _ =>
  (θ_run Cert.RefCompressIdeal.defs _ _).mono
    (fun r h => ⟨fun c => (h c).2, Idealize.ShloMosaic.sem_eq_zero_of_no_sems (by decide) r.2⟩) (Cert.RefCompressIdeal.Value.run (F := Ideal) m ρ)

/-- The compression's result after its run. -/
theorem run_Compress (m : (ℓ : Loc Cert.CompressIdeal.nD Cert.CompressIdeal.τ Cert.CompressIdeal.sig) → Buf (Elt Ideal) ℓ)
    (g : Dev Cert.CompressIdeal.nD → PrngReg) :
    θ_run Cert.CompressIdeal.defs (onTc (τ := Cert.CompressIdeal.τ) (Cert.CompressIdeal.main (F := Ideal))) ⟨m, fun _ => 0, g⟩ fun r =>
      ∀ c : Dev Cert.CompressIdeal.nD, r.2.mem ((c.tc : Thread Cert.CompressIdeal.nD Cert.CompressIdeal.τ).loc Cert.CompressIdeal.main_v18)
        = Cert.CompressVal.result (m ((c.tc : Thread Cert.CompressIdeal.nD Cert.CompressIdeal.τ).loc Cert.CompressIdeal.main_arg0))
          (m ((c.tc : Thread Cert.CompressIdeal.nD Cert.CompressIdeal.τ).loc Cert.CompressIdeal.main_arg1))
          (m ((c.tc : Thread Cert.CompressIdeal.nD Cert.CompressIdeal.τ).loc Cert.CompressIdeal.main_arg2))
          (m ((c.tc : Thread Cert.CompressIdeal.nD Cert.CompressIdeal.τ).loc Cert.CompressIdeal.main_arg3))
          (m ((c.tc : Thread Cert.CompressIdeal.nD Cert.CompressIdeal.τ).loc Cert.CompressIdeal.main_arg4))
          (m ((c.tc : Thread Cert.CompressIdeal.nD Cert.CompressIdeal.τ).loc Cert.CompressIdeal.main_arg5)) :=
  (θ_run Cert.CompressIdeal.defs _ _).mono
    (fun r h c => ((h c).2 Cert.CompressIdeal.main_v18 (by decide)).trans (Cert.CompressVal.tail m c)) (Cert.CompressIdeal.Gen.run_main m g)

theorem algebraic_Compress : Cert.algebraic_CompressIdeal_RefCompressIdeal := by
  pair_intro
  · run_from run_Compress m g & Cert.CompressIdeal.Gen.frame m g
  · run_from Cert.RefCompressIdeal.Value.run m' g'
    obtain ⟨h0, h1, h2, h3, h4, h5⟩ := hagree c
    rw [← h0, ← h1, ← h2, ← h3, ← h4, ← h5]
    exact Cert.CompressVal.ref_out m' c

theorem frame_RefRouter : Cert.quiescent_RefRouterIdeal := fun m ρ _ =>
  (θ_run Cert.RefRouterIdeal.defs _ _).mono
    (fun r h => ⟨fun c => (h c).2.2.2.2, Idealize.ShloMosaic.sem_eq_zero_of_no_sems (by decide) r.2⟩) (Cert.RefRouterIdeal.Value.run (F := Ideal) m ρ)

set_option maxHeartbeats 2000000 in
theorem algebraic_Router : Cert.algebraic_RouterIdeal_RefRouterIdeal_pre_finite (hPre_finite := Cert.RouterFin.facts) := by
  pair_intro
  · run_from Cert.RouterIdeal.Gen.run_main m g
  · have hA := Cert.RouterFin.real m hpre
    have same : ∀ c, Cert.RouterRef.args m' c = Cert.RouterVal.args m c := fun c => by
      obtain ⟨h0, h1, h2, h3, h4, h5, h6, h7⟩ := hagree c
      unfold Cert.RouterRef.args
      rw [h0, h1, h2, h3, h4, h5, h6, h7]
    refine Idealize.ShloMosaic.θ_run_mono
      (Idealize.ShloMosaic.θ_run_and (Cert.RouterRef.run m' g' (fun c => same c ▸ hA c)) (frame_RefRouter m' g' trivial)) ?_
    intro r h c
    obtain ⟨e0, e1, e2, e3⟩ := h.1 c
    rw [same c] at e0 e1 e2 e3
    exact ⟨e0.trans (Cert.RouterVal.final_norm m c).symm, e1.trans (Cert.RouterVal.final_eids m c (hA c)).symm,
      e2.trans (Cert.RouterVal.final_gates m c (hA c)).symm, e3.trans (Cert.RouterVal.final_counts m c (hA c)).symm, h.2.1 c⟩

theorem claim : Cert.Claim := ⟨Cert.Kernel.Gen.facts, Cert.KernelIdeal.Gen.facts, Cert.ReferenceIdeal.Gen.facts,
  Cert.OutEven.Gen.facts, Cert.OutEvenIdeal.Gen.facts, Cert.RefOutEvenIdeal.Gen.facts,
  Cert.OutOdd.Gen.facts, Cert.OutOddIdeal.Gen.facts, Cert.RefOutOddIdeal.Gen.facts,
  Cert.InOdd.Gen.facts, Cert.InOddIdeal.Gen.facts, Cert.RefInOddIdeal.Gen.facts,
  Cert.InEven.Gen.facts, Cert.InEvenIdeal.Gen.facts, Cert.RefInEvenIdeal.Gen.facts,
  Cert.Modulation.Gen.facts, Cert.ModulationIdeal.Gen.facts, Cert.RefModulationIdeal.Gen.facts,
  Cert.Compress.Gen.facts, Cert.CompressIdeal.Gen.facts, Cert.RefCompressIdeal.Gen.facts,
  Cert.Router.Gen.facts, Cert.RouterIdeal.Gen.facts, Cert.RefRouterIdeal.Gen.facts, Cert.RouterFin.facts,
  frame_kernel, frame_ideal, frame_reference,
  fun m ρ _ => Cert.OutEven.Gen.frame m ρ, fun m ρ _ => Cert.OutEvenIdeal.Gen.frame m ρ, frame_RefOutEven,
  fun m ρ _ => Cert.OutOdd.Gen.frame m ρ, fun m ρ _ => Cert.OutOddIdeal.Gen.frame m ρ, frame_RefOutOdd,
  fun m ρ _ => Cert.InOdd.Gen.frame m ρ, fun m ρ _ => Cert.InOddIdeal.Gen.frame m ρ, frame_RefInOdd,
  frame_InEven, frame_InEvenIdeal, frame_RefInEven,
  fun m ρ _ => Cert.Modulation.Gen.frame m ρ, fun m ρ _ => Cert.ModulationIdeal.Gen.frame m ρ, frame_RefModulation,
  fun m ρ _ => Cert.Compress.Gen.frame m ρ, fun m ρ _ => Cert.CompressIdeal.Gen.frame m ρ, frame_RefCompress,
  fun m ρ _ => Cert.Router.Gen.frame m ρ, fun m ρ _ => Cert.RouterIdeal.Gen.frame m ρ,
  fun m ρ _ => Cert.RouterIdeal.Gen.frame m ρ, frame_RefRouter, fun m ρ _ => frame_RefRouter m ρ trivial,
  trivial, algebraic, trivial, algebraic_OutEven, trivial, algebraic_OutOdd, trivial, algebraic_InOdd,
  trivial, algebraic_InEven, trivial, algebraic_Modulation, trivial, algebraic_Compress,
  trivial, algebraic_Router⟩

end Cert.Proof

end
